-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v8_0)) (v4 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v8_0) = v3 c
          ∧ r.2.mem ((c.tc : Thread Cert.KernelIdeal.nD Cert.KernelIdeal.τ).loc Cert.KernelIdeal.main_v16) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v170) = v1 c
          ∧ r.2.mem ((c.tc : Thread Cert.ReferenceIdeal.nD Cert.ReferenceIdeal.τ).loc Cert.ReferenceIdeal.main_v172) = v2 c
          ∧ r.2.mem ((c.tc : Thread Cert.ReferenceIdeal.nD Cert.ReferenceIdeal.τ).loc Cert.ReferenceIdeal.main_v155) = v3 c
          ∧ r.2.mem ((c.tc : Thread Cert.ReferenceIdeal.nD Cert.ReferenceIdeal.τ).loc Cert.ReferenceIdeal.main_v168) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S4096x768 : Shape := ⟨2, ![4096, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256x512 : Shape := ⟨2, ![256, 512]⟩
abbrev S512x768 : Shape := ⟨2, ![512, 768]⟩
abbrev S768 : Shape := ⟨1, ![768]⟩
abbrev S1024x64 : Shape := ⟨2, ![1024, 64]⟩
abbrev S_ : Shape := ⟨0, ![]⟩
abbrev S4096x512 : Shape := ⟨2, ![4096, 512]⟩
abbrev S1x512 : Shape := ⟨2, ![1, 512]⟩
abbrev S4096x256 : Shape := ⟨2, ![4096, 256]⟩
abbrev S1x256 : Shape := ⟨2, ![1, 256]⟩
abbrev S4096x128 : Shape := ⟨2, ![4096, 128]⟩
abbrev S1x128 : Shape := ⟨2, ![1, 128]⟩
abbrev S4096x64 : Shape := ⟨2, ![4096, 64]⟩
abbrev S1x64 : Shape := ⟨2, ![1, 64]⟩
abbrev S4096 : Shape := ⟨1, ![4096]⟩
abbrev S4096x1 : Shape := ⟨2, ![4096, 1]⟩
abbrev S64x1024 : Shape := ⟨2, ![64, 1024]⟩
abbrev S4096x1024 : Shape := ⟨2, ![4096, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S768x512 : S_.BroadcastsInDim S768x512 (![] : Fin 0 → Fin S768x512.rank)
  reducesTo_S768x512_S_d0_1 : S768x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1024x64 : S_.BroadcastsInDim S1024x64 (![] : Fin 0 → Fin S1024x64.rank)
  reducesTo_S1024x64_S_d0_1 : S1024x64.ReducesTo [0, 1] S_
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  reducesTo_S4096x64_S4096_d1 : S4096x64.ReducesTo [1] S4096
  bcast_S4096_S4096x1_0 : S4096.BroadcastsInDim S4096x1 (![0] : Fin 1 → Fin S4096x1.rank)
  transposes_S1024x64_S64x1024_1_0 : S1024x64.Transposes [1, 0] S64x1024
  bcast_S_S4096x1024 : S_.BroadcastsInDim S4096x1024 (![] : Fin 0 → Fin S4096x1024.rank)
  bcast_S4096x1_S4096x1024_0_1 : S4096x1.BroadcastsInDim S4096x1024 (![0, 1] : Fin 2 → Fin S4096x1024.rank)
  reducesTo_S1024x64_S1024_d1 : S1024x64.ReducesTo [1] S1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  reducesTo_S4096x1024_S4096_d1 : S4096x1024.ReducesTo [1] S4096
  natLt_1_32 : 1 < 32
  bcast_S_S4096 : S_.BroadcastsInDim S4096 (![] : Fin 0 → Fin S4096.rank)
  reducesTo_S4096_S_d0 : S4096.ReducesTo [0] S_
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  bcast_S4096_S4096x64_0 : S4096.BroadcastsInDim S4096x64 (![0] : Fin 1 → Fin S4096x64.rank)
  bcast_S_S4096x64 : S_.BroadcastsInDim S4096x64 (![] : Fin 0 → Fin S4096x64.rank)
  dot_S4096x768_S768x512_S4096x512_1_0_0_1_n_n_wf : DotDims.WF S4096x768 S768x512 S4096x512 [1] [0] [0] [1] [] []
  dot_S4096x512_S512x256_S4096x256_1_0_0_1_n_n_wf : DotDims.WF S4096x512 S512x256 S4096x256 [1] [0] [0] [1] [] []
  dot_S4096x256_S256x128_S4096x128_1_0_0_1_n_n_wf : DotDims.WF S4096x256 S256x128 S4096x128 [1] [0] [0] [1] [] []
  dot_S4096x128_S128x64_S4096x64_1_0_0_1_n_n_wf : DotDims.WF S4096x128 S128x64 S4096x64 [1] [0] [0] [1] [] []
  dot_S4096x64_S64x1024_S4096x1024_1_0_0_1_n_n_wf : DotDims.WF S4096x64 S64x1024 S4096x1024 [1] [0] [0] [1] [] []
  gather_S1024x64_S4096x1_S4096x64_1_0_n_n_0_1_164_wf : GatherDims.WF S1024x64 S4096x1 S4096x64 [1] [0] [] [0] [] 1 ![1, 64]

variable [Facts]

variable {F : FTy → Type} [FloatOps F]
def dot_S4096x768_S768x512_S4096x512_1_0_0_1_n_n : DotDims S4096x768 S768x512 S4096x512 where
  lhsContracting := [1]
  rhsContracting := [0]
  lhsNonContracting := [0]
  rhsNonContracting := [1]
  lhsBatch := []
  rhsBatch := []
  wf := dot_S4096x768_S768x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x1024_S4096x1024_1_0_0_1_n_n : DotDims S4096x64 S64x1024 S4096x1024 where
  lhsContracting := [1]
  rhsContracting := [0]
  lhsNonContracting := [0]
  rhsNonContracting := [1]
  lhsBatch := []
  rhsBatch := []
  wf := dot_S4096x64_S64x1024_S4096x1024_1_0_0_1_n_n_wf
def reducer_argmin_f32_i32 : F .f32 × BitVec 32 → F .f32 × BitVec 32 → F .f32 × BitVec 32 :=
  fun a b =>
    let v2 := FloatOps.cmpf .olt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S1024x64_S4096x1_S4096x64_1_0_n_n_0_1_164 : GatherDims S1024x64 S4096x1 S4096x64 where
  offsetDims := [1]
  collapsedSliceDims := [0]
  operandBatchingDims := []
  startIndicesBatchingDims := []
  startIndexMap := [0]
  indexVectorDim := 1
  sliceSizes := ![1, 64]
  wf := gather_S1024x64_S4096x1_S4096x64_1_0_n_n_0_1_164_wf

def fn_relu {F : FTy → Type} [FloatOps F] (arg0 : FVec F S4096x512 .f32) : FVec F S4096x512 .f32 :=
  let cst : FVec F S_ .f32 := constant S_ .f32 0x00000000#32
  let v0 : FVec F S4096x512 .f32 := broadcastInDim S4096x512 ![] bcast_S_S4096x512 cst
  let v1 : FVec F S4096x512 .f32 := maximumf arg0 v0
  v1

def fn_relu_0 {F : FTy → Type} [FloatOps F] (arg0 : FVec F S4096x256 .f32) : FVec F S4096x256 .f32 :=
  let cst : FVec F S_ .f32 := constant S_ .f32 0x00000000#32
  let v0 : FVec F S4096x256 .f32 := broadcastInDim S4096x256 ![] bcast_S_S4096x256 cst
  let v1 : FVec F S4096x256 .f32 := maximumf arg0 v0
  v1

def fn_relu_1 {F : FTy → Type} [FloatOps F] (arg0 : FVec F S4096x128 .f32) : FVec F S4096x128 .f32 :=
  let cst : FVec F S_ .f32 := constant S_ .f32 0x00000000#32
  let v0 : FVec F S4096x128 .f32 := broadcastInDim S4096x128 ![] bcast_S_S4096x128 cst
  let v1 : FVec F S4096x128 .f32 := maximumf arg0 v0
  v1

def fn_argmin {F : FTy → Type} [FloatOps F] (arg0 : FVec F S4096x1024 .f32) : IVec S4096 32 :=
  let v0 : IVec S4096x1024 32 := iotaInDim S4096x1024 32 1
  let cst : FVec F S_ .f32 := constant S_ .f32 0x7F800000#32
  let c : IVec S_ 32 := constantI S_ 32 0#32
  let v1_0 : FVec F S4096 .f32 := (fun x y u v j => (Host.argReduce reducer_argmin_f32_i32 x y u v reducesTo_S4096x1024_S4096_d1 h_S_ j).1) arg0 v0 cst c
  let v1_1 : IVec S4096 32 := (fun x y u v j => (Host.argReduce reducer_argmin_f32_i32 x y u v reducesTo_S4096x1024_S4096_d1 h_S_ j).2) arg0 v0 cst c
  v1_1

def fn_where {F : FTy → Type} [FloatOps F] (arg0 : IVec S4096 1) (arg1 : IVec S4096 32) (arg2 : IVec S4096 32) : IVec S4096 32 :=
  let v0 : IVec S4096 32 := select arg0 arg1 arg2
  v0

def fn_take {F : FTy → Type} [FloatOps F] (arg0 : FVec F S1024x64 .f32) (arg1 : IVec S4096 32) : FVec F S4096x64 .f32 :=
  let c : IVec S_ 32 := constantI S_ 32 0#32
  let v0 : IVec S4096 32 := broadcastInDim S4096 ![] bcast_S_S4096 c
  let v1 : IVec S4096 1 := cmpi .slt arg1 v0
  let c_0 : IVec S_ 32 := constantI S_ 32 1024#32
  let v2 : IVec S4096 32 := broadcastInDim S4096 ![] bcast_S_S4096 c_0
  let v3 : IVec S4096 32 := addi arg1 v2
  let v4 : IVec S4096 32 := fn_where (F := F) v1 v3 arg1
  let v5 : IVec S4096x1 32 := broadcastInDim S4096x1 ![0] bcast_S4096_S4096x1_0 v4
  let c_1 : IVec S1 32 := constantI S1 32 1023#32
  let c_2 : IVec S_ 32 := constantI S_ 32 0#32
  let v6 : IVec S4096x1 32 := broadcastInDim S4096x1 ![] bcast_S_S4096x1 c_2
  let v7 : IVec S4096x1 1 := cmpi .sge v5 v6
  let v8 : IVec S1x1 32 := broadcastInDim S1x1 ![1] bcast_S1_S1x1_1 c_1
  let v9 : IVec S4096x1 32 := broadcastInDim S4096x1 ![0, 1] bcast_S1x1_S4096x1_0_1 v8
  let v10 : IVec S4096x1 1 := cmpi .sle v5 v9
  let v11 : IVec S4096x1 1 := andi v7 v10
  let c_3 : IVec S_ 1 := constantI S_ 1 1#1
  let v12 : IVec S4096 1 := (fun x v => Host.reduce IntOp.andi x v reducesTo_S4096x1_S4096_d1 h_S_) v11 c_3
  let v13 : FVec F S4096x64 .f32 := (fun x i => Host.gather gather_S1024x64_S4096x1_S4096x64_1_0_n_n_0_1_164 x i) arg0 v5
  let v14 : IVec S4096x64 1 := broadcastInDim S4096x64 ![0] bcast_S4096_S4096x64_0 v12
  let cst : FVec F S_ .f32 := constant S_ .f32 0x7FC00000#32
  let v15 : FVec F S4096x64 .f32 := broadcastInDim S4096x64 ![] bcast_S_S4096x64 cst
  let v16 : FVec F S4096x64 .f32 := select v14 v13 v15
  v16

def fn_part8 {F : FTy → Type} [FloatOps F] (main_arg19 : FVec F S1024x64 .f32) (main_v129 : IVec S_ 1) (main_v132 : FVec F S4096x64 .f32) (main_v146 : FVec F S4096x1024 .f32) (main_v148 : FVec F S4096x1 .f32) : IVec S_ 1 :=
  let main_v149 : FVec F S4096x1024 .f32 := broadcastInDim S4096x1024 ![0, 1] bcast_S4096x1_S4096x1024_0_1 main_v148
  let main_v150 : IVec S4096x1024 1 := cmpf .oeq main_v146 main_v149
  let main_v151 : IVec S4096x1024 32 := (extui 32 · natLt_1_32) main_v150
  let main_c_41 : IVec S_ 32 := constantI S_ 32 0#32
  let main_v152 : IVec S4096 32 := (fun x v => Host.reduce IntOp.addi x v reducesTo_S4096x1024_S4096_d1 h_S_) main_v151 main_c_41
  let main_c_42 : IVec S_ 32 := constantI S_ 32 1#32
  let main_v153 : IVec S4096 32 := broadcastInDim S4096 ![] bcast_S_S4096 main_c_42
  let main_v154 : IVec S4096 1 := cmpi .eq main_v152 main_v153
  let main_c_43 : IVec S_ 1 := constantI S_ 1 1#1
  let main_v155 : IVec S_ 1 := (fun x v => Host.reduce IntOp.andi x v reducesTo_S4096_S_d0 h_S_) main_v154 main_c_43
  let main_v156 : IVec S_ 1 := andi main_v129 main_v155
  let main_v157 : IVec S4096 32 := fn_argmin (F := F) main_v146
  let main_v158 : FVec F S4096x64 .f32 := fn_take (F := F) main_arg19 main_v157
  let main_v159 : FVec F S4096x64 .f32 := subf main_v132 main_v158
  main_v156

def fn_part7 {F : FTy → Type} [FloatOps F] (main_arg18 : FVec F S1024x64 .f32) (main_arg19 : FVec F S1024x64 .f32) (main_v102 : IVec S_ 1) (main_v105 : FVec F S4096x64 .f32) (main_v119 : FVec F S4096x1024 .f32) (main_v128 : IVec S_ 1) : IVec S_ 1 :=
  let main_v129 : IVec S_ 1 := andi main_v102 main_v128
  let main_v130 : IVec S4096 32 := fn_argmin (F := F) main_v119
  let main_v131 : FVec F S4096x64 .f32 := fn_take (F := F) main_arg18 main_v130
  let main_v132 : FVec F S4096x64 .f32 := subf main_v105 main_v131
  let main_v133 : FVec F S4096x64 .f32 := mulf main_v132 main_v132
  let main_cst_37 : FVec F S_ .f32 := constant S_ .f32 0x00000000#32
  let main_v134 : FVec F S4096 .f32 := (fun x v => Host.reduceAdd x v reducesTo_S4096x64_S4096_d1 h_S_) main_v133 main_cst_37
  let main_v135 : FVec F S4096x1 .f32 := broadcastInDim S4096x1 ![0] bcast_S4096_S4096x1_0 main_v134
  let main_v136 : FVec F S64x1024 .f32 := (transpose S64x1024 [1, 0] · transposes_S1024x64_S64x1024_1_0) main_arg19
  let main_v137 : FVec F S4096x1024 .f32 := (fun l r => Host.dotGeneral dot_S4096x64_S64x1024_S4096x1024_1_0_0_1_n_n none l r) main_v132 main_v136
  let main_cst_38 : FVec F S_ .f32 := constant S_ .f32 0x40000000#32
  let main_v138 : FVec F S4096x1024 .f32 := broadcastInDim S4096x1024 ![] bcast_S_S4096x1024 main_cst_38
  let main_v139 : FVec F S4096x1024 .f32 := mulf main_v138 main_v137
  let main_v140 : FVec F S4096x1024 .f32 := broadcastInDim S4096x1024 ![0, 1] bcast_S4096x1_S4096x1024_0_1 main_v135
  let main_v141 : FVec F S4096x1024 .f32 := subf main_v140 main_v139
  let main_v142 : FVec F S1024x64 .f32 := mulf main_arg19 main_arg19
  let main_cst_39 : FVec F S_ .f32 := constant S_ .f32 0x00000000#32
  let main_v143 : FVec F S1024 .f32 := (fun x v => Host.reduceAdd x v reducesTo_S1024x64_S1024_d1 h_S_) main_v142 main_cst_39
  let main_v144 : FVec F S1x1024 .f32 := broadcastInDim S1x1024 ![1] bcast_S1024_S1x1024_1 main_v143
  let main_v145 : FVec F S4096x1024 .f32 := broadcastInDim S4096x1024 ![0, 1] bcast_S1x1024_S4096x1024_0_1 main_v144
  let main_v146 : FVec F S4096x1024 .f32 := addf main_v141 main_v145
  let main_cst_40 : FVec F S_ .f32 := constant S_ .f32 0x7F800000#32
  let main_v147 : FVec F S4096 .f32 := (fun x v => Host.reduce FloatOps.minimumf x v reducesTo_S4096x1024_S4096_d1 h_S_) main_v146 main_cst_40
  let main_v148 : FVec F S4096x1 .f32 := broadcastInDim S4096x1 ![0] bcast_S4096_S4096x1_0 main_v147
  fn_part8 (F := F) main_arg19 main_v129 main_v132 main_v146 main_v148

def fn_part6 {F : FTy → Type} [FloatOps F] (main_arg18 : FVec F S1024x64 .f32) (main_arg19 : FVec F S1024x64 .f32) (main_v102 : IVec S_ 1) (main_v105 : FVec F S4096x64 .f32) (main_v108 : FVec F S4096x1 .f32) (main_v110 : FVec F S4096x1024 .f32) : IVec S_ 1 :=
  let main_cst_31 : FVec F S_ .f32 := constant S_ .f32 0x40000000#32
  let main_v111 : FVec F S4096x1024 .f32 := broadcastInDim S4096x1024 ![] bcast_S_S4096x1024 main_cst_31
  let main_v112 : FVec F S4096x1024 .f32 := mulf main_v111 main_v110
  let main_v113 : FVec F S4096x1024 .f32 := broadcastInDim S4096x1024 ![0, 1] bcast_S4096x1_S4096x1024_0_1 main_v108
  let main_v114 : FVec F S4096x1024 .f32 := subf main_v113 main_v112
  let main_v115 : FVec F S1024x64 .f32 := mulf main_arg18 main_arg18
  let main_cst_32 : FVec F S_ .f32 := constant S_ .f32 0x00000000#32
  let main_v116 : FVec F S1024 .f32 := (fun x v => Host.reduceAdd x v reducesTo_S1024x64_S1024_d1 h_S_) main_v115 main_cst_32
  let main_v117 : FVec F S1x1024 .f32 := broadcastInDim S1x1024 ![1] bcast_S1024_S1x1024_1 main_v116
  let main_v118 : FVec F S4096x1024 .f32 := broadcastInDim S4096x1024 ![0, 1] bcast_S1x1024_S4096x1024_0_1 main_v117
  let main_v119 : FVec F S4096x1024 .f32 := addf main_v114 main_v118
  let main_cst_33 : FVec F S_ .f32 := constant S_ .f32 0x7F800000#32
  let main_v120 : FVec F S4096 .f32 := (fun x v => Host.reduce FloatOps.minimumf x v reducesTo_S4096x1024_S4096_d1 h_S_) main_v119 main_cst_33
  let main_v121 : FVec F S4096x1 .f32 := broadcastInDim S4096x1 ![0] bcast_S4096_S4096x1_0 main_v120
  let main_v122 : FVec F S4096x1024 .f32 := broadcastInDim S4096x1024 ![0, 1] bcast_S4096x1_S4096x1024_0_1 main_v121
  let main_v123 : IVec S4096x1024 1 := cmpf .oeq main_v119 main_v122
  let main_v124 : IVec S4096x1024 32 := (extui 32 · natLt_1_32) main_v123
  let main_c_34 : IVec S_ 32 := constantI S_ 32 0#32
  let main_v125 : IVec S4096 32 := (fun x v => Host.reduce IntOp.addi x v reducesTo_S4096x1024_S4096_d1 h_S_) main_v124 main_c_34
  let main_c_35 : IVec S_ 32 := constantI S_ 32 1#32
  let main_v126 : IVec S4096 32 := broadcastInDim S4096 ![] bcast_S_S4096 main_c_35
  let main_v127 : IVec S4096 1 := cmpi .eq main_v125 main_v126
  let main_c_36 : IVec S_ 1 := constantI S_ 1 1#1
  let main_v128 : IVec S_ 1 := (fun x v => Host.reduce IntOp.andi x v reducesTo_S4096_S_d0 h_S_) main_v127 main_c_36
  fn_part7 (F := F) main_arg18 main_arg19 main_v102 main_v105 main_v119 main_v128

def fn_part5 {F : FTy → Type} [FloatOps F] (main_arg17 : FVec F S1024x64 .f32) (main_arg18 : FVec F S1024x64 .f32) (main_arg19 : FVec F S1024x64 .f32) (main_v59 : IVec S_ 1) (main_v78 : FVec F S4096x64 .f32) (main_v87 : FVec F S4096x1024 .f32) (main_v91 : FVec F S4096x1024 .f32) : IVec S_ 1 :=
  let main_v92 : FVec F S4096x1024 .f32 := addf main_v87 main_v91
  let main_cst_26 : FVec F S_ .f32 := constant S_ .f32 0x7F800000#32
  let main_v93 : FVec F S4096 .f32 := (fun x v => Host.reduce FloatOps.minimumf x v reducesTo_S4096x1024_S4096_d1 h_S_) main_v92 main_cst_26
  let main_v94 : FVec F S4096x1 .f32 := broadcastInDim S4096x1 ![0] bcast_S4096_S4096x1_0 main_v93
  let main_v95 : FVec F S4096x1024 .f32 := broadcastInDim S4096x1024 ![0, 1] bcast_S4096x1_S4096x1024_0_1 main_v94
  let main_v96 : IVec S4096x1024 1 := cmpf .oeq main_v92 main_v95
  let main_v97 : IVec S4096x1024 32 := (extui 32 · natLt_1_32) main_v96
  let main_c_27 : IVec S_ 32 := constantI S_ 32 0#32
  let main_v98 : IVec S4096 32 := (fun x v => Host.reduce IntOp.addi x v reducesTo_S4096x1024_S4096_d1 h_S_) main_v97 main_c_27
  let main_c_28 : IVec S_ 32 := constantI S_ 32 1#32
  let main_v99 : IVec S4096 32 := broadcastInDim S4096 ![] bcast_S_S4096 main_c_28
  let main_v100 : IVec S4096 1 := cmpi .eq main_v98 main_v99
  let main_c_29 : IVec S_ 1 := constantI S_ 1 1#1
  let main_v101 : IVec S_ 1 := (fun x v => Host.reduce IntOp.andi x v reducesTo_S4096_S_d0 h_S_) main_v100 main_c_29
  let main_v102 : IVec S_ 1 := andi main_v59 main_v101
  let main_v103 : IVec S4096 32 := fn_argmin (F := F) main_v92
  let main_v104 : FVec F S4096x64 .f32 := fn_take (F := F) main_arg17 main_v103
  let main_v105 : FVec F S4096x64 .f32 := subf main_v78 main_v104
  let main_v106 : FVec F S4096x64 .f32 := mulf main_v105 main_v105
  let main_cst_30 : FVec F S_ .f32 := constant S_ .f32 0x00000000#32
  let main_v107 : FVec F S4096 .f32 := (fun x v => Host.reduceAdd x v reducesTo_S4096x64_S4096_d1 h_S_) main_v106 main_cst_30
  let main_v108 : FVec F S4096x1 .f32 := broadcastInDim S4096x1 ![0] bcast_S4096_S4096x1_0 main_v107
  let main_v109 : FVec F S64x1024 .f32 := (transpose S64x1024 [1, 0] · transposes_S1024x64_S64x1024_1_0) main_arg18
  let main_v110 : FVec F S4096x1024 .f32 := (fun l r => Host.dotGeneral dot_S4096x64_S64x1024_S4096x1024_1_0_0_1_n_n none l r) main_v105 main_v109
  fn_part6 (F := F) main_arg18 main_arg19 main_v102 main_v105 main_v108 main_v110

def fn_part4 {F : FTy → Type} [FloatOps F] (main_arg6 : FVec F S128 .f32) (main_arg7 : FVec F S128x64 .f32) (main_arg8 : FVec F S64 .f32) (main_arg17 : FVec F S1024x64 .f32) (main_arg18 : FVec F S1024x64 .f32) (main_arg19 : FVec F S1024x64 .f32) (main_v59 : IVec S_ 1) (main_v70 : FVec F S4096x128 .f32) : IVec S_ 1 :=
  let main_v71 : FVec F S1x128 .f32 := broadcastInDim S1x128 ![1] bcast_S128_S1x128_1 main_arg6
  let main_v72 : FVec F S4096x128 .f32 := broadcastInDim S4096x128 ![0, 1] bcast_S1x128_S4096x128_0_1 main_v71
  let main_v73 : FVec F S4096x128 .f32 := addf main_v70 main_v72
  let main_v74 : FVec F S4096x128 .f32 := fn_relu_1 (F := F) main_v73
  let main_v75 : FVec F S4096x64 .f32 := (fun l r => Host.dotGeneral dot_S4096x128_S128x64_S4096x64_1_0_0_1_n_n none l r) main_v74 main_arg7
  let main_v76 : FVec F S1x64 .f32 := broadcastInDim S1x64 ![1] bcast_S64_S1x64_1 main_arg8
  let main_v77 : FVec F S4096x64 .f32 := broadcastInDim S4096x64 ![0, 1] bcast_S1x64_S4096x64_0_1 main_v76
  let main_v78 : FVec F S4096x64 .f32 := addf main_v75 main_v77
  let main_v79 : FVec F S4096x64 .f32 := mulf main_v78 main_v78
  let main_cst_23 : FVec F S_ .f32 := constant S_ .f32 0x00000000#32
  let main_v80 : FVec F S4096 .f32 := (fun x v => Host.reduceAdd x v reducesTo_S4096x64_S4096_d1 h_S_) main_v79 main_cst_23
  let main_v81 : FVec F S4096x1 .f32 := broadcastInDim S4096x1 ![0] bcast_S4096_S4096x1_0 main_v80
  let main_v82 : FVec F S64x1024 .f32 := (transpose S64x1024 [1, 0] · transposes_S1024x64_S64x1024_1_0) main_arg17
  let main_v83 : FVec F S4096x1024 .f32 := (fun l r => Host.dotGeneral dot_S4096x64_S64x1024_S4096x1024_1_0_0_1_n_n none l r) main_v78 main_v82
  let main_cst_24 : FVec F S_ .f32 := constant S_ .f32 0x40000000#32
  let main_v84 : FVec F S4096x1024 .f32 := broadcastInDim S4096x1024 ![] bcast_S_S4096x1024 main_cst_24
  let main_v85 : FVec F S4096x1024 .f32 := mulf main_v84 main_v83
  let main_v86 : FVec F S4096x1024 .f32 := broadcastInDim S4096x1024 ![0, 1] bcast_S4096x1_S4096x1024_0_1 main_v81
  let main_v87 : FVec F S4096x1024 .f32 := subf main_v86 main_v85
  let main_v88 : FVec F S1024x64 .f32 := mulf main_arg17 main_arg17
  let main_cst_25 : FVec F S_ .f32 := constant S_ .f32 0x00000000#32
  let main_v89 : FVec F S1024 .f32 := (fun x v => Host.reduceAdd x v reducesTo_S1024x64_S1024_d1 h_S_) main_v88 main_cst_25
  let main_v90 : FVec F S1x1024 .f32 := broadcastInDim S1x1024 ![1] bcast_S1024_S1x1024_1 main_v89
  let main_v91 : FVec F S4096x1024 .f32 := broadcastInDim S4096x1024 ![0, 1] bcast_S1x1024_S4096x1024_0_1 main_v90
  fn_part5 (F := F) main_arg17 main_arg18 main_arg19 main_v59 main_v78 main_v87 main_v91

def fn_part3 {F : FTy → Type} [FloatOps F] (main_arg0 : FVec F S4096x768 .f32) (main_arg1 : FVec F S768x512 .f32) (main_arg2 : FVec F S512 .f32) (main_arg3 : FVec F S512x256 .f32) (main_arg4 : FVec F S256 .f32) (main_arg5 : FVec F S256x128 .f32) (main_arg6 : FVec F S128 .f32) (main_arg7 : FVec F S128x64 .f32) (main_arg8 : FVec F S64 .f32) (main_arg17 : FVec F S1024x64 .f32) (main_arg18 : FVec F S1024x64 .f32) (main_arg19 : FVec F S1024x64 .f32) (main_v49 : IVec S_ 1) (main_v50 : FVec F S1024x64 .f32) : IVec S_ 1 :=
  let main_cst_19 : FVec F S_ .f32 := constant S_ .f32 0x7F800000#32
  let main_v51 : FVec F S1024x64 .f32 := broadcastInDim S1024x64 ![] bcast_S_S1024x64 main_cst_19
  let main_v52 : IVec S1024x64 1 := cmpf .olt main_v50 main_v51
  let main_c_20 : IVec S_ 1 := constantI S_ 1 1#1
  let main_v53 : IVec S_ 1 := (fun x v => Host.reduce IntOp.andi x v reducesTo_S1024x64_S_d0_1 h_S_) main_v52 main_c_20
  let main_v54 : IVec S_ 1 := andi main_v49 main_v53
  let main_v55 : FVec F S1024x64 .f32 := Host.absf main_arg19
  let main_cst_21 : FVec F S_ .f32 := constant S_ .f32 0x7F800000#32
  let main_v56 : FVec F S1024x64 .f32 := broadcastInDim S1024x64 ![] bcast_S_S1024x64 main_cst_21
  let main_v57 : IVec S1024x64 1 := cmpf .olt main_v55 main_v56
  let main_c_22 : IVec S_ 1 := constantI S_ 1 1#1
  let main_v58 : IVec S_ 1 := (fun x v => Host.reduce IntOp.andi x v reducesTo_S1024x64_S_d0_1 h_S_) main_v57 main_c_22
  let main_v59 : IVec S_ 1 := andi main_v54 main_v58
  let main_v60 : FVec F S4096x512 .f32 := (fun l r => Host.dotGeneral dot_S4096x768_S768x512_S4096x512_1_0_0_1_n_n none l r) main_arg0 main_arg1
  let main_v61 : FVec F S1x512 .f32 := broadcastInDim S1x512 ![1] bcast_S512_S1x512_1 main_arg2
  let main_v62 : FVec F S4096x512 .f32 := broadcastInDim S4096x512 ![0, 1] bcast_S1x512_S4096x512_0_1 main_v61
  let main_v63 : FVec F S4096x512 .f32 := addf main_v60 main_v62
  let main_v64 : FVec F S4096x512 .f32 := fn_relu (F := F) main_v63
  let main_v65 : FVec F S4096x256 .f32 := (fun l r => Host.dotGeneral dot_S4096x512_S512x256_S4096x256_1_0_0_1_n_n none l r) main_v64 main_arg3
  let main_v66 : FVec F S1x256 .f32 := broadcastInDim S1x256 ![1] bcast_S256_S1x256_1 main_arg4
  let main_v67 : FVec F S4096x256 .f32 := broadcastInDim S4096x256 ![0, 1] bcast_S1x256_S4096x256_0_1 main_v66
  let main_v68 : FVec F S4096x256 .f32 := addf main_v65 main_v67
  let main_v69 : FVec F S4096x256 .f32 := fn_relu_0 (F := F) main_v68
  let main_v70 : FVec F S4096x128 .f32 := (fun l r => Host.dotGeneral dot_S4096x256_S256x128_S4096x128_1_0_0_1_n_n none l r) main_v69 main_arg5
  fn_part4 (F := F) main_arg6 main_arg7 main_arg8 main_arg17 main_arg18 main_arg19 main_v59 main_v70

def fn_part2 {F : FTy → Type} [FloatOps F] (main_arg0 : FVec F S4096x768 .f32) (main_arg1 : FVec F S768x512 .f32) (main_arg2 : FVec F S512 .f32) (main_arg3 : FVec F S512x256 .f32) (main_arg4 : FVec F S256 .f32) (main_arg5 : FVec F S256x128 .f32) (main_arg6 : FVec F S128 .f32) (main_arg7 : FVec F S128x64 .f32) (main_arg8 : FVec F S64 .f32) (main_arg17 : FVec F S1024x64 .f32) (main_arg18 : FVec F S1024x64 .f32) (main_arg19 : FVec F S1024x64 .f32) (main_v29 : IVec S_ 1) (main_v32 : IVec S128 1) (main_c_12 : IVec S_ 1) : IVec S_ 1 :=
  let main_v33 : IVec S_ 1 := (fun x v => Host.reduce IntOp.andi x v reducesTo_S128_S_d0 h_S_) main_v32 main_c_12
  let main_v34 : IVec S_ 1 := andi main_v29 main_v33
  let main_v35 : FVec F S128x64 .f32 := Host.absf main_arg7
  let main_cst_13 : FVec F S_ .f32 := constant S_ .f32 0x7F800000#32
  let main_v36 : FVec F S128x64 .f32 := broadcastInDim S128x64 ![] bcast_S_S128x64 main_cst_13
  let main_v37 : IVec S128x64 1 := cmpf .olt main_v35 main_v36
  let main_c_14 : IVec S_ 1 := constantI S_ 1 1#1
  let main_v38 : IVec S_ 1 := (fun x v => Host.reduce IntOp.andi x v reducesTo_S128x64_S_d0_1 h_S_) main_v37 main_c_14
  let main_v39 : IVec S_ 1 := andi main_v34 main_v38
  let main_v40 : FVec F S64 .f32 := Host.absf main_arg8
  let main_cst_15 : FVec F S_ .f32 := constant S_ .f32 0x7F800000#32
  let main_v41 : FVec F S64 .f32 := broadcastInDim S64 ![] bcast_S_S64 main_cst_15
  let main_v42 : IVec S64 1 := cmpf .olt main_v40 main_v41
  let main_c_16 : IVec S_ 1 := constantI S_ 1 1#1
  let main_v43 : IVec S_ 1 := (fun x v => Host.reduce IntOp.andi x v reducesTo_S64_S_d0 h_S_) main_v42 main_c_16
  let main_v44 : IVec S_ 1 := andi main_v39 main_v43
  let main_v45 : FVec F S1024x64 .f32 := Host.absf main_arg17
  let main_cst_17 : FVec F S_ .f32 := constant S_ .f32 0x7F800000#32
  let main_v46 : FVec F S1024x64 .f32 := broadcastInDim S1024x64 ![] bcast_S_S1024x64 main_cst_17
  let main_v47 : IVec S1024x64 1 := cmpf .olt main_v45 main_v46
  let main_c_18 : IVec S_ 1 := constantI S_ 1 1#1
  let main_v48 : IVec S_ 1 := (fun x v => Host.reduce IntOp.andi x v reducesTo_S1024x64_S_d0_1 h_S_) main_v47 main_c_18
  let main_v49 : IVec S_ 1 := andi main_v44 main_v48
  let main_v50 : FVec F S1024x64 .f32 := Host.absf main_arg18
  fn_part3 (F := F) main_arg0 main_arg1 main_arg2 main_arg3 main_arg4 main_arg5 main_arg6 main_arg7 main_arg8 main_arg17 main_arg18 main_arg19 main_v49 main_v50

def fn_part1 {F : FTy → Type} [FloatOps F] (main_arg0 : FVec F S4096x768 .f32) (main_arg1 : FVec F S768x512 .f32) (main_arg2 : FVec F S512 .f32) (main_arg3 : FVec F S512x256 .f32) (main_arg4 : FVec F S256 .f32) (main_arg5 : FVec F S256x128 .f32) (main_arg6 : FVec F S128 .f32) (main_arg7 : FVec F S128x64 .f32) (main_arg8 : FVec F S64 .f32) (main_arg17 : FVec F S1024x64 .f32) (main_arg18 : FVec F S1024x64 .f32) (main_arg19 : FVec F S1024x64 .f32) (main_v14 : IVec S_ 1) (main_v15 : FVec F S512x256 .f32) (main_cst_5 : FVec F S_ .f32) : IVec S_ 1 :=
  let main_v16 : FVec F S512x256 .f32 := broadcastInDim S512x256 ![] bcast_S_S512x256 main_cst_5
  let main_v17 : IVec S512x256 1 := cmpf .olt main_v15 main_v16
  let main_c_6 : IVec S_ 1 := constantI S_ 1 1#1
  let main_v18 : IVec S_ 1 := (fun x v => Host.reduce IntOp.andi x v reducesTo_S512x256_S_d0_1 h_S_) main_v17 main_c_6
  let main_v19 : IVec S_ 1 := andi main_v14 main_v18
  let main_v20 : FVec F S256 .f32 := Host.absf main_arg4
  let main_cst_7 : FVec F S_ .f32 := constant S_ .f32 0x7F800000#32
  let main_v21 : FVec F S256 .f32 := broadcastInDim S256 ![] bcast_S_S256 main_cst_7
  let main_v22 : IVec S256 1 := cmpf .olt main_v20 main_v21
  let main_c_8 : IVec S_ 1 := constantI S_ 1 1#1
  let main_v23 : IVec S_ 1 := (fun x v => Host.reduce IntOp.andi x v reducesTo_S256_S_d0 h_S_) main_v22 main_c_8
  let main_v24 : IVec S_ 1 := andi main_v19 main_v23
  let main_v25 : FVec F S256x128 .f32 := Host.absf main_arg5
  let main_cst_9 : FVec F S_ .f32 := constant S_ .f32 0x7F800000#32
  let main_v26 : FVec F S256x128 .f32 := broadcastInDim S256x128 ![] bcast_S_S256x128 main_cst_9
  let main_v27 : IVec S256x128 1 := cmpf .olt main_v25 main_v26
  let main_c_10 : IVec S_ 1 := constantI S_ 1 1#1
  let main_v28 : IVec S_ 1 := (fun x v => Host.reduce IntOp.andi x v reducesTo_S256x128_S_d0_1 h_S_) main_v27 main_c_10
  let main_v29 : IVec S_ 1 := andi main_v24 main_v28
  let main_v30 : FVec F S128 .f32 := Host.absf main_arg6
  let main_cst_11 : FVec F S_ .f32 := constant S_ .f32 0x7F800000#32
  let main_v31 : FVec F S128 .f32 := broadcastInDim S128 ![] bcast_S_S128 main_cst_11
  let main_v32 : IVec S128 1 := cmpf .olt main_v30 main_v31
  let main_c_12 : IVec S_ 1 := constantI S_ 1 1#1
  fn_part2 (F := F) main_arg0 main_arg1 main_arg2 main_arg3 main_arg4 main_arg5 main_arg6 main_arg7 main_arg8 main_arg17 main_arg18 main_arg19 main_v29 main_v32 main_c_12

def fn {F : FTy → Type} [FloatOps F] (main_arg0 : FVec F S4096x768 .f32) (main_arg1 : FVec F S768x512 .f32) (main_arg2 : FVec F S512 .f32) (main_arg3 : FVec F S512x256 .f32) (main_arg4 : FVec F S256 .f32) (main_arg5 : FVec F S256x128 .f32) (main_arg6 : FVec F S128 .f32) (main_arg7 : FVec F S128x64 .f32) (main_arg8 : FVec F S64 .f32) (main_arg9 : FVec F S64x128 .f32) (main_arg10 : FVec F S128 .f32) (main_arg11 : FVec F S128x256 .f32) (main_arg12 : FVec F S256 .f32) (main_arg13 : FVec F S256x512 .f32) (main_arg14 : FVec F S512 .f32) (main_arg15 : FVec F S512x768 .f32) (main_arg16 : FVec F S768 .f32) (main_arg17 : FVec F S1024x64 .f32) (main_arg18 : FVec F S1024x64 .f32) (main_arg19 : FVec F S1024x64 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_c_0 : IVec S_ 1 := constantI S_ 1 1#1
  let main_v4 : IVec S_ 1 := andi main_c_0 main_v3
  let main_v5 : FVec F S768x512 .f32 := Host.absf main_arg1
  let main_cst_1 : FVec F S_ .f32 := constant S_ .f32 0x7F800000#32
  let main_v6 : FVec F S768x512 .f32 := broadcastInDim S768x512 ![] bcast_S_S768x512 main_cst_1
  let main_v7 : IVec S768x512 1 := cmpf .olt main_v5 main_v6
  let main_c_2 : IVec S_ 1 := constantI S_ 1 1#1
  let main_v8 : IVec S_ 1 := (fun x v => Host.reduce IntOp.andi x v reducesTo_S768x512_S_d0_1 h_S_) main_v7 main_c_2
  let main_v9 : IVec S_ 1 := andi main_v4 main_v8
  let main_v10 : FVec F S512 .f32 := Host.absf main_arg2
  let main_cst_3 : FVec F S_ .f32 := constant S_ .f32 0x7F800000#32
  let main_v11 : FVec F S512 .f32 := broadcastInDim S512 ![] bcast_S_S512 main_cst_3
  let main_v12 : IVec S512 1 := cmpf .olt main_v10 main_v11
  let main_c_4 : IVec S_ 1 := constantI S_ 1 1#1
  let main_v13 : IVec S_ 1 := (fun x v => Host.reduce IntOp.andi x v reducesTo_S512_S_d0 h_S_) main_v12 main_c_4
  let main_v14 : IVec S_ 1 := andi main_v9 main_v13
  let main_v15 : FVec F S512x256 .f32 := Host.absf main_arg3
  let main_cst_5 : FVec F S_ .f32 := constant S_ .f32 0x7F800000#32
  fn_part1 (F := F) main_arg0 main_arg1 main_arg2 main_arg3 main_arg4 main_arg5 main_arg6 main_arg7 main_arg8 main_arg17 main_arg18 main_arg19 main_v14 main_v15 main_cst_5
-- ==== Kernel.lean ====
abbrev S4096x768 : Shape := ⟨2, ![4096, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256x512 : Shape := ⟨2, ![256, 512]⟩
abbrev S512x768 : Shape := ⟨2, ![512, 768]⟩
abbrev S768 : Shape := ⟨1, ![768]⟩
abbrev S1024x64 : Shape := ⟨2, ![1024, 64]⟩
abbrev S1x512 : Shape := ⟨2, ![1, 512]⟩
abbrev S1x256 : Shape := ⟨2, ![1, 256]⟩
abbrev S1x128 : Shape := ⟨2, ![1, 128]⟩
abbrev S1x64 : Shape := ⟨2, ![1, 64]⟩
abbrev S1x768 : Shape := ⟨2, ![1, 768]⟩
abbrev S4096x3 : Shape := ⟨2, ![4096, 3]⟩
abbrev S1x1 : Shape := ⟨2, ![1, 1]⟩
abbrev S1024x768 : Shape := ⟨2, ![1024, 768]⟩
abbrev S1024x3 : Shape := ⟨2, ![1024, 3]⟩
abbrev S64x1024 : Shape := ⟨2, ![64, 1024]⟩
abbrev S1024x128 : Shape := ⟨2, ![1024, 128]⟩
abbrev S1x4096 : Shape := ⟨2, ![1, 4096]⟩
abbrev S1024x512 : Shape := ⟨2, ![1024, 512]⟩
abbrev S1024x256 : Shape := ⟨2, ![1024, 256]⟩
abbrev S1024x1 : Shape := ⟨2, ![1024, 1]⟩
abbrev S1024 : Shape := ⟨1, ![1024]⟩
abbrev S1x1024 : Shape := ⟨2, ![1, 1024]⟩
abbrev S1024x1024 : Shape := ⟨2, ![1024, 1024]⟩
abbrev S1x1024x1 : Shape := ⟨3, ![1, 1024, 1]⟩
abbrev S1 : Shape := ⟨1, ![1]⟩
abbrev S1x1x1 : Shape := ⟨3, ![1, 1, 1]⟩
abbrev S_ : Shape := ⟨0, ![]⟩

abbrev nBuf : Space → Nat
  | .hbm => 44
  | .vmem => 36
  | .smem => 0
  | _ => 0

abbrev bufTy : (tb : Table) → Fin (tcTables nBuf tb) → BufTy
  | .hbm, ⟨0, _⟩ => ⟨S4096x768, .f32⟩
  | .hbm, ⟨1, _⟩ => ⟨S768x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S128x256, .f32⟩
  | .hbm, ⟨12, _⟩ => ⟨S256, .f32⟩
  | .hbm, ⟨13, _⟩ => ⟨S256x512, .f32⟩
  | .hbm, ⟨14, _⟩ => ⟨S512, .f32⟩
  | .hbm, ⟨15, _⟩ => ⟨S512x768, .f32⟩
  | .hbm, ⟨16, _⟩ => ⟨S768, .f32⟩
  | .hbm, ⟨17, _⟩ => ⟨S1024x64, .f32⟩
  | .hbm, ⟨18, _⟩ => ⟨S1024x64, .f32⟩
  | .hbm, ⟨19, _⟩ => ⟨S1024x64, .f32⟩
  | .hbm, ⟨20, _⟩ => ⟨S1x512, .f32⟩
  | .hbm, ⟨21, _⟩ => ⟨S1x256, .f32⟩
  | .hbm, ⟨22, _⟩ => ⟨S1x128, .f32⟩
  | .hbm, ⟨23, _⟩ => ⟨S1x64, .f32⟩
  | .hbm, ⟨24, _⟩ => ⟨S1x128, .f32⟩
  | .hbm, ⟨25, _⟩ => ⟨S1x256, .f32⟩
  | .hbm, ⟨26, _⟩ => ⟨S1x512, .f32⟩
  | .hbm, ⟨27, _⟩ => ⟨S1x768, .f32⟩
  | .hbm, ⟨28, _⟩ => ⟨S4096x3, .f32⟩
  | .hbm, ⟨29, _⟩ => ⟨S1x1, .f32⟩
  | .hbm, ⟨30, _⟩ => ⟨S1x1, .f32⟩
  | .hbm, ⟨31, _⟩ => ⟨S1x1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S1024x768, .f32⟩
  | .local _ .vmem, ⟨1, _⟩ => ⟨S1024x768, .f32⟩
  | .local _ .vmem, ⟨2, _⟩ => ⟨S768x512, .f32⟩
  | .local _ .vmem, ⟨3, _⟩ => ⟨S1x512, .f32⟩
  | .local _ .vmem, ⟨4, _⟩ => ⟨S512x256, .f32⟩
  | .local _ .vmem, ⟨5, _⟩ => ⟨S1x256, .f32⟩
  | .local _ .vmem, ⟨6, _⟩ => ⟨S256x128, .f32⟩
  | .local _ .vmem, ⟨7, _⟩ => ⟨S1x128, .f32⟩
  | .local _ .vmem, ⟨8, _⟩ => ⟨S128x64, .f32⟩
  | .local _ .vmem, ⟨9, _⟩ => ⟨S1x64, .f32⟩
  | .local _ .vmem, ⟨10, _⟩ => ⟨S64x128, .f32⟩
  | .local _ .vmem, ⟨11, _⟩ => ⟨S1x128, .f32⟩
  | .local _ .vmem, ⟨12, _⟩ => ⟨S128x256, .f32⟩
  | .local _ .vmem, ⟨13, _⟩ => ⟨S1x256, .f32⟩
  | .local _ .vmem, ⟨14, _⟩ => ⟨S256x512, .f32⟩
  | .local _ .vmem, ⟨15, _⟩ => ⟨S1x512, .f32⟩
  | .local _ .vmem, ⟨16, _⟩ => ⟨S512x768, .f32⟩
  | .local _ .vmem, ⟨17, _⟩ => ⟨S1x768, .f32⟩
  | .local _ .vmem, ⟨18, _⟩ => ⟨S1024x64, .f32⟩
  | .local _ .vmem, ⟨19, _⟩ => ⟨S1024x64, .f32⟩
  | .local _ .vmem, ⟨20, _⟩ => ⟨S1024x64, .f32⟩
  | .local _ .vmem, ⟨21, _⟩ => ⟨S1024x3, .f32⟩
  | .local _ .vmem, ⟨22, _⟩ => ⟨S1024x3, .f32⟩
  | .local _ .vmem, ⟨23, _⟩ => ⟨S1x1, .f32⟩
  | .local _ .vmem, ⟨24, _⟩ => ⟨S1x1, .f32⟩
  | .local _ .vmem, ⟨25, _⟩ => ⟨S1x1, .f32⟩
  | .local _ .vmem, ⟨26, _⟩ => ⟨S64x1024, .f32⟩
  | .local _ .vmem, ⟨27, _⟩ => ⟨S64x1024, .f32⟩
  | .local _ .vmem, ⟨28, _⟩ => ⟨S64x1024, .f32⟩
  | .local _ .vmem, ⟨29, _⟩ => ⟨S1024x128, .f32⟩
  | .local _ .vmem, ⟨30, _⟩ => ⟨S1024x128, .f32⟩
  | .local _ .vmem, ⟨31, _⟩ => ⟨S1024x128, .f32⟩
  | .local _ .vmem, ⟨32, _⟩ => ⟨S1024x64, .f32⟩
  | .local _ .vmem, ⟨33, _⟩ => ⟨S1024x64, .f32⟩
  | .local _ .vmem, ⟨34, _⟩ => ⟨S1024x64, .f32⟩
  | .local _ .vmem, ⟨35, _⟩ => ⟨S1x4096, .i32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8_0 : Ref sig .tc := ⟨.hbm, 28, rfl⟩
abbrev main_v8_1 : Ref sig .tc := ⟨.hbm, 29, rfl⟩
abbrev main_v8_2 : Ref sig .tc := ⟨.hbm, 30, rfl⟩
abbrev main_v8_3 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_v11 : Ref sig .tc := ⟨.hbm, 35, rfl⟩
abbrev main_cst_0 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_1 : Ref sig .tc := ⟨.hbm, 40, rfl⟩
abbrev main_v15 : Ref sig .tc := ⟨.hbm, 41, rfl⟩
abbrev main_cst_2 : Ref sig .tc := ⟨.hbm, 42, rfl⟩
abbrev main_v16 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg20_1 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_scratch8 : Ref sig .tc := ⟨.vmem, 34, rfl⟩
abbrev cc0_scratch9 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem20_1 : DmaSem sig := 22
abbrev cc0_sem21_0 : DmaSem sig := 23
abbrev cc0_sem22_0 : DmaSem sig := 24
abbrev cc0_sem23_0 : DmaSem sig := 25

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let c0_82 : Index := 0#32
  let arg0 : BitVec 32 := BitVec.ofNat 32 (i 0).val
  let c1024_i32_81 : BitVec 32 := 1024#32
  let v171 : BitVec 32 := Scalar.muli arg0 c1024_i32_81
  let v172 : Index := Scalar.indexCast v171
  ![0, v172.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S1024x3 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== ReferenceIdeal.lean ====
abbrev S4096x768 : Shape := ⟨2, ![4096, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256x512 : Shape := ⟨2, ![256, 512]⟩
abbrev S512x768 : Shape := ⟨2, ![512, 768]⟩
abbrev S768 : Shape := ⟨1, ![768]⟩
abbrev S1024x64 : Shape := ⟨2, ![1024, 64]⟩
abbrev S4096x512 : Shape := ⟨2, ![4096, 512]⟩
abbrev S1x512 : Shape := ⟨2, ![1, 512]⟩
abbrev S_ : Shape := ⟨0, ![]⟩
abbrev S4096x256 : Shape := ⟨2, ![4096, 256]⟩
abbrev S1x256 : Shape := ⟨2, ![1, 256]⟩
abbrev S4096x128 : Shape := ⟨2, ![4096, 128]⟩
abbrev S1x128 : Shape := ⟨2, ![1, 128]⟩
abbrev S4096x64 : Shape := ⟨2, ![4096, 64]⟩
abbrev S1x64 : Shape := ⟨2, ![1, 64]⟩
abbrev S4096 : Shape := ⟨1, ![4096]⟩
abbrev S4096x1 : Shape := ⟨2, ![4096, 1]⟩
abbrev S64x1024 : Shape := ⟨2, ![64, 1024]⟩
abbrev S4096x1024 : Shape := ⟨2, ![4096, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S1x768 : Shape := ⟨2, ![1, 768]⟩
abbrev S4096x750 : Shape := ⟨2, ![4096, 750]⟩
abbrev S4096x18 : Shape := ⟨2, ![4096, 18]⟩
abbrev S4096x3 : Shape := ⟨2, ![4096, 3]⟩
abbrev S4096x64x1 : Shape := ⟨3, ![4096, 64, 1]⟩
abbrev S4096x64x3 : Shape := ⟨3, ![4096, 64, 3]⟩
abbrev S4096x1x3 : Shape := ⟨3, ![4096, 1, 3]⟩
abbrev S1x4096x3 : Shape := ⟨3, ![1, 4096, 3]⟩
abbrev S4096x4096x3 : Shape := ⟨3, ![4096, 4096, 3]⟩
abbrev S4096x4096 : Shape := ⟨2, ![4096, 4096]⟩

abbrev nBuf : Space → Nat
  | .hbm => 334
  | .vmem => 0
  | .smem => 0
  | _ => 0

abbrev hbmTy0_0 (i : Nat) : BufTy := match i % 128 with
  | 0 => ⟨S4096x768, .f32⟩
  | 1 => ⟨S768x512, .f32⟩
  | 2 => ⟨S512, .f32⟩
  | 3 => ⟨S512x256, .f32⟩
  | 4 => ⟨S256, .f32⟩
  | 5 => ⟨S256x128, .f32⟩
  | 6 => ⟨S128, .f32⟩
  | 7 => ⟨S128x64, .f32⟩
  | 8 => ⟨S64, .f32⟩
  | 9 => ⟨S64x128, .f32⟩
  | 10 => ⟨S128, .f32⟩
  | 11 => ⟨S128x256, .f32⟩
  | 12 => ⟨S256, .f32⟩
  | 13 => ⟨S256x512, .f32⟩
  | 14 => ⟨S512, .f32⟩
  | 15 => ⟨S512x768, .f32⟩
  | 16 => ⟨S768, .f32⟩
  | 17 => ⟨S1024x64, .f32⟩
  | 18 => ⟨S1024x64, .f32⟩
  | 19 => ⟨S1024x64, .f32⟩
  | 20 => ⟨S4096x512, .f32⟩
  | 21 => ⟨S1x512, .f32⟩
  | 22 => ⟨S4096x512, .f32⟩
  | 23 => ⟨S4096x512, .f32⟩
  | 24 => ⟨S_, .f32⟩
  | 25 => ⟨S4096x512, .f32⟩
  | 26 => ⟨S4096x512, .f32⟩
  | 27 => ⟨S4096x256, .f32⟩
  | 28 => ⟨S1x256, .f32⟩
  | 29 => ⟨S4096x256, .f32⟩
  | 30 => ⟨S4096x256, .f32⟩
  | 31 => ⟨S_, .f32⟩
  | 32 => ⟨S4096x256, .f32⟩
  | 33 => ⟨S4096x256, .f32⟩
  | 34 => ⟨S4096x128, .f32⟩
  | 35 => ⟨S1x128, .f32⟩
  | 36 => ⟨S4096x128, .f32⟩
  | 37 => ⟨S4096x128, .f32⟩
  | 38 => ⟨S_, .f32⟩
  | 39 => ⟨S4096x128, .f32⟩
  | 40 => ⟨S4096x128, .f32⟩
  | 41 => ⟨S4096x64, .f32⟩
  | 42 => ⟨S1x64, .f32⟩
  | 43 => ⟨S4096x64, .f32⟩
  | 44 => ⟨S4096x64, .f32⟩
  | 45 => ⟨S4096x64, .f32⟩
  | 46 => ⟨S_, .f32⟩
  | 47 => ⟨S4096, .f32⟩
  | 48 => ⟨S4096x1, .f32⟩
  | 49 => ⟨S64x1024, .f32⟩
  | 50 => ⟨S4096x1024, .f32⟩
  | 51 => ⟨S_, .f32⟩
  | 52 => ⟨S4096x1024, .f32⟩
  | 53 => ⟨S4096x1024, .f32⟩
  | 54 => ⟨S4096x1024, .f32⟩
  | 55 => ⟨S4096x1024, .f32⟩
  | 56 => ⟨S1024x64, .f32⟩
  | 57 => ⟨S_, .f32⟩
  | 58 => ⟨S1024, .f32⟩
  | 59 => ⟨S1x1024, .f32⟩
  | 60 => ⟨S4096x1024, .f32⟩
  | 61 => ⟨S4096x1024, .f32⟩
  | 62 => ⟨S4096x1024, .i32⟩
  | 63 => ⟨S_, .f32⟩
  | 64 => ⟨S_, .i32⟩
  | 65 => ⟨S4096, .f32⟩
  | 66 => ⟨S4096, .i32⟩
  | 67 => ⟨S_, .i32⟩
  | 68 => ⟨S4096, .i32⟩
  | 69 => ⟨S4096, .i1⟩
  | 70 => ⟨S_, .i32⟩
  | 71 => ⟨S4096, .i32⟩
  | 72 => ⟨S4096, .i32⟩
  | 73 => ⟨S4096, .i32⟩
  | 74 => ⟨S4096x1, .i32⟩
  | 75 => ⟨S1, .i32⟩
  | 76 => ⟨S_, .i32⟩
  | 77 => ⟨S4096x1, .i32⟩
  | 78 => ⟨S4096x1, .i1⟩
  | 79 => ⟨S1x1, .i32⟩
  | 80 => ⟨S4096x1, .i32⟩
  | 81 => ⟨S4096x1, .i1⟩
  | 82 => ⟨S4096x1, .i1⟩
  | 83 => ⟨S_, .i1⟩
  | 84 => ⟨S4096, .i1⟩
  | 85 => ⟨S4096x64, .f32⟩
  | 86 => ⟨S4096x64, .i1⟩
  | 87 => ⟨S_, .f32⟩
  | 88 => ⟨S4096x64, .f32⟩
  | 89 => ⟨S4096x64, .f32⟩
  | 90 => ⟨S4096x64, .f32⟩
  | 91 => ⟨S4096x64, .f32⟩
  | 92 => ⟨S_, .f32⟩
  | 93 => ⟨S4096, .f32⟩
  | 94 => ⟨S4096x64, .f32⟩
  | 95 => ⟨S4096x64, .f32⟩
  | 96 => ⟨S_, .f32⟩
  | 97 => ⟨S4096, .f32⟩
  | 98 => ⟨S_, .f32⟩
  | 99 => ⟨S4096, .f32⟩
  | 100 => ⟨S4096, .f32⟩
  | 101 => ⟨S4096, .f32⟩
  | 102 => ⟨S4096x64, .f32⟩
  | 103 => ⟨S4096x64, .f32⟩
  | 104 => ⟨S_, .f32⟩
  | 105 => ⟨S4096, .f32⟩
  | 106 => ⟨S4096, .f32⟩
  | 107 => ⟨S4096x64, .f32⟩
  | 108 => ⟨S4096x64, .f32⟩
  | 109 => ⟨S_, .f32⟩
  | 110 => ⟨S4096, .f32⟩
  | 111 => ⟨S4096x1, .f32⟩
  | 112 => ⟨S64x1024, .f32⟩
  | 113 => ⟨S4096x1024, .f32⟩
  | 114 => ⟨S_, .f32⟩
  | 115 => ⟨S4096x1024, .f32⟩
  | 116 => ⟨S4096x1024, .f32⟩
  | 117 => ⟨S4096x1024, .f32⟩
  | 118 => ⟨S4096x1024, .f32⟩
  | 119 => ⟨S1024x64, .f32⟩
  | 120 => ⟨S_, .f32⟩
  | 121 => ⟨S1024, .f32⟩
  | 122 => ⟨S1x1024, .f32⟩
  | 123 => ⟨S4096x1024, .f32⟩
  | 124 => ⟨S4096x1024, .f32⟩
  | 125 => ⟨S4096x1024, .i32⟩
  | 126 => ⟨S_, .f32⟩
  | 127 => ⟨S_, .i32⟩
  | _ => ⟨S4096x768, .f32⟩

abbrev hbmTy0_1 (i : Nat) : BufTy := match i % 128 with
  | 0 => ⟨S4096, .f32⟩
  | 1 => ⟨S4096, .i32⟩
  | 2 => ⟨S_, .i32⟩
  | 3 => ⟨S4096, .i32⟩
  | 4 => ⟨S4096, .i1⟩
  | 5 => ⟨S_, .i32⟩
  | 6 => ⟨S4096, .i32⟩
  | 7 => ⟨S4096, .i32⟩
  | 8 => ⟨S4096, .i32⟩
  | 9 => ⟨S4096x1, .i32⟩
  | 10 => ⟨S1, .i32⟩
  | 11 => ⟨S_, .i32⟩
  | 12 => ⟨S4096x1, .i32⟩
  | 13 => ⟨S4096x1, .i1⟩
  | 14 => ⟨S1x1, .i32⟩
  | 15 => ⟨S4096x1, .i32⟩
  | 16 => ⟨S4096x1, .i1⟩
  | 17 => ⟨S4096x1, .i1⟩
  | 18 => ⟨S_, .i1⟩
  | 19 => ⟨S4096, .i1⟩
  | 20 => ⟨S4096x64, .f32⟩
  | 21 => ⟨S4096x64, .i1⟩
  | 22 => ⟨S_, .f32⟩
  | 23 => ⟨S4096x64, .f32⟩
  | 24 => ⟨S4096x64, .f32⟩
  | 25 => ⟨S4096x64, .f32⟩
  | 26 => ⟨S4096x64, .f32⟩
  | 27 => ⟨S_, .f32⟩
  | 28 => ⟨S4096, .f32⟩
  | 29 => ⟨S4096x64, .f32⟩
  | 30 => ⟨S4096x64, .f32⟩
  | 31 => ⟨S_, .f32⟩
  | 32 => ⟨S4096, .f32⟩
  | 33 => ⟨S_, .f32⟩
  | 34 => ⟨S4096, .f32⟩
  | 35 => ⟨S4096, .f32⟩
  | 36 => ⟨S4096, .f32⟩
  | 37 => ⟨S4096x64, .f32⟩
  | 38 => ⟨S4096x64, .f32⟩
  | 39 => ⟨S4096, .f32⟩
  | 40 => ⟨S4096x64, .f32⟩
  | 41 => ⟨S4096x64, .f32⟩
  | 42 => ⟨S_, .f32⟩
  | 43 => ⟨S4096, .f32⟩
  | 44 => ⟨S4096x1, .f32⟩
  | 45 => ⟨S64x1024, .f32⟩
  | 46 => ⟨S4096x1024, .f32⟩
  | 47 => ⟨S_, .f32⟩
  | 48 => ⟨S4096x1024, .f32⟩
  | 49 => ⟨S4096x1024, .f32⟩
  | 50 => ⟨S4096x1024, .f32⟩
  | 51 => ⟨S4096x1024, .f32⟩
  | 52 => ⟨S1024x64, .f32⟩
  | 53 => ⟨S_, .f32⟩
  | 54 => ⟨S1024, .f32⟩
  | 55 => ⟨S1x1024, .f32⟩
  | 56 => ⟨S4096x1024, .f32⟩
  | 57 => ⟨S4096x1024, .f32⟩
  | 58 => ⟨S4096x1024, .i32⟩
  | 59 => ⟨S_, .f32⟩
  | 60 => ⟨S_, .i32⟩
  | 61 => ⟨S4096, .f32⟩
  | 62 => ⟨S4096, .i32⟩
  | 63 => ⟨S_, .i32⟩
  | 64 => ⟨S4096, .i32⟩
  | 65 => ⟨S4096, .i1⟩
  | 66 => ⟨S_, .i32⟩
  | 67 => ⟨S4096, .i32⟩
  | 68 => ⟨S4096, .i32⟩
  | 69 => ⟨S4096, .i32⟩
  | 70 => ⟨S4096x1, .i32⟩
  | 71 => ⟨S1, .i32⟩
  | 72 => ⟨S_, .i32⟩
  | 73 => ⟨S4096x1, .i32⟩
  | 74 => ⟨S4096x1, .i1⟩
  | 75 => ⟨S1x1, .i32⟩
  | 76 => ⟨S4096x1, .i32⟩
  | 77 => ⟨S4096x1, .i1⟩
  | 78 => ⟨S4096x1, .i1⟩
  | 79 => ⟨S_, .i1⟩
  | 80 => ⟨S4096, .i1⟩
  | 81 => ⟨S4096x64, .f32⟩
  | 82 => ⟨S4096x64, .i1⟩
  | 83 => ⟨S_, .f32⟩
  | 84 => ⟨S4096x64, .f32⟩
  | 85 => ⟨S4096x64, .f32⟩
  | 86 => ⟨S4096x64, .f32⟩
  | 87 => ⟨S4096x64, .f32⟩
  | 88 => ⟨S_, .f32⟩
  | 89 => ⟨S4096, .f32⟩
  | 90 => ⟨S4096x64, .f32⟩
  | 91 => ⟨S4096x64, .f32⟩
  | 92 => ⟨S_, .f32⟩
  | 93 => ⟨S4096, .f32⟩
  | 94 => ⟨S_, .f32⟩
  | 95 => ⟨S4096, .f32⟩
  | 96 => ⟨S4096, .f32⟩
  | 97 => ⟨S4096, .f32⟩
  | 98 => ⟨S4096x64, .f32⟩
  | 99 => ⟨S4096x64, .f32⟩
  | 100 => ⟨S4096, .f32⟩
  | 101 => ⟨S4096x64, .f32⟩
  | 102 => ⟨S4096x64, .f32⟩
  | 103 => ⟨S4096x64, .f32⟩
  | 104 => ⟨S4096x128, .f32⟩
  | 105 => ⟨S1x128, .f32⟩
  | 106 => ⟨S4096x128, .f32⟩
  | 107 => ⟨S4096x128, .f32⟩
  | 108 => ⟨S_, .f32⟩
  | 109 => ⟨S4096x128, .f32⟩
  | 110 => ⟨S4096x128, .f32⟩
  | 111 => ⟨S4096x256, .f32⟩
  | 112 => ⟨S1x256, .f32⟩
  | 113 => ⟨S4096x256, .f32⟩
  | 114 => ⟨S4096x256, .f32⟩
  | 115 => ⟨S_, .f32⟩
  | 116 => ⟨S4096x256, .f32⟩
  | 117 => ⟨S4096x256, .f32⟩
  | 118 => ⟨S4096x512, .f32⟩
  | 119 => ⟨S1x512, .f32⟩
  | 120 => ⟨S4096x512, .f32⟩
  | 121 => ⟨S4096x512, .f32⟩
  | 122 => ⟨S_, .f32⟩
  | 123 => ⟨S4096x512, .f32⟩
  | 124 => ⟨S4096x512, .f32⟩
  | 125 => ⟨S4096x768, .f32⟩
  | 126 => ⟨S1x768, .f32⟩
  | 127 => ⟨S4096x768, .f32⟩
  | _ => ⟨S4096x768, .f32⟩

abbrev hbmTy0_2 (i : Nat) : BufTy := match i % 128 with
  | 0 => ⟨S4096x768, .f32⟩
  | 1 => ⟨S4096x768, .f32⟩
  | 2 => ⟨S_, .f32⟩
  | 3 => ⟨S4096, .f32⟩
  | 4 => ⟨S4096x1, .f32⟩
  | 5 => ⟨S4096x1, .f32⟩
  | 6 => ⟨S_, .f32⟩
  | 7 => ⟨S4096x1, .f32⟩
  | 8 => ⟨S4096x1, .f32⟩
  | 9 => ⟨S4096x768, .f32⟩
  | 10 => ⟨S4096x768, .f32⟩
  | 11 => ⟨S4096x750, .f32⟩
  | 12 => ⟨S4096x750, .f32⟩
  | 13 => ⟨S_, .f32⟩
  | 14 => ⟨S4096, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x750, .f32⟩
  | 21 => ⟨S4096x750, .f32⟩
  | 22 => ⟨S4096x18, .f32⟩
  | 23 => ⟨S4096x768, .f32⟩
  | 24 => ⟨S4096x768, .f32⟩
  | 25 => ⟨S4096x768, .f32⟩
  | 26 => ⟨S_, .f32⟩
  | 27 => ⟨S4096, .f32⟩
  | 28 => ⟨S4096, .f32⟩
  | 29 => ⟨S_, .f32⟩
  | 30 => ⟨S_, .f32⟩
  | 31 => ⟨S_, .f32⟩
  | 32 => ⟨S_, .f32⟩
  | 33 => ⟨S4096x1, .i32⟩
  | 34 => ⟨S4096x1, .i32⟩
  | 35 => ⟨S4096x1, .i32⟩
  | 36 => ⟨S4096x3, .i32⟩
  | 37 => ⟨S4096x64x1, .f32⟩
  | 38 => ⟨S4096x64x1, .f32⟩
  | 39 => ⟨S4096x64x1, .f32⟩
  | 40 => ⟨S4096x64x3, .f32⟩
  | 41 => ⟨S4096x64x3, .f32⟩
  | 42 => ⟨S_, .f32⟩
  | 43 => ⟨S4096x3, .f32⟩
  | 44 => ⟨S4096x3, .f32⟩
  | 45 => ⟨S4096x1x3, .i32⟩
  | 46 => ⟨S1x4096x3, .i32⟩
  | 47 => ⟨S4096x4096x3, .i32⟩
  | 48 => ⟨S4096x4096x3, .i32⟩
  | 49 => ⟨S4096x4096x3, .i1⟩
  | 50 => ⟨S_, .i1⟩
  | 51 => ⟨S4096x4096, .i1⟩
  | 52 => ⟨S4096x4096, .i32⟩
  | 53 => ⟨S_, .i32⟩
  | 54 => ⟨S4096x4096, .i32⟩
  | 55 => ⟨S4096x4096, .i32⟩
  | 56 => ⟨S4096x4096, .i32⟩
  | 57 => ⟨S4096x4096, .i1⟩
  | 58 => ⟨S_, .i1⟩
  | 59 => ⟨S4096x4096, .i1⟩
  | 60 => ⟨S4096x4096, .i1⟩
  | 61 => ⟨S4096x4096, .i1⟩
  | 62 => ⟨S_, .i1⟩
  | 63 => ⟨S4096, .i1⟩
  | 64 => ⟨S4096, .i32⟩
  | 65 => ⟨S_, .i32⟩
  | 66 => ⟨S_, .i32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | _ => ⟨S4096x768, .f32⟩

abbrev hbmTy (i : Nat) : BufTy := match i / 128 with
  | 0 => hbmTy0_0 i
  | 1 => hbmTy0_1 i
  | 2 => hbmTy0_2 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_call0_cst : Ref sig .tc := ⟨.hbm, 24, rfl⟩
abbrev main_call0_v0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_call1_cst : Ref sig .tc := ⟨.hbm, 31, rfl⟩
abbrev main_call1_v0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_call2_cst : Ref sig .tc := ⟨.hbm, 38, rfl⟩
abbrev main_call2_v0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_0 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_1 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_call3_v0 : Ref sig .tc := ⟨.hbm, 62, rfl⟩
abbrev main_call3_cst : Ref sig .tc := ⟨.hbm, 63, rfl⟩
abbrev main_call3_c : Ref sig .tc := ⟨.hbm, 64, rfl⟩
abbrev main_call3_v1_0 : Ref sig .tc := ⟨.hbm, 65, rfl⟩
abbrev main_v33 : Ref sig .tc := ⟨.hbm, 66, rfl⟩
abbrev main_call4_c : Ref sig .tc := ⟨.hbm, 67, rfl⟩
abbrev main_call4_v0 : Ref sig .tc := ⟨.hbm, 68, rfl⟩
abbrev main_call4_v1 : Ref sig .tc := ⟨.hbm, 69, rfl⟩
abbrev main_call4_c_0 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_call4_v5 : Ref sig .tc := ⟨.hbm, 74, rfl⟩
abbrev main_call4_c_1 : Ref sig .tc := ⟨.hbm, 75, rfl⟩
abbrev main_call4_c_2 : Ref sig .tc := ⟨.hbm, 76, rfl⟩
abbrev main_call4_v6 : Ref sig .tc := ⟨.hbm, 77, rfl⟩
abbrev main_call4_v7 : Ref sig .tc := ⟨.hbm, 78, rfl⟩
abbrev main_call4_v8 : Ref sig .tc := ⟨.hbm, 79, rfl⟩
abbrev main_call4_v9 : Ref sig .tc := ⟨.hbm, 80, rfl⟩
abbrev main_call4_v10 : Ref sig .tc := ⟨.hbm, 81, rfl⟩
abbrev main_call4_v11 : Ref sig .tc := ⟨.hbm, 82, rfl⟩
abbrev main_call4_c_3 : Ref sig .tc := ⟨.hbm, 83, rfl⟩
abbrev main_call4_v12 : Ref sig .tc := ⟨.hbm, 84, rfl⟩
abbrev main_call4_v13 : Ref sig .tc := ⟨.hbm, 85, rfl⟩
abbrev main_call4_v14 : Ref sig .tc := ⟨.hbm, 86, rfl⟩
abbrev main_call4_cst : Ref sig .tc := ⟨.hbm, 87, rfl⟩
abbrev main_call4_v15 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_cst_2 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_cst_3 : Ref sig .tc := ⟨.hbm, 96, rfl⟩
abbrev main_v40 : Ref sig .tc := ⟨.hbm, 97, rfl⟩
abbrev main_cst_4 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_cst_5 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_cst_6 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_cst_7 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_cst_8 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_call5_v0 : Ref sig .tc := ⟨.hbm, 125, rfl⟩
abbrev main_call5_cst : Ref sig .tc := ⟨.hbm, 126, rfl⟩
abbrev main_call5_c : Ref sig .tc := ⟨.hbm, 127, rfl⟩
abbrev main_call5_v1_0 : Ref sig .tc := ⟨.hbm, 128, rfl⟩
abbrev main_v63 : Ref sig .tc := ⟨.hbm, 129, rfl⟩
abbrev main_call6_c : Ref sig .tc := ⟨.hbm, 130, rfl⟩
abbrev main_call6_v0 : Ref sig .tc := ⟨.hbm, 131, rfl⟩
abbrev main_call6_v1 : Ref sig .tc := ⟨.hbm, 132, rfl⟩
abbrev main_call6_c_0 : Ref sig .tc := ⟨.hbm, 133, rfl⟩
abbrev main_call6_v2 : Ref sig .tc := ⟨.hbm, 134, rfl⟩
abbrev main_call6_v3 : Ref sig .tc := ⟨.hbm, 135, rfl⟩
abbrev main_call6_v4 : Ref sig .tc := ⟨.hbm, 136, rfl⟩
abbrev main_call6_v5 : Ref sig .tc := ⟨.hbm, 137, rfl⟩
abbrev main_call6_c_1 : Ref sig .tc := ⟨.hbm, 138, rfl⟩
abbrev main_call6_c_2 : Ref sig .tc := ⟨.hbm, 139, rfl⟩
abbrev main_call6_v6 : Ref sig .tc := ⟨.hbm, 140, rfl⟩
abbrev main_call6_v7 : Ref sig .tc := ⟨.hbm, 141, rfl⟩
abbrev main_call6_v8 : Ref sig .tc := ⟨.hbm, 142, rfl⟩
abbrev main_call6_v9 : Ref sig .tc := ⟨.hbm, 143, rfl⟩
abbrev main_call6_v10 : Ref sig .tc := ⟨.hbm, 144, rfl⟩
abbrev main_call6_v11 : Ref sig .tc := ⟨.hbm, 145, rfl⟩
abbrev main_call6_c_3 : Ref sig .tc := ⟨.hbm, 146, rfl⟩
abbrev main_call6_v12 : Ref sig .tc := ⟨.hbm, 147, rfl⟩
abbrev main_call6_v13 : Ref sig .tc := ⟨.hbm, 148, rfl⟩
abbrev main_call6_v14 : Ref sig .tc := ⟨.hbm, 149, rfl⟩
abbrev main_call6_cst : Ref sig .tc := ⟨.hbm, 150, rfl⟩
abbrev main_call6_v15 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_cst_9 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_cst_10 : Ref sig .tc := ⟨.hbm, 159, rfl⟩
abbrev main_v70 : Ref sig .tc := ⟨.hbm, 160, rfl⟩
abbrev main_cst_11 : Ref sig .tc := ⟨.hbm, 161, rfl⟩
abbrev main_v71 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_v75 : Ref sig .tc := ⟨.hbm, 166, rfl⟩
abbrev main_v76 : Ref sig .tc := ⟨.hbm, 167, rfl⟩
abbrev main_v77 : Ref sig .tc := ⟨.hbm, 168, rfl⟩
abbrev main_v78 : Ref sig .tc := ⟨.hbm, 169, rfl⟩
abbrev main_cst_12 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_v82 : Ref sig .tc := ⟨.hbm, 174, rfl⟩
abbrev main_cst_13 : Ref sig .tc := ⟨.hbm, 175, rfl⟩
abbrev main_v83 : Ref sig .tc := ⟨.hbm, 176, rfl⟩
abbrev main_v84 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_cst_14 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_call7_v0 : Ref sig .tc := ⟨.hbm, 186, rfl⟩
abbrev main_call7_cst : Ref sig .tc := ⟨.hbm, 187, rfl⟩
abbrev main_call7_c : Ref sig .tc := ⟨.hbm, 188, rfl⟩
abbrev main_call7_v1_0 : Ref sig .tc := ⟨.hbm, 189, rfl⟩
abbrev main_v92 : Ref sig .tc := ⟨.hbm, 190, rfl⟩
abbrev main_call8_c : Ref sig .tc := ⟨.hbm, 191, rfl⟩
abbrev main_call8_v0 : Ref sig .tc := ⟨.hbm, 192, rfl⟩
abbrev main_call8_v1 : Ref sig .tc := ⟨.hbm, 193, rfl⟩
abbrev main_call8_c_0 : Ref sig .tc := ⟨.hbm, 194, rfl⟩
abbrev main_call8_v2 : Ref sig .tc := ⟨.hbm, 195, rfl⟩
abbrev main_call8_v3 : Ref sig .tc := ⟨.hbm, 196, rfl⟩
abbrev main_call8_v4 : Ref sig .tc := ⟨.hbm, 197, rfl⟩
abbrev main_call8_v5 : Ref sig .tc := ⟨.hbm, 198, rfl⟩
abbrev main_call8_c_1 : Ref sig .tc := ⟨.hbm, 199, rfl⟩
abbrev main_call8_c_2 : Ref sig .tc := ⟨.hbm, 200, rfl⟩
abbrev main_call8_v6 : Ref sig .tc := ⟨.hbm, 201, rfl⟩
abbrev main_call8_v7 : Ref sig .tc := ⟨.hbm, 202, rfl⟩
abbrev main_call8_v8 : Ref sig .tc := ⟨.hbm, 203, rfl⟩
abbrev main_call8_v9 : Ref sig .tc := ⟨.hbm, 204, rfl⟩
abbrev main_call8_v10 : Ref sig .tc := ⟨.hbm, 205, rfl⟩
abbrev main_call8_v11 : Ref sig .tc := ⟨.hbm, 206, rfl⟩
abbrev main_call8_c_3 : Ref sig .tc := ⟨.hbm, 207, rfl⟩
abbrev main_call8_v12 : Ref sig .tc := ⟨.hbm, 208, rfl⟩
abbrev main_call8_v13 : Ref sig .tc := ⟨.hbm, 209, rfl⟩
abbrev main_call8_v14 : Ref sig .tc := ⟨.hbm, 210, rfl⟩
abbrev main_call8_cst : Ref sig .tc := ⟨.hbm, 211, rfl⟩
abbrev main_call8_v15 : Ref sig .tc := ⟨.hbm, 212, rfl⟩
abbrev main_v93 : Ref sig .tc := ⟨.hbm, 213, rfl⟩
abbrev main_v94 : Ref sig .tc := ⟨.hbm, 214, rfl⟩
abbrev main_v95 : Ref sig .tc := ⟨.hbm, 215, rfl⟩
abbrev main_cst_15 : Ref sig .tc := ⟨.hbm, 216, rfl⟩
abbrev main_v96 : Ref sig .tc := ⟨.hbm, 217, rfl⟩
abbrev main_v97 : Ref sig .tc := ⟨.hbm, 218, rfl⟩
abbrev main_v98 : Ref sig .tc := ⟨.hbm, 219, rfl⟩
abbrev main_cst_16 : Ref sig .tc := ⟨.hbm, 220, rfl⟩
abbrev main_v99 : Ref sig .tc := ⟨.hbm, 221, rfl⟩
abbrev main_cst_17 : Ref sig .tc := ⟨.hbm, 222, rfl⟩
abbrev main_v100 : Ref sig .tc := ⟨.hbm, 223, rfl⟩
abbrev main_v101 : Ref sig .tc := ⟨.hbm, 224, rfl⟩
abbrev main_v102 : Ref sig .tc := ⟨.hbm, 225, rfl⟩
abbrev main_v103 : Ref sig .tc := ⟨.hbm, 226, rfl⟩
abbrev main_v104 : Ref sig .tc := ⟨.hbm, 227, rfl⟩
abbrev main_v105 : Ref sig .tc := ⟨.hbm, 228, rfl⟩
abbrev main_v106 : Ref sig .tc := ⟨.hbm, 229, rfl⟩
abbrev main_v107 : Ref sig .tc := ⟨.hbm, 230, rfl⟩
abbrev main_v108 : Ref sig .tc := ⟨.hbm, 231, rfl⟩
abbrev main_v109 : Ref sig .tc := ⟨.hbm, 232, rfl⟩
abbrev main_v110 : Ref sig .tc := ⟨.hbm, 233, rfl⟩
abbrev main_v111 : Ref sig .tc := ⟨.hbm, 234, rfl⟩
abbrev main_v112 : Ref sig .tc := ⟨.hbm, 235, rfl⟩
abbrev main_call9_cst : Ref sig .tc := ⟨.hbm, 236, rfl⟩
abbrev main_call9_v0 : Ref sig .tc := ⟨.hbm, 237, rfl⟩
abbrev main_v113 : Ref sig .tc := ⟨.hbm, 238, rfl⟩
abbrev main_v114 : Ref sig .tc := ⟨.hbm, 239, rfl⟩
abbrev main_v115 : Ref sig .tc := ⟨.hbm, 240, rfl⟩
abbrev main_v116 : Ref sig .tc := ⟨.hbm, 241, rfl⟩
abbrev main_v117 : Ref sig .tc := ⟨.hbm, 242, rfl⟩
abbrev main_call10_cst : Ref sig .tc := ⟨.hbm, 243, rfl⟩
abbrev main_call10_v0 : Ref sig .tc := ⟨.hbm, 244, rfl⟩
abbrev main_v118 : Ref sig .tc := ⟨.hbm, 245, rfl⟩
abbrev main_v119 : Ref sig .tc := ⟨.hbm, 246, rfl⟩
abbrev main_v120 : Ref sig .tc := ⟨.hbm, 247, rfl⟩
abbrev main_v121 : Ref sig .tc := ⟨.hbm, 248, rfl⟩
abbrev main_v122 : Ref sig .tc := ⟨.hbm, 249, rfl⟩
abbrev main_call11_cst : Ref sig .tc := ⟨.hbm, 250, rfl⟩
abbrev main_call11_v0 : Ref sig .tc := ⟨.hbm, 251, rfl⟩
abbrev main_v123 : Ref sig .tc := ⟨.hbm, 252, rfl⟩
abbrev main_v124 : Ref sig .tc := ⟨.hbm, 253, rfl⟩
abbrev main_v125 : Ref sig .tc := ⟨.hbm, 254, rfl⟩
abbrev main_v126 : Ref sig .tc := ⟨.hbm, 255, rfl⟩
abbrev main_v127 : Ref sig .tc := ⟨.hbm, 256, rfl⟩
abbrev main_call12_v0 : Ref sig .tc := ⟨.hbm, 257, rfl⟩
abbrev main_call12_cst : Ref sig .tc := ⟨.hbm, 258, rfl⟩
abbrev main_call12_v1 : Ref sig .tc := ⟨.hbm, 259, rfl⟩
abbrev main_call12_v2 : Ref sig .tc := ⟨.hbm, 260, rfl⟩
abbrev main_v128 : Ref sig .tc := ⟨.hbm, 261, rfl⟩
abbrev main_cst_18 : Ref sig .tc := ⟨.hbm, 262, rfl⟩
abbrev main_v129 : Ref sig .tc := ⟨.hbm, 263, rfl⟩
abbrev main_v130 : Ref sig .tc := ⟨.hbm, 264, rfl⟩
abbrev main_v131 : Ref sig .tc := ⟨.hbm, 265, rfl⟩
abbrev main_v132 : Ref sig .tc := ⟨.hbm, 266, rfl⟩
abbrev main_v133 : Ref sig .tc := ⟨.hbm, 267, rfl⟩
abbrev main_call13_v0 : Ref sig .tc := ⟨.hbm, 268, rfl⟩
abbrev main_call13_cst : Ref sig .tc := ⟨.hbm, 269, rfl⟩
abbrev main_call13_v1 : Ref sig .tc := ⟨.hbm, 270, rfl⟩
abbrev main_call13_v2 : Ref sig .tc := ⟨.hbm, 271, rfl⟩
abbrev main_v134 : Ref sig .tc := ⟨.hbm, 272, rfl⟩
abbrev main_cst_19 : Ref sig .tc := ⟨.hbm, 273, rfl⟩
abbrev main_v135 : Ref sig .tc := ⟨.hbm, 274, rfl⟩
abbrev main_v136 : Ref sig .tc := ⟨.hbm, 275, rfl⟩
abbrev main_v137 : Ref sig .tc := ⟨.hbm, 276, rfl⟩
abbrev main_v138 : Ref sig .tc := ⟨.hbm, 277, rfl⟩
abbrev main_v139 : Ref sig .tc := ⟨.hbm, 278, rfl⟩
abbrev main_v140 : Ref sig .tc := ⟨.hbm, 279, rfl⟩
abbrev main_v141 : Ref sig .tc := ⟨.hbm, 280, rfl⟩
abbrev main_v142 : Ref sig .tc := ⟨.hbm, 281, rfl⟩
abbrev main_cst_20 : Ref sig .tc := ⟨.hbm, 282, rfl⟩
abbrev main_v143 : Ref sig .tc := ⟨.hbm, 283, rfl⟩
abbrev main_v144 : Ref sig .tc := ⟨.hbm, 284, rfl⟩
abbrev main_cst_21 : Ref sig .tc := ⟨.hbm, 285, rfl⟩
abbrev main_v145 : Ref sig .tc := ⟨.hbm, 286, rfl⟩
abbrev main_cst_22 : Ref sig .tc := ⟨.hbm, 287, rfl⟩
abbrev main_v146 : Ref sig .tc := ⟨.hbm, 288, rfl⟩
abbrev main_v147 : Ref sig .tc := ⟨.hbm, 289, rfl⟩
abbrev main_v148 : Ref sig .tc := ⟨.hbm, 290, rfl⟩
abbrev main_v149 : Ref sig .tc := ⟨.hbm, 291, rfl⟩
abbrev main_v150 : Ref sig .tc := ⟨.hbm, 292, rfl⟩
abbrev main_v151 : Ref sig .tc := ⟨.hbm, 293, rfl⟩
abbrev main_v152 : Ref sig .tc := ⟨.hbm, 294, rfl⟩
abbrev main_v153 : Ref sig .tc := ⟨.hbm, 295, rfl⟩
abbrev main_v154 : Ref sig .tc := ⟨.hbm, 296, rfl⟩
abbrev main_call14_v0 : Ref sig .tc := ⟨.hbm, 297, rfl⟩
abbrev main_call14_cst : Ref sig .tc := ⟨.hbm, 298, rfl⟩
abbrev main_call14_v1 : Ref sig .tc := ⟨.hbm, 299, rfl⟩
abbrev main_v155 : Ref sig .tc := ⟨.hbm, 300, rfl⟩
abbrev main_v156 : Ref sig .tc := ⟨.hbm, 301, rfl⟩
abbrev main_v157 : Ref sig .tc := ⟨.hbm, 302, rfl⟩
abbrev main_v158 : Ref sig .tc := ⟨.hbm, 303, rfl⟩
abbrev main_v159 : Ref sig .tc := ⟨.hbm, 304, rfl⟩
abbrev main_v160 : Ref sig .tc := ⟨.hbm, 305, rfl⟩
abbrev main_c : Ref sig .tc := ⟨.hbm, 306, rfl⟩
abbrev main_v161 : Ref sig .tc := ⟨.hbm, 307, rfl⟩
abbrev main_call15_v0 : Ref sig .tc := ⟨.hbm, 308, rfl⟩
abbrev main_call15_c : Ref sig .tc := ⟨.hbm, 309, rfl⟩
abbrev main_call15_v1 : Ref sig .tc := ⟨.hbm, 310, rfl⟩
abbrev main_call15_v2 : Ref sig .tc := ⟨.hbm, 311, rfl⟩
abbrev main_call15_v3 : Ref sig .tc := ⟨.hbm, 312, rfl⟩
abbrev main_call15_v4 : Ref sig .tc := ⟨.hbm, 313, rfl⟩
abbrev main_call15_c_0 : Ref sig .tc := ⟨.hbm, 314, rfl⟩
abbrev main_call15_v5 : Ref sig .tc := ⟨.hbm, 315, rfl⟩
abbrev main_v162 : Ref sig .tc := ⟨.hbm, 316, rfl⟩
abbrev main_v163 : Ref sig .tc := ⟨.hbm, 317, rfl⟩
abbrev main_c_23 : Ref sig .tc := ⟨.hbm, 318, rfl⟩
abbrev main_v164 : Ref sig .tc := ⟨.hbm, 319, rfl⟩
abbrev main_v165 : Ref sig .tc := ⟨.hbm, 320, rfl⟩
abbrev main_c_24 : Ref sig .tc := ⟨.hbm, 321, rfl⟩
abbrev main_v166 : Ref sig .tc := ⟨.hbm, 322, rfl⟩
abbrev main_v167 : Ref sig .tc := ⟨.hbm, 323, rfl⟩
abbrev main_cst_25 : Ref sig .tc := ⟨.hbm, 324, rfl⟩
abbrev main_v168 : Ref sig .tc := ⟨.hbm, 325, rfl⟩
abbrev main_cst_26 : Ref sig .tc := ⟨.hbm, 326, rfl⟩
abbrev main_v169 : Ref sig .tc := ⟨.hbm, 327, rfl⟩
abbrev main_cst_27 : Ref sig .tc := ⟨.hbm, 328, rfl⟩
abbrev main_v170 : Ref sig .tc := ⟨.hbm, 329, rfl⟩
abbrev main_cst_28 : Ref sig .tc := ⟨.hbm, 330, rfl⟩
abbrev main_v171 : Ref sig .tc := ⟨.hbm, 331, rfl⟩
abbrev main_cst_29 : Ref sig .tc := ⟨.hbm, 332, rfl⟩
abbrev main_v172 : Ref sig .tc := ⟨.hbm, 333, rfl⟩

abbrev nD : Nat := 1
abbrev τ : Topo := Topo.v7x

variable {F : FTy → Type} [FloatOps F]
-- ==== Proof.KIDefs.lean ====
/- What one grid step of the kernel computes, as functions of the blocks it is given. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Pipeline.ValueKit.Acc
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The twenty input blocks one grid step reads: the rows of `x`, the layers' weights and biases, the three codebooks. -/
structure Blk (F : FTy → Type) where
  x0 : Vec F S1024x768 .f32
  x1 : Vec F S768x512 .f32
  x2 : Vec F S1x512 .f32
  x3 : Vec F S512x256 .f32
  x4 : Vec F S1x256 .f32
  x5 : Vec F S256x128 .f32
  x6 : Vec F S1x128 .f32
  x7 : Vec F S128x64 .f32
  x8 : Vec F S1x64 .f32
  x9 : Vec F S64x128 .f32
  x10 : Vec F S1x128 .f32
  x11 : Vec F S128x256 .f32
  x12 : Vec F S1x256 .f32
  x13 : Vec F S256x512 .f32
  x14 : Vec F S1x512 .f32
  x15 : Vec F S512x768 .f32
  x16 : Vec F S1x768 .f32
  x17 : Vec F S1024x64 .f32
  x18 : Vec F S1024x64 .f32
  x19 : Vec F S1024x64 .f32

/-- The row block of the encoder's last product, before its bias. -/
def bPre (X : Blk F) : FVec F S1024x64 .f32 := k0_pay24 X.x0 X.x1 X.x2 X.x3 X.x4 X.x5 X.x6 X.x7
/-- The encoded rows of the block. -/
def bEnc (X : Blk F) : FVec F S1024x64 .f32 := k0_pay25 (bPre X) X.x8
/-- The transposed first codebook, its two-part split, and the rest of the split. -/
def bT0 (X : Blk F) : FVec F S64x1024 .f32 := k0_pay3 X.x17
def bA0 (X : Blk F) : FVec F S1024x128 .f32 := k0_pay7 X.x17
def bB0 (X : Blk F) : FVec F S1024x64 .f32 := k0_pay8 X.x17
/-- The same of the second codebook. -/
def bT1 (X : Blk F) : FVec F S64x1024 .f32 := k0_pay9 X.x18
def bA1 (X : Blk F) : FVec F S1024x128 .f32 := k0_pay13 X.x18
def bB1 (X : Blk F) : FVec F S1024x64 .f32 := k0_pay14 X.x18
/-- The same of the third codebook. -/
def bT2 (X : Blk F) : FVec F S64x1024 .f32 := k0_pay15 X.x19
def bA2 (X : Blk F) : FVec F S1024x128 .f32 := k0_pay19 X.x19
def bB2 (X : Blk F) : FVec F S1024x64 .f32 := k0_pay20 X.x19
/-- First quantiser: the chosen code of each row, the code's vector, the residual, the loss so far. -/
def bId0 (X : Blk F) : IVec S1024x1 32 := k0_pay27 (bPre X) X.x8 (bT0 X) X.x17
def bE0 (X : Blk F) : FVec F S1024x64 .f32 := k0_pay28 (bPre X) X.x8 (bT0 X) X.x17 (bA0 X) (bB0 X)
def bR1 (X : Blk F) : FVec F S1024x64 .f32 := k0_pay29 (bPre X) X.x8 (bT0 X) X.x17 (bA0 X) (bB0 X)
def bL0 (X : Blk F) : FVec F S1024x1 .f32 := k0_pay30 (bPre X) X.x8 (bT0 X) X.x17 (bA0 X) (bB0 X)
def bN0 (X : Blk F) : FVec F S1024x1 .f32 := k0_pay31 (bE0 X)
def bK0 (X : Blk F) : IVec S1024x1 32 := k0_pay32 k0_pay26 (bId0 X)
/-- Second quantiser. -/
def bId1 (X : Blk F) : IVec S1024x1 32 := k0_pay33 (bR1 X) (bT1 X) X.x18
def bE1 (X : Blk F) : FVec F S1024x64 .f32 := k0_pay34 (bR1 X) (bT1 X) X.x18 (bA1 X) (bB1 X)
def bR2 (X : Blk F) : FVec F S1024x64 .f32 := k0_pay35 (bR1 X) (bT1 X) X.x18 (bA1 X) (bB1 X)
def bS1 (X : Blk F) : FVec F S1024x1 .f32 := k0_pay36 (bR1 X) (bT1 X) X.x18 (bA1 X) (bB1 X)
def bL1 (X : Blk F) : FVec F S1024x1 .f32 := k0_pay38 (bL0 X) (bS1 X) (k0_pay37 (F := F))
def bN1 (X : Blk F) : FVec F S1024x1 .f32 := k0_pay39 (bE1 X)
def bK1 (X : Blk F) : IVec S1024x1 32 := k0_pay40 (bK0 X) (bId1 X)
/-- Third quantiser. -/
def bId2 (X : Blk F) : IVec S1024x1 32 := k0_pay41 (bR2 X) (bT2 X) X.x19
def bE2 (X : Blk F) : FVec F S1024x64 .f32 := k0_pay42 (bR2 X) (bT2 X) X.x19 (bA2 X) (bB2 X)
def bR3 (X : Blk F) : FVec F S1024x64 .f32 := k0_pay43 (bR2 X) (bT2 X) X.x19 (bA2 X) (bB2 X)
def bS2 (X : Blk F) : FVec F S1024x1 .f32 := k0_pay44 (bR2 X) (bT2 X) X.x19 (bA2 X) (bB2 X)
/-- The quantiser loss of each row. -/
def bL2 (X : Blk F) : FVec F S1024x1 .f32 := k0_pay45 (bL1 X) (bS2 X)
/-- The combined code of each row. -/
def bKey (X : Blk F) : IVec S1024x1 32 := k0_pay46 (bK1 X) (bId2 X)
/-- The combined codes as one row, as stored. -/
def bKeyRow (X : Blk F) : IVec S1x1024 32 := k0_pay48 (bK1 X) (bId2 X)
/-- The norms of the three code vectors of each row. -/
def bNorms (X : Blk F) : FVec F S1024x3 .f32 := k0_pay47 (bN0 X) (bN1 X) (bE2 X)
/-- The decoder's third product. -/
def bDec (X : Blk F) : FVec F S1024x512 .f32 := k0_pay54 (bEnc X) (bR3 X) X.x9 X.x10 X.x11 X.x12 X.x13
/-- The sum over the block's rows of the reconstruction error. -/
def bRecon (X : Blk F) : F .f32 := k0_pay56 X.x0 (bDec X) X.x14 X.x15 X.x16
/-- The reconstruction total after the block, from the total before it. -/
def bReconAcc (X : Blk F) (a : FVec F S1x1 .f32) : FVec F S1x1 .f32 := k0_pay1 (k0_pay55 a) (bRecon X)
/-- The quantiser-loss total after the block, from the total before it. -/
def bLossAcc (X : Blk F) (a : FVec F S1x1 .f32) : FVec F S1x1 .f32 := k0_pay2 (bL2 X) a
/-- The row of codes after the block's own codes are put in their place. -/
def bRow (i : grid0.Coords) (X : Blk F) (g : Vec F S1x4096 .i32) : Vec F S1x4096 .i32 :=
  (Rect.unit (s := S1x4096) (k0_off1 i) S1x1024.size (k0_off1_inb i)).overlay g (bKeyRow X)
/-- The second grid axis of the 1024 by 1024 table of positions. -/
def colIota : IVec S1024x1024 32 := iota .tc S1024x1024 32 [1] iota_S1024x1024_d1_w32
/-- The count of repeated codes after the block, from the count before it, comparing with the row of codes `g`. -/
def dupOf (a0 : BitVec 32) (k1 : IVec S1024x1 32) (id2 : IVec S1024x1 32) (g : Vec F S1x4096 .i32) (a : FVec F S1x1 .f32) : FVec F S1x1 .f32 :=
  k0_pay53 (k0_pay51 (k0_pay46 k1 id2) (k0_pay49 a0) colIota
      (k0_pay50 a0 k1 id2 (View.ld (e' := .i32) g (Rect.unit (s := S1x4096) ![0, 0] S1x1024.size inb_S1x4096_S1x1024_0_0)))
      (View.ld (e' := .i32) g (Rect.unit (s := S1x4096) ![0, 1024] S1x1024.size inb_S1x4096_S1x1024_0_1024))
      (View.ld (e' := .i32) g (Rect.unit (s := S1x4096) ![0, 2048] S1x1024.size inb_S1x4096_S1x1024_0_2048)))
    (k0_pay52 (k0_pay46 k1 id2) (k0_pay49 a0) colIota
      (View.ld (e' := .i32) g (Rect.unit (s := S1x4096) ![0, 3072] S1x1024.size inb_S1x4096_S1x1024_0_3072))) a
/-- The count of repeated codes after the block at `i`, the row of codes being `g` before the block. -/
def bDup (i : grid0.Coords) (X : Blk F) (g : Vec F S1x4096 .i32) (a : FVec F S1x1 .f32) : FVec F S1x1 .f32 :=
  dupOf (BitVec.ofNat 32 (i 0).val) (bK1 X) (bId2 X) (bRow i X g) a

/-- A write over the whole of a buffer leaves it reading what was written, whatever was written before. -/
theorem read_put {Val : EltTy → Type} [∀ e, Nonempty (Val e)] {sig : RefSig} {κ : Kind} {sp : Space} {S : Shape} {e : EltTy}
    (v : View sig κ sp S e) (f : v.ty.Contents Val) {off : Fin S.rank → Nat} (inb : ∀ a, off a + S.size a ≤ S.size a)
    (w : S.Idx → Val e) (L : List (View.Piece Val S e)) (h : ∀ a, off a = 0) :
    v.read Val (v.writes Val f ((⟨Rect.unit off (no_index S.size) inb, w⟩ : View.Piece Val S e) :: L)) = w := by
  have hz : off = 0 := funext h
  subst hz
  rw [View.read_writes_eq_canon _ _ _ (fun y => ⟨_, List.mem_cons_self, by
    show y ∈ (Rect.whole S).set; rw [Rect.set_whole]; exact Finset.mem_univ y⟩)]
  exact View.canon_cons_unit_lit' inb w L (fun _ => rfl)

/-- Replacing the whole of a buffer leaves what was put. -/
theorem overlay_put {α : Type} {S : Shape} {off : Fin S.rank → Nat} (inb : ∀ a, off a + S.size a ≤ S.size a)
    (f w : S.Idx → α) (h : ∀ a, off a = 0) : (Rect.unit off S.size inb).overlay f w = w := by
  funext y
  have e : (Rect.unit off S.size inb).emb y = y := by
    funext a
    apply Fin.ext
    show off a + 1 * (y a).val = (y a).val
    rw [h a]; omega
  calc (Rect.unit off S.size inb).overlay f w y = (Rect.unit off S.size inb).overlay f w ((Rect.unit off S.size inb).emb y) := by rw [e]
    _ = w y := Rect.overlay_emb (Rect.unit off S.size inb) f w y

/-- One write over a part of a buffer leaves it reading the old contents with the part replaced. -/
theorem read_part {Val : EltTy → Type} {sig : RefSig} {κ : Kind} {sp : Space} {S : Shape} {e : EltTy}
    (v : View sig κ sp S e) (f : v.ty.Contents Val) (r : Rect S) (w : r.shape.Idx → Val e) :
    v.read Val (v.writes Val f [(⟨r, w⟩ : View.Piece Val S e)]) = r.overlay (v.read Val f) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', View.writes_nil, Rect.overlay_of_not_mem _ _ _ hy]

/-- Whether the step at `i` prepares the codebooks and clears the totals. -/
abbrev cond0_0 (i : grid0.Coords) : Prop := (Scalar.cmpi .ne (Scalar.extui (Scalar.cmpi .eq (BitVec.ofNat 32 (i 0).val) 0#32)) 0#32) = 1#1

end Cert.KernelIdeal.Hand

end
-- ==== Proof.KIRunA.lean ====
/- One grid step of the kernel, the first: from the input blocks to the values it leaves. -/
module

public import proofs.«01_k».proof.Proof.KIDefs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The grid step at `i` (the first, which also prepares the codebooks and clears the totals) leaves the norms of the
    block, the three totals after it, the prepared codebooks, and the row of codes with the block's codes put in. -/
theorem bodyA (c : Dev nD) (i : grid0.Coords) (arg1 : Memref sig .tc .vmem S1024x768 .f32) (harg1 : arg1.IsWhole) (arg2 : Memref sig .tc .vmem S768x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x128 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S256x512 .f32) (harg14 : arg14.IsWhole) (arg15 : Memref sig .tc .vmem S1x512 .f32) (harg15 : arg15.IsWhole) (arg16 : Memref sig .tc .vmem S512x768 .f32) (harg16 : arg16.IsWhole) (arg17 : Memref sig .tc .vmem S1x768 .f32) (harg17 : arg17.IsWhole) (arg18 : Memref sig .tc .vmem S1024x64 .f32) (harg18 : arg18.IsWhole) (arg19 : Memref sig .tc .vmem S1024x64 .f32) (harg19 : arg19.IsWhole) (arg20 : Memref sig .tc .vmem S1024x64 .f32) (harg20 : arg20.IsWhole) (arg21 : Memref sig .tc .vmem S1024x3 .f32) (harg21 : arg21.IsWhole) (arg22 : Memref sig .tc .vmem S1x1 .f32) (harg22 : arg22.IsWhole) (arg23 : Memref sig .tc .vmem S1x1 .f32) (harg23 : arg23.IsWhole) (arg24 : Memref sig .tc .vmem S1x1 .f32) (harg24 : arg24.IsWhole) (arg25 : Memref sig .tc .vmem S64x1024 .f32) (harg25 : arg25.IsWhole) (arg26 : Memref sig .tc .vmem S64x1024 .f32) (harg26 : arg26.IsWhole) (arg27 : Memref sig .tc .vmem S64x1024 .f32) (harg27 : arg27.IsWhole) (arg28 : Memref sig .tc .vmem S1024x128 .f32) (harg28 : arg28.IsWhole) (arg29 : Memref sig .tc .vmem S1024x128 .f32) (harg29 : arg29.IsWhole) (arg30 : Memref sig .tc .vmem S1024x128 .f32) (harg30 : arg30.IsWhole) (arg31 : Memref sig .tc .vmem S1024x64 .f32) (harg31 : arg31.IsWhole) (arg32 : Memref sig .tc .vmem S1024x64 .f32) (harg32 : arg32.IsWhole) (arg33 : Memref sig .tc .vmem S1024x64 .f32) (harg33 : arg33.IsWhole) (arg34 : Memref sig .tc .vmem S1x4096 .i32) (harg34 : arg34.IsWhole) (hc0 : cond0_0 i)
    (X : Blk F) (g : Vec F S1x4096 .i32) (E : Set ℕ) (K : PUnit → sProp 𝕄) :
    iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.x15 ∗ owns (c : Thread nD τ) arg17 fullShare X.x16 ∗ owns (c : Thread nD τ) arg18 fullShare X.x17 ∗ owns (c : Thread nD τ) arg19 fullShare X.x18 ∗ owns (c : Thread nD τ) arg20 fullShare X.x19
        ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)
        ∗ owns (c : Thread nD τ) arg34 fullShare g
        ∗ (iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.x15 ∗ owns (c : Thread nD τ) arg17 fullShare X.x16 ∗ owns (c : Thread nD τ) arg18 fullShare X.x17 ∗ owns (c : Thread nD τ) arg19 fullShare X.x18 ∗ owns (c : Thread nD τ) arg20 fullShare X.x19
            ∗ owns (c : Thread nD τ) arg21 fullShare (bNorms X) ∗ owns (c : Thread nD τ) arg22 fullShare (bReconAcc X (k0_pay21 (F := F))) ∗ owns (c : Thread nD τ) arg23 fullShare (bLossAcc X (k0_pay22 (F := F))) ∗ owns (c : Thread nD τ) arg24 fullShare (bDup i X g (k0_pay23 (F := F)))
            ∗ owns (c : Thread nD τ) arg25 fullShare (bT0 X) ∗ owns (c : Thread nD τ) arg26 fullShare (bT1 X) ∗ owns (c : Thread nD τ) arg27 fullShare (bT2 X) ∗ owns (c : Thread nD τ) arg28 fullShare (bA0 X) ∗ owns (c : Thread nD τ) arg29 fullShare (bA1 X) ∗ owns (c : Thread nD τ) arg30 fullShare (bA2 X) ∗ owns (c : Thread nD τ) arg31 fullShare (bB0 X) ∗ owns (c : Thread nD τ) arg32 fullShare (bB1 X) ∗ owns (c : Thread nD τ) arg33 fullShare (bB2 X)
            ∗ owns (c : Thread nD τ) arg34 fullShare (bRow i X g)) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
  simp only [cc0__fused_body_eq_skeleton]; unfold cc0__fused_body_skel
  simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%fs9, %hfs9, HS9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg34.eq_unread hfs9
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  isplitl [H19]
  · iexists _; isplitr; · ipureintro; exact harg20.read_unread _
    iexact H19
  isplitl [H20]
  · iexists _; isplitr; swap
    · iexact H20
    · ipureintro
      frame_out [read_put]
      try rfl
  isplitl [H21]
  · iexists _; isplitr; swap
    · iexact H21
    · ipureintro
      frame_out [read_put]
      try rfl
  isplitl [H22]
  · iexists _; isplitr; swap
    · iexact H22
    · ipureintro
      frame_out [read_put]
      try rfl
  isplitl [H23]
  · iexists _; isplitr; swap
    · iexact H23
    · ipureintro
      frame_out [read_put, read_part]
      first | done | rfl | exact (overlay_put _ _ _ (by decide)).trans rfl
  isplitl [HS0]
  · iexists _; isplitr; swap
    · iexact HS0
    · ipureintro
      frame_out [read_put]
      try rfl
  isplitl [HS1]
  · iexists _; isplitr; swap
    · iexact HS1
    · ipureintro
      frame_out [read_put]
      try rfl
  isplitl [HS2]
  · iexists _; isplitr; swap
    · iexact HS2
    · ipureintro
      frame_out [read_put]
      try rfl
  isplitl [HS3]
  · iexists _; isplitr; swap
    · iexact HS3
    · ipureintro
      frame_out [read_put]
      try rfl
  isplitl [HS4]
  · iexists _; isplitr; swap
    · iexact HS4
    · ipureintro
      frame_out [read_put]
      try rfl
  isplitl [HS5]
  · iexists _; isplitr; swap
    · iexact HS5
    · ipureintro
      frame_out [read_put]
      try rfl
  isplitl [HS6]
  · iexists _; isplitr; swap
    · iexact HS6
    · ipureintro
      frame_out [read_put]
      try rfl
  isplitl [HS7]
  · iexists _; isplitr; swap
    · iexact HS7
    · ipureintro
      frame_out [read_put]
      try rfl
  isplitl [HS8]
  · iexists _; isplitr; swap
    · iexact HS8
    · ipureintro
      frame_out [read_put]
      try rfl
  iexists _; isplitr; swap
  · iexact HS9
  · ipureintro
    frame_out [read_put, read_part]
    try rfl

end Cert.KernelIdeal.Hand

end
-- ==== Proof.KIRunB.lean ====
/- One grid step of the kernel, any but the first: from the input blocks to the values it leaves. -/
module

public import proofs.«01_k».proof.Proof.KIDefs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The grid step at `i` (not the first: the prepared codebooks and the totals are found as the step before left them) leaves the norms of the
    block, the three totals after it, the prepared codebooks, and the row of codes with the block's codes put in. -/
theorem bodyB (c : Dev nD) (i : grid0.Coords) (arg1 : Memref sig .tc .vmem S1024x768 .f32) (harg1 : arg1.IsWhole) (arg2 : Memref sig .tc .vmem S768x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x128 .f32) (harg10 : arg10.IsWhole) (arg11 : Memref sig .tc .vmem S1x128 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S256x512 .f32) (harg14 : arg14.IsWhole) (arg15 : Memref sig .tc .vmem S1x512 .f32) (harg15 : arg15.IsWhole) (arg16 : Memref sig .tc .vmem S512x768 .f32) (harg16 : arg16.IsWhole) (arg17 : Memref sig .tc .vmem S1x768 .f32) (harg17 : arg17.IsWhole) (arg18 : Memref sig .tc .vmem S1024x64 .f32) (harg18 : arg18.IsWhole) (arg19 : Memref sig .tc .vmem S1024x64 .f32) (harg19 : arg19.IsWhole) (arg20 : Memref sig .tc .vmem S1024x64 .f32) (harg20 : arg20.IsWhole) (arg21 : Memref sig .tc .vmem S1024x3 .f32) (harg21 : arg21.IsWhole) (arg22 : Memref sig .tc .vmem S1x1 .f32) (harg22 : arg22.IsWhole) (arg23 : Memref sig .tc .vmem S1x1 .f32) (harg23 : arg23.IsWhole) (arg24 : Memref sig .tc .vmem S1x1 .f32) (harg24 : arg24.IsWhole) (arg25 : Memref sig .tc .vmem S64x1024 .f32) (harg25 : arg25.IsWhole) (arg26 : Memref sig .tc .vmem S64x1024 .f32) (harg26 : arg26.IsWhole) (arg27 : Memref sig .tc .vmem S64x1024 .f32) (harg27 : arg27.IsWhole) (arg28 : Memref sig .tc .vmem S1024x128 .f32) (harg28 : arg28.IsWhole) (arg29 : Memref sig .tc .vmem S1024x128 .f32) (harg29 : arg29.IsWhole) (arg30 : Memref sig .tc .vmem S1024x128 .f32) (harg30 : arg30.IsWhole) (arg31 : Memref sig .tc .vmem S1024x64 .f32) (harg31 : arg31.IsWhole) (arg32 : Memref sig .tc .vmem S1024x64 .f32) (harg32 : arg32.IsWhole) (arg33 : Memref sig .tc .vmem S1024x64 .f32) (harg33 : arg33.IsWhole) (arg34 : Memref sig .tc .vmem S1x4096 .i32) (harg34 : arg34.IsWhole) (hc0 : ¬ cond0_0 i)
    (X : Blk F) (g : Vec F S1x4096 .i32) (a21 a22 a23 : FVec F S1x1 .f32) (E : Set ℕ) (K : PUnit → sProp 𝕄) :
    iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.x15 ∗ owns (c : Thread nD τ) arg17 fullShare X.x16 ∗ owns (c : Thread nD τ) arg18 fullShare X.x17 ∗ owns (c : Thread nD τ) arg19 fullShare X.x18 ∗ owns (c : Thread nD τ) arg20 fullShare X.x19
        ∗ (∃ d, owns (c : Thread nD τ) arg21 fullShare d) ∗ owns (c : Thread nD τ) arg22 fullShare a21 ∗ owns (c : Thread nD τ) arg23 fullShare a22 ∗ owns (c : Thread nD τ) arg24 fullShare a23
        ∗ owns (c : Thread nD τ) arg25 fullShare (bT0 X) ∗ owns (c : Thread nD τ) arg26 fullShare (bT1 X) ∗ owns (c : Thread nD τ) arg27 fullShare (bT2 X) ∗ owns (c : Thread nD τ) arg28 fullShare (bA0 X) ∗ owns (c : Thread nD τ) arg29 fullShare (bA1 X) ∗ owns (c : Thread nD τ) arg30 fullShare (bA2 X) ∗ owns (c : Thread nD τ) arg31 fullShare (bB0 X) ∗ owns (c : Thread nD τ) arg32 fullShare (bB1 X) ∗ owns (c : Thread nD τ) arg33 fullShare (bB2 X)
        ∗ owns (c : Thread nD τ) arg34 fullShare g
        ∗ (iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.x15 ∗ owns (c : Thread nD τ) arg17 fullShare X.x16 ∗ owns (c : Thread nD τ) arg18 fullShare X.x17 ∗ owns (c : Thread nD τ) arg19 fullShare X.x18 ∗ owns (c : Thread nD τ) arg20 fullShare X.x19
            ∗ owns (c : Thread nD τ) arg21 fullShare (bNorms X) ∗ owns (c : Thread nD τ) arg22 fullShare (bReconAcc X (a21)) ∗ owns (c : Thread nD τ) arg23 fullShare (bLossAcc X (a22)) ∗ owns (c : Thread nD τ) arg24 fullShare (bDup i X g (a23))
            ∗ owns (c : Thread nD τ) arg25 fullShare (bT0 X) ∗ owns (c : Thread nD τ) arg26 fullShare (bT1 X) ∗ owns (c : Thread nD τ) arg27 fullShare (bT2 X) ∗ owns (c : Thread nD τ) arg28 fullShare (bA0 X) ∗ owns (c : Thread nD τ) arg29 fullShare (bA1 X) ∗ owns (c : Thread nD τ) arg30 fullShare (bA2 X) ∗ owns (c : Thread nD τ) arg31 fullShare (bB0 X) ∗ owns (c : Thread nD τ) arg32 fullShare (bB1 X) ∗ owns (c : Thread nD τ) arg33 fullShare (bB2 X)
            ∗ owns (c : Thread nD τ) arg34 fullShare (bRow i X g)) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
  simp only [cc0__fused_body_eq_skeleton]; unfold cc0__fused_body_skel
  simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%f21, %hf21, H21⟩, ⟨%f22, %hf22, H22⟩, ⟨%f23, %hf23, H23⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, ⟨%fs9, %hfs9, HS9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg22.eq_unread hf21; obtain rfl := harg23.eq_unread hf22; obtain rfl := harg24.eq_unread hf23; obtain rfl := harg25.eq_unread hfs0; obtain rfl := harg26.eq_unread hfs1; obtain rfl := harg27.eq_unread hfs2; obtain rfl := harg28.eq_unread hfs3; obtain rfl := harg29.eq_unread hfs4; obtain rfl := harg30.eq_unread hfs5; obtain rfl := harg31.eq_unread hfs6; obtain rfl := harg32.eq_unread hfs7; obtain rfl := harg33.eq_unread hfs8; obtain rfl := harg34.eq_unread hfs9
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  isplitl [H19]
  · iexists _; isplitr; · ipureintro; exact harg20.read_unread _
    iexact H19
  isplitl [H20]
  · iexists _; isplitr; swap
    · iexact H20
    · ipureintro
      frame_out [read_put]
      try rfl
  isplitl [H21]
  · iexists _; isplitr; swap
    · iexact H21
    · ipureintro
      frame_out [read_put]
      try rfl
  isplitl [H22]
  · iexists _; isplitr; swap
    · iexact H22
    · ipureintro
      frame_out [read_put]
      try rfl
  isplitl [H23]
  · iexists _; isplitr; swap
    · iexact H23
    · ipureintro
      frame_out [read_put, read_part]
      first | done | rfl | exact (overlay_put _ _ _ (by decide)).trans rfl
  isplitl [HS0]
  · iexists _; isplitr; · ipureintro; exact harg25.read_unread _
    iexact HS0
  isplitl [HS1]
  · iexists _; isplitr; · ipureintro; exact harg26.read_unread _
    iexact HS1
  isplitl [HS2]
  · iexists _; isplitr; · ipureintro; exact harg27.read_unread _
    iexact HS2
  isplitl [HS3]
  · iexists _; isplitr; · ipureintro; exact harg28.read_unread _
    iexact HS3
  isplitl [HS4]
  · iexists _; isplitr; · ipureintro; exact harg29.read_unread _
    iexact HS4
  isplitl [HS5]
  · iexists _; isplitr; · ipureintro; exact harg30.read_unread _
    iexact HS5
  isplitl [HS6]
  · iexists _; isplitr; · ipureintro; exact harg31.read_unread _
    iexact HS6
  isplitl [HS7]
  · iexists _; isplitr; · ipureintro; exact harg32.read_unread _
    iexact HS7
  isplitl [HS8]
  · iexists _; isplitr; · ipureintro; exact harg33.read_unread _
    iexact HS8
  iexists _; isplitr; swap
  · iexact HS9
  · ipureintro
    frame_out [read_put, read_part]
    try rfl

end Cert.KernelIdeal.Hand

end
-- ==== Proof.KIRow.lean ====
/- The row of codes: only the columns before the end of the block matter to the count of repeats. -/
module

public import proofs.«01_k».proof.Proof.KIDefs
public import Idealize.ShloMosaic.Lib.Pointwise

@[expose] public section

set_option maxRecDepth 16384

noncomputable section

namespace Cert.KernelIdeal.Hand

open Idealize.ShloMosaic
open Cert.KernelIdeal.Gen

variable {F : FTy → Type} [FloatOps F]

/-- Which columns of a stretch of the row of codes, starting at column `c`, hold a row's own code and come before the row. -/
def hitOf (key : IVec S1024x1 32) (rows cols : IVec S1024x1024 32) (c : BitVec 32) (w : IVec S1x1024 32) : IVec S1024x1024 1 :=
  andi (cmpi .eq (broadcastTo S1024x1024 key broadcasts_S1024x1_S1024x1024) (broadcastTo S1024x1024 w broadcasts_S1x1024_S1024x1024))
    (cmpi .slt (addi (broadcast S1024x1024 c) cols) rows)

/-- The offset of a step's own stretch of the row of codes. -/
theorem off1_eq (i : grid0.Coords) : k0_off1 i = ![0, (i 0).val * 1024] := by
  have hi : (i 0).val < 4 := (i 0).isLt
  unfold k0_off1
  funext a
  fin_cases a
  · rfl
  · generalize (i 0).val = n at hi ⊢
    interval_cases n <;> rfl

/-- After a step puts its codes, rows of codes that agreed before its stretch agree up to the stretch's end. -/
theorem row_agree (i : grid0.Coords) (X : Blk F) (g g' : IVec S1x4096 32)
    (h : ∀ j : S1x4096.Idx, (j 1).val < (i 0).val * 1024 → g j = g' j) (j : S1x4096.Idx)
    (hj : (j 1).val < ((i 0).val + 1) * 1024) : bRow (F := F) i X g j = bRow (F := F) i X g' j := by
  unfold bRow
  by_cases hm : j ∈ (Rect.unit (s := S1x4096) (k0_off1 i) S1x1024.size (k0_off1_inb i)).set
  · obtain ⟨x, rfl⟩ := (Rect.unit (s := S1x4096) (k0_off1 i) S1x1024.size (k0_off1_inb i)).exists_idx_of_mem hm
    exact (Rect.overlay_emb _ _ _ x).trans (Rect.overlay_emb _ _ _ x).symm
  · rw [Rect.overlay_of_not_mem _ _ _ hm, Rect.overlay_of_not_mem _ _ _ hm]
    apply h
    by_contra hlt
    apply hm
    rw [Rect.mem_set_unit]
    intro a
    rw [off1_eq]
    have h0 : (j 0).val < 1 := (j 0).isLt
    fin_cases a
    · exact ⟨Nat.zero_le _, by simpa using h0⟩
    · refine ⟨by show (i 0).val * 1024 ≤ (j 1).val; omega, ?_⟩
      show (j 1).val < (i 0).val * 1024 + 1024
      omega

/-- Comparing two small words as signed numbers is comparing the numbers. -/
theorem slt_ofNat (a b : ℕ) (ha : a < 2 ^ 31) (hb : b < 2 ^ 31) :
    IntOp.cmpi CmpIPredicate.slt (BitVec.ofNat 32 a) (BitVec.ofNat 32 b) = if a < b then 1#1 else 0#1 := by
  have e (n : ℕ) (h : n < 2 ^ 31) : (BitVec.ofNat 32 n).toInt = n := by
    rw [BitVec.toInt_eq_toNat_cond, BitVec.toNat_ofNat, Nat.mod_eq_of_lt (by omega), if_pos (by omega)]
  have hs : (BitVec.ofNat 32 a).slt (BitVec.ofNat 32 b) = decide (a < b) := by
    rw [BitVec.slt, e a ha, e b hb]; simp
  simp only [IntOp.cmpi, hs]
  by_cases h : a < b <;> simp [h]

/-- The comparison of a column's place with a row's place, in words, is the comparison of the places. -/
theorem place_cmp (n : ℕ) (hn : n < 4) (c : ℕ) (hc : c ≤ 3072) (l r : ℕ) (hl : l < 1024) (hr : r < 1024) :
    IntOp.cmpi CmpIPredicate.slt (IntOp.addi (BitVec.ofNat 32 c) (BitVec.ofNat 32 l))
        (IntOp.addi (Scalar.muli (BitVec.ofNat 32 n) 1024#32) (BitVec.ofNat 32 r))
      = if c + l < n * 1024 + r then 1#1 else 0#1 := by
  rw [← slt_ofNat (c + l) (n * 1024 + r) (by omega) (by omega), BitVec.ofNat_add, BitVec.ofNat_add, BitVec.ofNat_mul]
  rfl

/-- What a stretch says of the columns before a row depends only on the columns before the block's end. -/
theorem hit_congr (i : grid0.Coords) (key : IVec S1024x1 32) (c : ℕ) (hc : c ≤ 3072) (w w' : IVec S1x1024 32)
    (h : ∀ j : S1x1024.Idx, c + (j 1).val < ((i 0).val + 1) * 1024 → w j = w' j) :
    hitOf key (k0_pay49 (BitVec.ofNat 32 (i 0).val)) colIota (BitVec.ofNat 32 c) w
      = hitOf key (k0_pay49 (BitVec.ofNat 32 (i 0).val)) colIota (BitVec.ofNat 32 c) w' := by
  funext j
  have hi : (i 0).val < 4 := (i 0).isLt
  unfold hitOf k0_pay49 colIota
  pointwise
  have h0 : (j 0).val < 1024 := (j 0).isLt
  have h1 : (j 1).val < 1024 := (j 1).isLt
  rw [place_cmp _ hi c hc _ _ h1 h0]
  by_cases hlt : c + (j 1).val < ((i 0).val + 1) * 1024
  · rw [h (ix2 0 (j 1)) hlt]
  · rw [if_neg (by omega)]
    simp [IntOp.andi]

theorem ld_agree (i : grid0.Coords) (g g' : IVec S1x4096 32)
    (h : ∀ j : S1x4096.Idx, (j 1).val < ((i 0).val + 1) * 1024 → g j = g' j) (c : ℕ) (inb) (j : S1x1024.Idx)
    (hj : c + (j 1).val < ((i 0).val + 1) * 1024) :
    View.ld (Val := Elt F) (e' := .i32) g (Rect.unit (s := S1x4096) ![0, c] S1x1024.size inb) j
      = View.ld (Val := Elt F) (e' := .i32) g' (Rect.unit (s := S1x4096) ![0, c] S1x1024.size inb) j := by
  unfold View.ld
  apply h
  show c + 1 * (j 1).val < _
  omega

theorem pay50_congr (a0 : BitVec 32) (k1 id2 : IVec S1024x1 32) (w w' : IVec S1x1024 32)
    (h : hitOf (k0_pay46 k1 id2) (k0_pay49 a0) colIota 0#32 w = hitOf (k0_pay46 k1 id2) (k0_pay49 a0) colIota 0#32 w') :
    k0_pay50 (F := F) a0 k1 id2 w = k0_pay50 (F := F) a0 k1 id2 w' := by
  unfold hitOf colIota at h
  unfold k0_pay50
  dsimp only
  rw [h]

theorem pay51_congr (key : IVec S1024x1 32) (rows : IVec S1024x1024 32) (b : IVec S1024x1 1) (w w' u u' : IVec S1x1024 32)
    (h : hitOf key rows colIota 1024#32 w = hitOf key rows colIota 1024#32 w')
    (h' : hitOf key rows colIota 2048#32 u = hitOf key rows colIota 2048#32 u') :
    k0_pay51 (F := F) key rows colIota b w u = k0_pay51 (F := F) key rows colIota b w' u' := by
  unfold hitOf at h h'
  unfold k0_pay51
  dsimp only
  rw [h, h']

theorem pay52_congr (key : IVec S1024x1 32) (rows : IVec S1024x1024 32) (w w' : IVec S1x1024 32)
    (h : hitOf key rows colIota 3072#32 w = hitOf key rows colIota 3072#32 w') :
    k0_pay52 (F := F) key rows colIota w = k0_pay52 (F := F) key rows colIota w' := by
  unfold hitOf at h
  unfold k0_pay52
  dsimp only
  rw [h]

/-- The count of repeats after a step depends on the row of codes only before the end of the step's own stretch. -/
theorem dup_row_congr (i : grid0.Coords) (k1 id2 : IVec S1024x1 32) (g g' : IVec S1x4096 32)
    (h : ∀ j : S1x4096.Idx, (j 1).val < ((i 0).val + 1) * 1024 → g j = g' j) (a : FVec F S1x1 .f32) :
    dupOf (F := F) (BitVec.ofNat 32 (i 0).val) k1 id2 g a = dupOf (F := F) (BitVec.ofNat 32 (i 0).val) k1 id2 g' a := by
  have H (c : ℕ) (hc : c ≤ 3072) (inb) := hit_congr i (k0_pay46 k1 id2) c hc _ _ (ld_agree (F := F) i g g' h c inb)
  unfold dupOf
  rw [pay50_congr _ _ _ _ _ (H 0 (by omega) _), pay51_congr _ _ _ _ _ _ _ (H 1024 (by omega) _) (H 2048 (by omega) _),
    pay52_congr _ _ _ _ (H 3072 (by omega) _)]

/-- The count of repeats after a step, from rows of codes that agreed before its stretch, is the same. -/
theorem dup_agree (i : grid0.Coords) (X : Blk F) (g g' : IVec S1x4096 32)
    (h : ∀ j : S1x4096.Idx, (j 1).val < (i 0).val * 1024 → g j = g' j) (a : FVec F S1x1 .f32) :
    bDup (F := F) i X g a = bDup (F := F) i X g' a :=
  dup_row_congr i _ _ _ _ (row_agree i X g g' h) a

end Cert.KernelIdeal.Hand

end
-- ==== Proof.KILaunch.lean ====
/- The kernel's launch: what every grid step finds and leaves, and what the whole program leaves. -/
module

public import proofs.«01_k».proof.Proof.KIRunA
public import proofs.«01_k».proof.Proof.KIRunB
public import proofs.«01_k».proof.Proof.KIRow
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The codebooks are prepared exactly at the first point. -/
theorem hcond0_0 : ∀ t : Fin cfg0.N, cond0_0 (grid0.coords t) ↔ t.val % 4 = 0 := fun t => by
  have e0 : (grid0.coords t 0).val = t.val / 1 % 4 := Pipeline.Grid.coords_val t 0 (by decide) rfl
  simp only [cond0_0, e0]
  word_cmp

/-- The grid coordinate of a point is its number. -/
theorem coord_val (t : Fin cfg0.N) : (grid0.coords t 0).val = t.val := by
  have e0 : (grid0.coords t 0).val = t.val / 1 % 4 := Pipeline.Grid.coords_val t 0 (by decide) rfl
  have hN : t.val < 4 := lt_of_lt_of_eq t.isLt (show cfg0.N = 4 from N_0)
  rw [e0]; omega

abbrev ms0_0 (t : Fin cfg0.N) : Memref sig .tc .vmem S1024x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x512 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S512x768 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x768 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1024x64 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1024x64 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1024x64 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1024x3 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x1 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x1 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S1x1 .f32 := win0_23.stage (cfg0.slots t 23)
abbrev hs0_23 (t : Fin cfg0.N) : (ms0_23 t).IsWhole := hstage0_23 ((cfg0.slots t 23).cast nbuf0_23)
abbrev scM0_0 : Memref sig .tc .vmem S64x1024 .f32 := Memref.whole cc0_scratch0
abbrev scM0_1 : Memref sig .tc .vmem S64x1024 .f32 := Memref.whole cc0_scratch1
abbrev scM0_2 : Memref sig .tc .vmem S64x1024 .f32 := Memref.whole cc0_scratch2
abbrev scM0_3 : Memref sig .tc .vmem S1024x128 .f32 := Memref.whole cc0_scratch3
abbrev scM0_4 : Memref sig .tc .vmem S1024x128 .f32 := Memref.whole cc0_scratch4
abbrev scM0_5 : Memref sig .tc .vmem S1024x128 .f32 := Memref.whole cc0_scratch5
abbrev scM0_6 : Memref sig .tc .vmem S1024x64 .f32 := Memref.whole cc0_scratch6
abbrev scM0_7 : Memref sig .tc .vmem S1024x64 .f32 := Memref.whole cc0_scratch7
abbrev scM0_8 : Memref sig .tc .vmem S1024x64 .f32 := Memref.whole cc0_scratch8
abbrev scM0_9 : Memref sig .tc .vmem S1x4096 .i32 := Memref.whole cc0_scratch9

/-- What the launch hands the first step, buffer by buffer. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

/-- The twenty blocks the step at `t` reads. -/
def blkAt (c : Dev nD) (t : Fin cfg0.N) : Blk F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t⟩

/-- The codebooks are read whole at every step. -/
theorem cb0_const (c : Dev nD) (t t' : Fin cfg0.N) : (blkAt m c t).x17 = (blkAt m c t').x17 := rfl
theorem cb1_const (c : Dev nD) (t t' : Fin cfg0.N) : (blkAt m c t).x18 = (blkAt m c t').x18 := rfl
theorem cb2_const (c : Dev nD) (t t' : Fin cfg0.N) : (blkAt m c t).x19 = (blkAt m c t').x19 := rfl

/-- So what is prepared from them at one step is what any other would prepare. -/
theorem cbT0 (c : Dev nD) (t t' : Fin cfg0.N) : bT0 (blkAt m c t) = bT0 (blkAt m c t') := by unfold bT0; rw [cb0_const m c t t']
theorem cbT1 (c : Dev nD) (t t' : Fin cfg0.N) : bT1 (blkAt m c t) = bT1 (blkAt m c t') := by unfold bT1; rw [cb1_const m c t t']
theorem cbT2 (c : Dev nD) (t t' : Fin cfg0.N) : bT2 (blkAt m c t) = bT2 (blkAt m c t') := by unfold bT2; rw [cb2_const m c t t']
theorem cbA0 (c : Dev nD) (t t' : Fin cfg0.N) : bA0 (blkAt m c t) = bA0 (blkAt m c t') := by unfold bA0; rw [cb0_const m c t t']
theorem cbA1 (c : Dev nD) (t t' : Fin cfg0.N) : bA1 (blkAt m c t) = bA1 (blkAt m c t') := by unfold bA1; rw [cb1_const m c t t']
theorem cbA2 (c : Dev nD) (t t' : Fin cfg0.N) : bA2 (blkAt m c t) = bA2 (blkAt m c t') := by unfold bA2; rw [cb2_const m c t t']
theorem cbB0 (c : Dev nD) (t t' : Fin cfg0.N) : bB0 (blkAt m c t) = bB0 (blkAt m c t') := by unfold bB0; rw [cb0_const m c t t']
theorem cbB1 (c : Dev nD) (t t' : Fin cfg0.N) : bB1 (blkAt m c t) = bB1 (blkAt m c t') := by unfold bB1; rw [cb1_const m c t t']
theorem cbB2 (c : Dev nD) (t t' : Fin cfg0.N) : bB2 (blkAt m c t) = bB2 (blkAt m c t') := by unfold bB2; rw [cb2_const m c t t']
/-- The row of codes after the step at `n`, over a row of zeros. -/
def rowAt (c : Dev nD) : (n : ℕ) → n < cfg0.N → Vec F S1x4096 .i32
  | 0, h => bRow (grid0.coords ⟨0, h⟩) (blkAt m c ⟨0, h⟩) (fun _ => (0#32 : BitVec 32))
  | n + 1, h => bRow (grid0.coords ⟨n + 1, h⟩) (blkAt m c ⟨n + 1, h⟩) (rowAt c n (Nat.lt_of_succ_lt h))
/-- The three totals after the step at `n`. -/
def reconAt (c : Dev nD) : (n : ℕ) → n < cfg0.N → FVec F S1x1 .f32
  | 0, h => bReconAcc (blkAt m c ⟨0, h⟩) (k0_pay21 (F := F))
  | n + 1, h => bReconAcc (blkAt m c ⟨n + 1, h⟩) (reconAt c n (Nat.lt_of_succ_lt h))
def lossAt (c : Dev nD) : (n : ℕ) → n < cfg0.N → FVec F S1x1 .f32
  | 0, h => bLossAcc (blkAt m c ⟨0, h⟩) (k0_pay22 (F := F))
  | n + 1, h => bLossAcc (blkAt m c ⟨n + 1, h⟩) (lossAt c n (Nat.lt_of_succ_lt h))
def dupAt (c : Dev nD) : (n : ℕ) → n < cfg0.N → FVec F S1x1 .f32
  | 0, h => bDup (grid0.coords ⟨0, h⟩) (blkAt m c ⟨0, h⟩) (fun _ => (0#32 : BitVec 32)) (k0_pay23 (F := F))
  | n + 1, h => bDup (grid0.coords ⟨n + 1, h⟩) (blkAt m c ⟨n + 1, h⟩) (rowAt m c n (Nat.lt_of_succ_lt h)) (dupAt c n (Nat.lt_of_succ_lt h))

/-- What the step before `n` left: before the first, anything; afterwards the prepared codebooks and a row of codes
    right up to the step's end. -/
def PhiK (c : Dev nD) : (n : ℕ) → n ≤ cfg0.N → sProp 𝕄
  | 0, _ => Pipeline.ΦA spec0 c
  | n + 1, hn => iprop(iprop(owns (c : Thread nD τ) scM0_0 fullShare (bT0 (blkAt m c ⟨n, hn⟩)) ∗ owns (c : Thread nD τ) scM0_1 fullShare (bT1 (blkAt m c ⟨n, hn⟩)) ∗ owns (c : Thread nD τ) scM0_2 fullShare (bT2 (blkAt m c ⟨n, hn⟩)) ∗ owns (c : Thread nD τ) scM0_3 fullShare (bA0 (blkAt m c ⟨n, hn⟩)) ∗ owns (c : Thread nD τ) scM0_4 fullShare (bA1 (blkAt m c ⟨n, hn⟩)) ∗ owns (c : Thread nD τ) scM0_5 fullShare (bA2 (blkAt m c ⟨n, hn⟩)) ∗ owns (c : Thread nD τ) scM0_6 fullShare (bB0 (blkAt m c ⟨n, hn⟩)) ∗ owns (c : Thread nD τ) scM0_7 fullShare (bB1 (blkAt m c ⟨n, hn⟩)) ∗ owns (c : Thread nD τ) scM0_8 fullShare (bB2 (blkAt m c ⟨n, hn⟩)) ∗ (∃ g : Vec F S1x4096 .i32, ⌜∀ j : S1x4096.Idx, (j 1).val < (n + 1) * 1024 → g j = rowAt m c n hn j⌝ ∗ owns (c : Thread nD τ) scM0_9 fullShare g)) ∗ (∃ r, prngReg c r))

theorem PhiK_zero (c : Dev nD) (n : ℕ) (h : n ≤ cfg0.N) (hz : n = 0) : PhiK m c n h = Pipeline.ΦA spec0 c := by
  subst hz; rfl

theorem PhiK_succ (c : Dev nD) (n : ℕ) (hn : n < cfg0.N) :
    PhiK m c (n + 1) hn = iprop(iprop(owns (c : Thread nD τ) scM0_0 fullShare (bT0 (blkAt m c ⟨n, hn⟩)) ∗ owns (c : Thread nD τ) scM0_1 fullShare (bT1 (blkAt m c ⟨n, hn⟩)) ∗ owns (c : Thread nD τ) scM0_2 fullShare (bT2 (blkAt m c ⟨n, hn⟩)) ∗ owns (c : Thread nD τ) scM0_3 fullShare (bA0 (blkAt m c ⟨n, hn⟩)) ∗ owns (c : Thread nD τ) scM0_4 fullShare (bA1 (blkAt m c ⟨n, hn⟩)) ∗ owns (c : Thread nD τ) scM0_5 fullShare (bA2 (blkAt m c ⟨n, hn⟩)) ∗ owns (c : Thread nD τ) scM0_6 fullShare (bB0 (blkAt m c ⟨n, hn⟩)) ∗ owns (c : Thread nD τ) scM0_7 fullShare (bB1 (blkAt m c ⟨n, hn⟩)) ∗ owns (c : Thread nD τ) scM0_8 fullShare (bB2 (blkAt m c ⟨n, hn⟩)) ∗ (∃ g : Vec F S1x4096 .i32, ⌜∀ j : S1x4096.Idx, (j 1).val < (n + 1) * 1024 → g j = rowAt m c n hn j⌝ ∗ owns (c : Thread nD τ) scM0_9 fullShare g)) ∗ (∃ r, prngReg c r)) := rfl

theorem PhiK_pos (c : Dev nD) (n : ℕ) (h : n ≤ cfg0.N) (hz : n ≠ 0) :
    PhiK m c n h = iprop(iprop(owns (c : Thread nD τ) scM0_0 fullShare (bT0 (blkAt m c ⟨n - 1, by omega⟩)) ∗ owns (c : Thread nD τ) scM0_1 fullShare (bT1 (blkAt m c ⟨n - 1, by omega⟩)) ∗ owns (c : Thread nD τ) scM0_2 fullShare (bT2 (blkAt m c ⟨n - 1, by omega⟩)) ∗ owns (c : Thread nD τ) scM0_3 fullShare (bA0 (blkAt m c ⟨n - 1, by omega⟩)) ∗ owns (c : Thread nD τ) scM0_4 fullShare (bA1 (blkAt m c ⟨n - 1, by omega⟩)) ∗ owns (c : Thread nD τ) scM0_5 fullShare (bA2 (blkAt m c ⟨n - 1, by omega⟩)) ∗ owns (c : Thread nD τ) scM0_6 fullShare (bB0 (blkAt m c ⟨n - 1, by omega⟩)) ∗ owns (c : Thread nD τ) scM0_7 fullShare (bB1 (blkAt m c ⟨n - 1, by omega⟩)) ∗ owns (c : Thread nD τ) scM0_8 fullShare (bB2 (blkAt m c ⟨n - 1, by omega⟩)) ∗ (∃ g : Vec F S1x4096 .i32, ⌜∀ j : S1x4096.Idx, (j 1).val < ((n - 1) + 1) * 1024 → g j = rowAt m c (n - 1) (by omega) j⌝ ∗ owns (c : Thread nD τ) scM0_9 fullShare g)) ∗ (∃ r, prngReg c r)) := by
  cases n with
  | zero => exact absurd rfl hz
  | succ n => rfl

/-- What every step finds and leaves in each window's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => bNorms (blkAt m c t)
    | ⟨21, _⟩ => reconAt m c t.val t.isLt
    | ⟨22, _⟩ => lossAt m c t.val t.isLt
    | ⟨23, _⟩ => dupAt m c t.val t.isLt
    | ⟨_ + 24, h⟩ => absurd h (Nat.not_lt.2 (Nat.le_add_left _ _))
  Φ t := PhiK m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiK m c t.val (Nat.le_of_lt t.isLt) := by
  dsimp only [dats]; exact Pipeline.Dat.Φ_castSucc (PhiK m c) t

theorem after0_0 (c : Dev nD) (t : Fin cfg0.N) : (dats m 0 c).after 0 t = (blkAt m c t).x0 := by dsimp only [dats]; rfl
theorem after0_1 (c : Dev nD) (t : Fin cfg0.N) : (dats m 0 c).after 1 t = (blkAt m c t).x1 := by dsimp only [dats]; rfl
theorem after0_2 (c : Dev nD) (t : Fin cfg0.N) : (dats m 0 c).after 2 t = (blkAt m c t).x2 := by dsimp only [dats]; rfl
theorem after0_3 (c : Dev nD) (t : Fin cfg0.N) : (dats m 0 c).after 3 t = (blkAt m c t).x3 := by dsimp only [dats]; rfl
theorem after0_4 (c : Dev nD) (t : Fin cfg0.N) : (dats m 0 c).after 4 t = (blkAt m c t).x4 := by dsimp only [dats]; rfl
theorem after0_5 (c : Dev nD) (t : Fin cfg0.N) : (dats m 0 c).after 5 t = (blkAt m c t).x5 := by dsimp only [dats]; rfl
theorem after0_6 (c : Dev nD) (t : Fin cfg0.N) : (dats m 0 c).after 6 t = (blkAt m c t).x6 := by dsimp only [dats]; rfl
theorem after0_7 (c : Dev nD) (t : Fin cfg0.N) : (dats m 0 c).after 7 t = (blkAt m c t).x7 := by dsimp only [dats]; rfl
theorem after0_8 (c : Dev nD) (t : Fin cfg0.N) : (dats m 0 c).after 8 t = (blkAt m c t).x8 := by dsimp only [dats]; rfl
theorem after0_9 (c : Dev nD) (t : Fin cfg0.N) : (dats m 0 c).after 9 t = (blkAt m c t).x9 := by dsimp only [dats]; rfl
theorem after0_10 (c : Dev nD) (t : Fin cfg0.N) : (dats m 0 c).after 10 t = (blkAt m c t).x10 := by dsimp only [dats]; rfl
theorem after0_11 (c : Dev nD) (t : Fin cfg0.N) : (dats m 0 c).after 11 t = (blkAt m c t).x11 := by dsimp only [dats]; rfl
theorem after0_12 (c : Dev nD) (t : Fin cfg0.N) : (dats m 0 c).after 12 t = (blkAt m c t).x12 := by dsimp only [dats]; rfl
theorem after0_13 (c : Dev nD) (t : Fin cfg0.N) : (dats m 0 c).after 13 t = (blkAt m c t).x13 := by dsimp only [dats]; rfl
theorem after0_14 (c : Dev nD) (t : Fin cfg0.N) : (dats m 0 c).after 14 t = (blkAt m c t).x14 := by dsimp only [dats]; rfl
theorem after0_15 (c : Dev nD) (t : Fin cfg0.N) : (dats m 0 c).after 15 t = (blkAt m c t).x15 := by dsimp only [dats]; rfl
theorem after0_16 (c : Dev nD) (t : Fin cfg0.N) : (dats m 0 c).after 16 t = (blkAt m c t).x16 := by dsimp only [dats]; rfl
theorem after0_17 (c : Dev nD) (t : Fin cfg0.N) : (dats m 0 c).after 17 t = (blkAt m c t).x17 := by dsimp only [dats]; rfl
theorem after0_18 (c : Dev nD) (t : Fin cfg0.N) : (dats m 0 c).after 18 t = (blkAt m c t).x18 := by dsimp only [dats]; rfl
theorem after0_19 (c : Dev nD) (t : Fin cfg0.N) : (dats m 0 c).after 19 t = (blkAt m c t).x19 := by dsimp only [dats]; rfl
theorem after0_20 (c : Dev nD) (t : Fin cfg0.N) : (dats m 0 c).after 20 t = bNorms (blkAt m c t) := by dsimp only [dats]
theorem after0_21 (c : Dev nD) (t : Fin cfg0.N) : (dats m 0 c).after 21 t = reconAt m c t.val t.isLt := by dsimp only [dats]
theorem after0_22 (c : Dev nD) (t : Fin cfg0.N) : (dats m 0 c).after 22 t = lossAt m c t.val t.isLt := by dsimp only [dats]
theorem after0_23 (c : Dev nD) (t : Fin cfg0.N) : (dats m 0 c).after 23 t = dupAt m c t.val t.isLt := by dsimp only [dats]
theorem before0_0 (c : Dev nD) (t : Fin cfg0.N) (d) : (dats m 0 c).before 0 t d = (blkAt m c t).x0 :=
  before0_0_of m (dats m 0 c) (A_eq m c 0) (after0_0 m c) t d
theorem before0_1 (c : Dev nD) (t : Fin cfg0.N) (d) : (dats m 0 c).before 1 t d = (blkAt m c t).x1 :=
  before0_1_of m (dats m 0 c) (A_eq m c 1) (after0_1 m c) t d
theorem before0_2 (c : Dev nD) (t : Fin cfg0.N) (d) : (dats m 0 c).before 2 t d = (blkAt m c t).x2 :=
  before0_2_of m (dats m 0 c) (A_eq m c 2) (after0_2 m c) t d
theorem before0_3 (c : Dev nD) (t : Fin cfg0.N) (d) : (dats m 0 c).before 3 t d = (blkAt m c t).x3 :=
  before0_3_of m (dats m 0 c) (A_eq m c 3) (after0_3 m c) t d
theorem before0_4 (c : Dev nD) (t : Fin cfg0.N) (d) : (dats m 0 c).before 4 t d = (blkAt m c t).x4 :=
  before0_4_of m (dats m 0 c) (A_eq m c 4) (after0_4 m c) t d
theorem before0_5 (c : Dev nD) (t : Fin cfg0.N) (d) : (dats m 0 c).before 5 t d = (blkAt m c t).x5 :=
  before0_5_of m (dats m 0 c) (A_eq m c 5) (after0_5 m c) t d
theorem before0_6 (c : Dev nD) (t : Fin cfg0.N) (d) : (dats m 0 c).before 6 t d = (blkAt m c t).x6 :=
  before0_6_of m (dats m 0 c) (A_eq m c 6) (after0_6 m c) t d
theorem before0_7 (c : Dev nD) (t : Fin cfg0.N) (d) : (dats m 0 c).before 7 t d = (blkAt m c t).x7 :=
  before0_7_of m (dats m 0 c) (A_eq m c 7) (after0_7 m c) t d
theorem before0_8 (c : Dev nD) (t : Fin cfg0.N) (d) : (dats m 0 c).before 8 t d = (blkAt m c t).x8 :=
  before0_8_of m (dats m 0 c) (A_eq m c 8) (after0_8 m c) t d
theorem before0_9 (c : Dev nD) (t : Fin cfg0.N) (d) : (dats m 0 c).before 9 t d = (blkAt m c t).x9 :=
  before0_9_of m (dats m 0 c) (A_eq m c 9) (after0_9 m c) t d
theorem before0_10 (c : Dev nD) (t : Fin cfg0.N) (d) : (dats m 0 c).before 10 t d = (blkAt m c t).x10 :=
  before0_10_of m (dats m 0 c) (A_eq m c 10) (after0_10 m c) t d
theorem before0_11 (c : Dev nD) (t : Fin cfg0.N) (d) : (dats m 0 c).before 11 t d = (blkAt m c t).x11 :=
  before0_11_of m (dats m 0 c) (A_eq m c 11) (after0_11 m c) t d
theorem before0_12 (c : Dev nD) (t : Fin cfg0.N) (d) : (dats m 0 c).before 12 t d = (blkAt m c t).x12 :=
  before0_12_of m (dats m 0 c) (A_eq m c 12) (after0_12 m c) t d
theorem before0_13 (c : Dev nD) (t : Fin cfg0.N) (d) : (dats m 0 c).before 13 t d = (blkAt m c t).x13 :=
  before0_13_of m (dats m 0 c) (A_eq m c 13) (after0_13 m c) t d
theorem before0_14 (c : Dev nD) (t : Fin cfg0.N) (d) : (dats m 0 c).before 14 t d = (blkAt m c t).x14 :=
  before0_14_of m (dats m 0 c) (A_eq m c 14) (after0_14 m c) t d
theorem before0_15 (c : Dev nD) (t : Fin cfg0.N) (d) : (dats m 0 c).before 15 t d = (blkAt m c t).x15 :=
  before0_15_of m (dats m 0 c) (A_eq m c 15) (after0_15 m c) t d
theorem before0_16 (c : Dev nD) (t : Fin cfg0.N) (d) : (dats m 0 c).before 16 t d = (blkAt m c t).x16 :=
  before0_16_of m (dats m 0 c) (A_eq m c 16) (after0_16 m c) t d
theorem before0_17 (c : Dev nD) (t : Fin cfg0.N) (d) : (dats m 0 c).before 17 t d = (blkAt m c t).x17 :=
  before0_17_of m (dats m 0 c) (A_eq m c 17) (after0_17 m c) t d
theorem before0_18 (c : Dev nD) (t : Fin cfg0.N) (d) : (dats m 0 c).before 18 t d = (blkAt m c t).x18 :=
  before0_18_of m (dats m 0 c) (A_eq m c 18) (after0_18 m c) t d
theorem before0_19 (c : Dev nD) (t : Fin cfg0.N) (d) : (dats m 0 c).before 19 t d = (blkAt m c t).x19 :=
  before0_19_of m (dats m 0 c) (A_eq m c 19) (after0_19 m c) t d
theorem before0_21 (c : Dev nD) (t : Fin cfg0.N) (ht : t.val ≠ 0) (d) :
    (dats m 0 c).before 21 t d = reconAt m c (t.val - 1) (Nat.lt_of_le_of_lt (Nat.sub_le _ _) t.isLt) := by
  have hN : t.val < 4 := lt_of_lt_of_eq t.isLt (show cfg0.N = 4 from N_0)
  rw [(dats m 0 c).before_out_kept 21 rfl t ht (by
      rw [← Bool.not_eq_true, flush0_21]; show ¬ (t.val - 1) % 4 = 3; omega) (fun _ => rfl) (fun _ _ => rfl) d, after0_21]
theorem before0_22 (c : Dev nD) (t : Fin cfg0.N) (ht : t.val ≠ 0) (d) :
    (dats m 0 c).before 22 t d = lossAt m c (t.val - 1) (Nat.lt_of_le_of_lt (Nat.sub_le _ _) t.isLt) := by
  have hN : t.val < 4 := lt_of_lt_of_eq t.isLt (show cfg0.N = 4 from N_0)
  rw [(dats m 0 c).before_out_kept 22 rfl t ht (by
      rw [← Bool.not_eq_true, flush0_22]; show ¬ (t.val - 1) % 4 = 3; omega) (fun _ => rfl) (fun _ _ => rfl) d, after0_22]
theorem before0_23 (c : Dev nD) (t : Fin cfg0.N) (ht : t.val ≠ 0) (d) :
    (dats m 0 c).before 23 t d = dupAt m c (t.val - 1) (Nat.lt_of_le_of_lt (Nat.sub_le _ _) t.isLt) := by
  have hN : t.val < 4 := lt_of_lt_of_eq t.isLt (show cfg0.N = 4 from N_0)
  rw [(dats m 0 c).before_out_kept 23 rfl t ht (by
      rw [← Bool.not_eq_true, flush0_23]; show ¬ (t.val - 1) % 4 = 3; omega) (fun _ => rfl) (fun _ _ => rfl) d, after0_23]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

/-- The totals after the first step and after a later one. -/
theorem recon_zero (c : Dev nD) (t : Fin cfg0.N) (hz : t.val = 0) :
    reconAt m c t.val t.isLt = bReconAcc (blkAt m c t) (k0_pay21 (F := F)) := by
  obtain ⟨n, hn⟩ := t; obtain rfl : n = 0 := hz; rfl
theorem loss_zero (c : Dev nD) (t : Fin cfg0.N) (hz : t.val = 0) :
    lossAt m c t.val t.isLt = bLossAcc (blkAt m c t) (k0_pay22 (F := F)) := by
  obtain ⟨n, hn⟩ := t; obtain rfl : n = 0 := hz; rfl
theorem dup_zero (c : Dev nD) (t : Fin cfg0.N) (hz : t.val = 0) (g : Vec F S1x4096 .i32) :
    dupAt m c t.val t.isLt = bDup (grid0.coords t) (blkAt m c t) g (k0_pay23 (F := F)) := by
  have hv := coord_val t
  obtain ⟨n, hn⟩ := t; obtain rfl : n = 0 := hz
  show bDup _ _ _ _ = _
  exact dup_agree _ _ _ _ (fun j hj => by rw [hv] at hj; exact absurd hj (by simp)) _
theorem rowFirst (c : Dev nD) (t : Fin cfg0.N) (hz : t.val = 0) (g : Vec F S1x4096 .i32) :
    ∀ j : S1x4096.Idx, (j 1).val < (t.val + 1) * 1024 → bRow (grid0.coords t) (blkAt m c t) g j = rowAt m c t.val t.isLt j := by
  have hv := coord_val t
  obtain ⟨n, hn⟩ := t; obtain rfl : n = 0 := hz
  intro j hj
  show _ = bRow _ _ _ j
  exact row_agree _ _ _ _ (fun j hj => by rw [hv] at hj; exact absurd hj (by simp)) j (by rw [hv]; exact hj)
theorem recon_pos (c : Dev nD) (t : Fin cfg0.N) (hz : t.val ≠ 0) :
    reconAt m c t.val t.isLt = bReconAcc (blkAt m c t) (reconAt m c (t.val - 1) (Nat.lt_of_le_of_lt (Nat.sub_le _ _) t.isLt)) := by
  obtain ⟨n, hn⟩ := t
  cases n with
  | zero => exact absurd rfl hz
  | succ n => rfl
theorem loss_pos (c : Dev nD) (t : Fin cfg0.N) (hz : t.val ≠ 0) :
    lossAt m c t.val t.isLt = bLossAcc (blkAt m c t) (lossAt m c (t.val - 1) (Nat.lt_of_le_of_lt (Nat.sub_le _ _) t.isLt)) := by
  obtain ⟨n, hn⟩ := t
  cases n with
  | zero => exact absurd rfl hz
  | succ n => rfl
theorem dup_pos (c : Dev nD) (t : Fin cfg0.N) (hz : t.val ≠ 0) (g : Vec F S1x4096 .i32)
    (hg : ∀ j : S1x4096.Idx, (j 1).val < ((t.val - 1) + 1) * 1024 → g j = rowAt m c (t.val - 1) (Nat.lt_of_le_of_lt (Nat.sub_le _ _) t.isLt) j) :
    dupAt m c t.val t.isLt = bDup (grid0.coords t) (blkAt m c t) g (dupAt m c (t.val - 1) (Nat.lt_of_le_of_lt (Nat.sub_le _ _) t.isLt)) := by
  have hv := coord_val t
  obtain ⟨n, hn⟩ := t
  cases n with
  | zero => exact absurd rfl hz
  | succ n =>
    show bDup _ _ _ _ = _
    exact (dup_agree _ _ _ _ (fun j hj => by rw [hv] at hj; exact hg j hj) _).symm
theorem rowNext (c : Dev nD) (t : Fin cfg0.N) (hz : t.val ≠ 0) (g : Vec F S1x4096 .i32)
    (hg : ∀ j : S1x4096.Idx, (j 1).val < ((t.val - 1) + 1) * 1024 → g j = rowAt m c (t.val - 1) (Nat.lt_of_le_of_lt (Nat.sub_le _ _) t.isLt) j) :
    ∀ j : S1x4096.Idx, (j 1).val < (t.val + 1) * 1024 → bRow (grid0.coords t) (blkAt m c t) g j = rowAt m c t.val t.isLt j := by
  have hv := coord_val t
  obtain ⟨n, hn⟩ := t
  cases n with
  | zero => exact absurd rfl hz
  | succ n =>
    intro j hj
    show _ = bRow _ _ _ j
    exact row_agree _ _ _ _ (fun j hj => by rw [hv] at hj; exact hg j hj) j (by rw [hv]; exact hj)

set_option maxHeartbeats 25600000 in
/-- The body at any point, from what the step before left to what this step leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  rw [show (dats m 0 c).Φ t.succ = PhiK m c (t.val + 1) t.isLt from rfl, PhiK_succ]
  have hN : t.val < 4 := lt_of_lt_of_eq t.isLt (show cfg0.N = 4 from N_0)
  by_cases hz : t.val = 0
  · have h0 : t.val % 4 = 0 := by omega
    rw [Phi_castSucc m c t, PhiK_zero m c _ _ hz, PhiA0_eq]
    iintro ⟨⟨⟨HS0, HS1, HS2, HS3, HS4, HS5, HS6, HS7, HS8, ⟨%g, HS9⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
    iapply (bodyA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (blkAt m c t) g _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [H21]; · iexists _; iexact H21
    isplitl [H22]; · iexists _; iexact H22
    isplitl [H23]; · iexists _; iexact H23
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    iintro ⟨H0, H1, H2, H3, H4, H5, H6, H7, H8, H9, H10, H11, H12, H13, H14, H15, H16, H17, H18, H19, H20, H21, H22, H23, HS0, HS1, HS2, HS3, HS4, HS5, HS6, HS7, HS8, HS9⟩
    isplitl [HS0 HS1 HS2 HS3 HS4 HS5 HS6 HS7 HS8 HS9 Hg]
    · isplitl [HS0 HS1 HS2 HS3 HS4 HS5 HS6 HS7 HS8 HS9]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iexists _; isplitr; swap
        · iexact HS9
        · ipureintro
          exact rowFirst m c t hz g
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · rw [recon_zero m c t hz]; iexact H21
    isplitl [H22]; · rw [loss_zero m c t hz]; iexact H22
    rw [dup_zero m c t hz g]; iexact H23
  · have h0 : ¬ t.val % 4 = 0 := by omega
    rw [Phi_castSucc m c t, PhiK_pos m c _ _ hz]
    rw [cbT0 m c ⟨t.val - 1, by omega⟩ t, cbT1 m c ⟨t.val - 1, by omega⟩ t, cbT2 m c ⟨t.val - 1, by omega⟩ t, cbA0 m c ⟨t.val - 1, by omega⟩ t, cbA1 m c ⟨t.val - 1, by omega⟩ t, cbA2 m c ⟨t.val - 1, by omega⟩ t, cbB0 m c ⟨t.val - 1, by omega⟩ t, cbB1 m c ⟨t.val - 1, by omega⟩ t, cbB2 m c ⟨t.val - 1, by omega⟩ t]
    simp only [before0_21 m c t hz, before0_22 m c t hz, before0_23 m c t hz]
    iintro ⟨⟨⟨HS0, HS1, HS2, HS3, HS4, HS5, HS6, HS7, HS8, ⟨%g, %hg, HS9⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
    iapply (bodyB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (blkAt m c t) g
      (reconAt m c (t.val - 1) (Nat.lt_of_le_of_lt (Nat.sub_le _ _) t.isLt))
      (lossAt m c (t.val - 1) (Nat.lt_of_le_of_lt (Nat.sub_le _ _) t.isLt))
      (dupAt m c (t.val - 1) (Nat.lt_of_le_of_lt (Nat.sub_le _ _) t.isLt)) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [H21]; · iexact H21
    isplitl [H22]; · iexact H22
    isplitl [H23]; · iexact H23
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    iintro ⟨H0, H1, H2, H3, H4, H5, H6, H7, H8, H9, H10, H11, H12, H13, H14, H15, H16, H17, H18, H19, H20, H21, H22, H23, HS0, HS1, HS2, HS3, HS4, HS5, HS6, HS7, HS8, HS9⟩
    isplitl [HS0 HS1 HS2 HS3 HS4 HS5 HS6 HS7 HS8 HS9 Hg]
    · isplitl [HS0 HS1 HS2 HS3 HS4 HS5 HS6 HS7 HS8 HS9]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iexists _; isplitr; swap
        · iexact HS9
        · ipureintro
          exact rowNext m c t hz g hg
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · rw [recon_pos m c t hz]; iexact H21
    isplitl [H22]; · rw [loss_pos m c t hz]; iexact H22
    rw [dup_pos m c t hz g hg]; iexact H23

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiK m c 0 (Nat.zero_le _) from rfl, PhiK_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiK m c cfg0.N le_rfl from rfl,
    PhiK_pos m c _ _ (by have : cfg0.N = 4 := N_0; omega), PhiA0_eq]
  iintro ⟨⟨HS0, HS1, HS2, HS3, HS4, HS5, HS6, HS7, HS8, ⟨%g, %hg, HS9⟩⟩, Hg⟩
  isplitl [HS0 HS1 HS2 HS3 HS4 HS5 HS6 HS7 HS8 HS9]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9
  iexact Hg

set_option backward.isDefEq.respectTransparency.types false in
set_option maxHeartbeats 800000 in
/-- The whole program runs to the end, leaving every array at what the windows' steps say and no semaphore raised. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Hand

end
-- ==== Proof.RefDefs.lean ====
/- What the reference computes, step by step, as functions of its arguments. -/
module

public import proofs.«01_k».proof.Proof.Gen.ReferenceIdeal
public import Idealize.ShloMosaic.Lib.StableHlo.Run
public import Idealize.ShloMosaic.Lib.StableHlo.RunRead
public import Idealize.ShloMosaic.Lib.Quiescent

@[expose] public section

set_option maxRecDepth 16384

noncomputable section

namespace Cert.ReferenceIdeal.Hand

open Idealize.ShloMosaic Idealize.ShloMosaic.TcCoe Idealize.ShloMosaic.StableHlo Idealize.SL.Sem
open Cert.ReferenceIdeal.Gen

variable {F : FTy → Type} [FloatOps F]

/-- The first 750 and the last 18 columns put side by side. -/
def rCat2 : FVec F S4096x750 .f32 → FVec F S4096x18 .f32 → FVec F S4096x768 .f32 :=
  (fun a b => concatenate S4096x768 1 [⟨S4096x750, a⟩, ⟨S4096x18, b⟩] concatenates_S4096x750_S4096x18_S4096x768_d1)

/-- The three columns of codes put side by side. -/
def rCatIds : IVec S4096x1 32 → IVec S4096x1 32 → IVec S4096x1 32 → IVec S4096x3 32 :=
  (fun u0 u1 u2 => concatenate S4096x3 1 [⟨S4096x1, u0⟩, ⟨S4096x1, u1⟩, ⟨S4096x1, u2⟩] concatenates_S4096x1_S4096x1_S4096x1_S4096x3_d1)

/-- The three code vectors of each row put side by side. -/
def rCatEmb : FVec F S4096x64x1 .f32 → FVec F S4096x64x1 .f32 → FVec F S4096x64x1 .f32 → FVec F S4096x64x3 .f32 :=
  (fun u0 u1 u2 => concatenate S4096x64x3 2 [⟨S4096x64x1, u0⟩, ⟨S4096x64x1, u1⟩, ⟨S4096x64x1, u2⟩] concatenates_S4096x64x1_S4096x64x1_S4096x64x1_S4096x64x3_d2)

/-- The encoded rows. -/
def rEnc (a0 : FVec F S4096x768 .f32) (a1 : FVec F S768x512 .f32) (a2 : FVec F S512 .f32) (a3 : FVec F S512x256 .f32) (a4 : FVec F S256 .f32) (a5 : FVec F S256x128 .f32) (a6 : FVec F S128 .f32) (a7 : FVec F S128x64 .f32) (a8 : FVec F S64 .f32) : FVec F S4096x64 .f32 :=
  (addf (Host.dotGeneral dot_S4096x128_S128x64_S4096x64_1_0_0_1_n_n none (maximumf (addf (Host.dotGeneral dot_S4096x256_S256x128_S4096x128_1_0_0_1_n_n none (maximumf (addf (Host.dotGeneral dot_S4096x512_S512x256_S4096x256_1_0_0_1_n_n none (maximumf (addf (Host.dotGeneral dot_S4096x768_S768x512_S4096x512_1_0_0_1_n_n none a0 a1) (broadcastInDim S4096x512 ![0, 1] bcast_S1x512_S4096x512_0_1 (broadcastInDim S1x512 ![1] bcast_S512_S1x512_1 a2))) ((broadcastInDim S4096x512 ![] bcast_S_S4096x512) (constant S_ .f32 0x00000000#32))) a3) (broadcastInDim S4096x256 ![0, 1] bcast_S1x256_S4096x256_0_1 (broadcastInDim S1x256 ![1] bcast_S256_S1x256_1 a4))) ((broadcastInDim S4096x256 ![] bcast_S_S4096x256) (constant S_ .f32 0x00000000#32))) a5) (broadcastInDim S4096x128 ![0, 1] bcast_S1x128_S4096x128_0_1 (broadcastInDim S1x128 ![1] bcast_S128_S1x128_1 a6))) ((broadcastInDim S4096x128 ![] bcast_S_S4096x128) (constant S_ .f32 0x00000000#32))) a7) (broadcastInDim S4096x64 ![0, 1] bcast_S1x64_S4096x64_0_1 (broadcastInDim S1x64 ![1] bcast_S64_S1x64_1 a8)))

/-- The distance of each row to each code of a codebook. -/
def rDist (r : FVec F S4096x64 .f32) (cb : FVec F S1024x64 .f32) : FVec F S4096x1024 .f32 :=
  (addf (subf (broadcastInDim S4096x1024 ![0, 1] bcast_S4096x1_S4096x1024_0_1 (broadcastInDim S4096x1 ![0] bcast_S4096_S4096x1_0 (Host.reduceAdd (mulf r r) (constant S_ .f32 0x00000000#32) reducesTo_S4096x64_S4096_d1 h_S_))) (mulf (broadcastInDim S4096x1024 ![] bcast_S_S4096x1024 (constant S_ .f32 0x40000000#32)) (Host.dotGeneral dot_S4096x64_S64x1024_S4096x1024_1_0_0_1_n_n none r (transpose S64x1024 [1, 0] cb transposes_S1024x64_S64x1024_1_0)))) (broadcastInDim S4096x1024 ![0, 1] bcast_S1x1024_S4096x1024_0_1 (broadcastInDim S1x1024 ![1] bcast_S1024_S1x1024_1 (Host.reduceAdd (mulf cb cb) (constant S_ .f32 0x00000000#32) reducesTo_S1024x64_S1024_d1 h_S_))))

/-- The code of least distance, of each row. -/
def rId (d : FVec F S4096x1024 .f32) : IVec S4096 32 :=
  (fun j => (Host.argReduce reducer_argmin_f32_i32 d (iotaInDim S4096x1024 32 1) (constant S_ .f32 0x7F800000#32) (constantI S_ 32 0#32) reducesTo_S4096x1024_S4096_d1 h_S_ j).2)

/-- The code vector of each row, looked up in the codebook. -/
def rEmb (k : IVec S4096 32) (cb : FVec F S1024x64 .f32) : FVec F S4096x64 .f32 :=
  (select ((broadcastInDim S4096x64 ![0] bcast_S4096_S4096x64_0) (Host.reduce IntOp.andi (andi ((cmpi .sge) ((broadcastInDim S4096x1 ![0] bcast_S4096_S4096x1_0) (select ((cmpi .slt) k ((broadcastInDim S4096 ![] bcast_S_S4096) (constantI S_ 32 0#32))) (addi k ((broadcastInDim S4096 ![] bcast_S_S4096) (constantI S_ 32 1024#32))) k)) ((broadcastInDim S4096x1 ![] bcast_S_S4096x1) (constantI S_ 32 0#32))) ((cmpi .sle) ((broadcastInDim S4096x1 ![0] bcast_S4096_S4096x1_0) (select ((cmpi .slt) k ((broadcastInDim S4096 ![] bcast_S_S4096) (constantI S_ 32 0#32))) (addi k ((broadcastInDim S4096 ![] bcast_S_S4096) (constantI S_ 32 1024#32))) k)) ((broadcastInDim S4096x1 ![0, 1] bcast_S1x1_S4096x1_0_1) ((broadcastInDim S1x1 ![1] bcast_S1_S1x1_1) (constantI S1 32 1023#32))))) (constantI S_ 1 1#1) reducesTo_S4096x1_S4096_d1 h_S_)) (Host.gather gather_S1024x64_S4096x1_S4096x64_1_0_n_n_0_1_164 cb ((broadcastInDim S4096x1 ![0] bcast_S4096_S4096x1_0) (select ((cmpi .slt) k ((broadcastInDim S4096 ![] bcast_S_S4096) (constantI S_ 32 0#32))) (addi k ((broadcastInDim S4096 ![] bcast_S_S4096) (constantI S_ 32 1024#32))) k))) ((broadcastInDim S4096x64 ![] bcast_S_S4096x64) (constant S_ .f32 0x7FC00000#32)))

/-- The quantiser loss of each row at one codebook. -/
def rLoss (r : FVec F S4096x64 .f32) (e : FVec F S4096x64 .f32) : FVec F S4096 .f32 :=
  (addf (Host.reduceAdd (mulf (subf r e) (subf r e)) (constant S_ .f32 0x00000000#32) reducesTo_S4096x64_S4096_d1 h_S_) (mulf (broadcastInDim S4096 ![] bcast_S_S4096 (constant S_ .f32 0x3E800000#32)) (Host.reduceAdd (mulf (subf r e) (subf r e)) (constant S_ .f32 0x00000000#32) reducesTo_S4096x64_S4096_d1 h_S_)))

/-- The straight-through code vector of each row. -/
def rSte (r : FVec F S4096x64 .f32) (e : FVec F S4096x64 .f32) : FVec F S4096x64 .f32 :=
  (addf r (subf e r))

/-- The loss total, begun from zero. -/
def rL0 (l : FVec F S4096 .f32) : FVec F S4096 .f32 :=
  (addf (broadcastInDim S4096 ![] bcast_S_S4096 (constant S_ .f32 0x00000000#32)) l)

/-- The decoded rows, from the sum of the code vectors. -/
def rDec (s : FVec F S4096x64 .f32) (a9 : FVec F S64x128 .f32) (a10 : FVec F S128 .f32) (a11 : FVec F S128x256 .f32) (a12 : FVec F S256 .f32) (a13 : FVec F S256x512 .f32) (a14 : FVec F S512 .f32) (a15 : FVec F S512x768 .f32) (a16 : FVec F S768 .f32) : FVec F S4096x768 .f32 :=
  (addf (Host.dotGeneral dot_S4096x512_S512x768_S4096x768_1_0_0_1_n_n none (maximumf (addf (Host.dotGeneral dot_S4096x256_S256x512_S4096x512_1_0_0_1_n_n none (maximumf (addf (Host.dotGeneral dot_S4096x128_S128x256_S4096x256_1_0_0_1_n_n none (maximumf (addf (Host.dotGeneral dot_S4096x64_S64x128_S4096x128_1_0_0_1_n_n none s a9) (broadcastInDim S4096x128 ![0, 1] bcast_S1x128_S4096x128_0_1 (broadcastInDim S1x128 ![1] bcast_S128_S1x128_1 a10))) ((broadcastInDim S4096x128 ![] bcast_S_S4096x128) (constant S_ .f32 0x00000000#32))) a11) (broadcastInDim S4096x256 ![0, 1] bcast_S1x256_S4096x256_0_1 (broadcastInDim S1x256 ![1] bcast_S256_S1x256_1 a12))) ((broadcastInDim S4096x256 ![] bcast_S_S4096x256) (constant S_ .f32 0x00000000#32))) a13) (broadcastInDim S4096x512 ![0, 1] bcast_S1x512_S4096x512_0_1 (broadcastInDim S1x512 ![1] bcast_S512_S1x512_1 a14))) ((broadcastInDim S4096x512 ![] bcast_S_S4096x512) (constant S_ .f32 0x00000000#32))) a15) (broadcastInDim S4096x768 ![0, 1] bcast_S1x768_S4096x768_0_1 (broadcastInDim S1x768 ![1] bcast_S768_S1x768_1 a16)))

/-- The rows over their norms. -/
def rUnit (h : FVec F S4096x768 .f32) : FVec F S4096x768 .f32 :=
  (Host.divf h (broadcastInDim S4096x768 ![0, 1] bcast_S4096x1_S4096x768_0_1 (addf (Host.sqrt ((broadcastInDim S4096x1 ![0] bcast_S4096_S4096x1_0) (Host.reduceAdd (mulf h h) (constant S_ .f32 0x00000000#32) reducesTo_S4096x768_S4096_d1 h_S_))) (broadcastInDim S4096x1 ![] bcast_S_S4096x1 (constant S_ .f32 0x2B8CBCCC#32)))))

/-- The reconstruction error of each row. -/
def rErr (y : FVec F S4096x768 .f32) (a0 : FVec F S4096x768 .f32) : FVec F S4096 .f32 :=
  (Host.reduceAdd (mulf (subf (rCat2 (F := F) (Host.divf (extractStridedSlice S4096x750 ![0, 0] y slices_S4096x768_S4096x750_0_0) (broadcastInDim S4096x750 ![0, 1] bcast_S4096x1_S4096x750_0_1 (addf (Host.sqrt ((broadcastInDim S4096x1 ![0] bcast_S4096_S4096x1_0) (Host.reduceAdd (mulf (extractStridedSlice S4096x750 ![0, 0] y slices_S4096x768_S4096x750_0_0) (extractStridedSlice S4096x750 ![0, 0] y slices_S4096x768_S4096x750_0_0)) (constant S_ .f32 0x00000000#32) reducesTo_S4096x750_S4096_d1 h_S_))) (broadcastInDim S4096x1 ![] bcast_S_S4096x1 (constant S_ .f32 0x2B8CBCCC#32))))) (extractStridedSlice S4096x18 ![0, 750] y slices_S4096x768_S4096x18_0_750)) a0) (subf (rCat2 (F := F) (Host.divf (extractStridedSlice S4096x750 ![0, 0] y slices_S4096x768_S4096x750_0_0) (broadcastInDim S4096x750 ![0, 1] bcast_S4096x1_S4096x750_0_1 (addf (Host.sqrt ((broadcastInDim S4096x1 ![0] bcast_S4096_S4096x1_0) (Host.reduceAdd (mulf (extractStridedSlice S4096x750 ![0, 0] y slices_S4096x768_S4096x750_0_0) (extractStridedSlice S4096x750 ![0, 0] y slices_S4096x768_S4096x750_0_0)) (constant S_ .f32 0x00000000#32) reducesTo_S4096x750_S4096_d1 h_S_))) (broadcastInDim S4096x1 ![] bcast_S_S4096x1 (constant S_ .f32 0x2B8CBCCC#32))))) (extractStridedSlice S4096x18 ![0, 750] y slices_S4096x768_S4096x18_0_750)) a0)) (constant S_ .f32 0x00000000#32) reducesTo_S4096x768_S4096_d1 h_S_)

/-- The mean over the rows. -/
def rMean (t : FVec F S4096 .f32) : FVec F S_ .f32 :=
  (Host.divf (Host.reduceAdd t (constant S_ .f32 0x00000000#32) reducesTo_S4096_S_d0 h_S_) (constant S_ .f32 0x45800000#32))

/-- The norms of the three code vectors of each row. -/
def rNorms (e0 : FVec F S4096x64 .f32) (e1 : FVec F S4096x64 .f32) (e2 : FVec F S4096x64 .f32) : FVec F S4096x3 .f32 :=
  (Host.sqrt (Host.reduceAdd (mulf (rCatEmb (F := F) (broadcastInDim S4096x64x1 ![0, 1] bcast_S4096x64_S4096x64x1_0_1 e0) (broadcastInDim S4096x64x1 ![0, 1] bcast_S4096x64_S4096x64x1_0_1 e1) (broadcastInDim S4096x64x1 ![0, 1] bcast_S4096x64_S4096x64x1_0_1 e2)) (rCatEmb (F := F) (broadcastInDim S4096x64x1 ![0, 1] bcast_S4096x64_S4096x64x1_0_1 e0) (broadcastInDim S4096x64x1 ![0, 1] bcast_S4096x64_S4096x64x1_0_1 e1) (broadcastInDim S4096x64x1 ![0, 1] bcast_S4096x64_S4096x64x1_0_1 e2))) (constant S_ .f32 0x00000000#32) reducesTo_S4096x64x3_S4096x3_d1 h_S_))

/-- The three codes of each row. -/
def rIds (k0 : IVec S4096 32) (k1 : IVec S4096 32) (k2 : IVec S4096 32) : IVec S4096x3 32 :=
  (rCatIds (broadcastInDim S4096x1 ![0] bcast_S4096_S4096x1_0 k0) (broadcastInDim S4096x1 ![0] bcast_S4096_S4096x1_0 k1) (broadcastInDim S4096x1 ![0] bcast_S4096_S4096x1_0 k2))

/-- The share of rows that no later row repeats. -/
def rUniq (k : IVec S4096x3 32) : FVec F S_ .f32 :=
  (Host.divf (sitofp .f32 (Host.reduce IntOp.addi (extui 32 (Host.reduce IntOp.andi (noti (select ((cmpi .sge) (addi (iotaInDim S4096x4096 32 0) ((broadcastInDim S4096x4096 ![] bcast_S_S4096x4096) (constantI S_ 32 0#32))) (iotaInDim S4096x4096 32 1)) ((broadcastInDim S4096x4096 ![] bcast_S_S4096x4096) (constantI S_ 1 0#1)) (Host.reduce IntOp.andi (cmpi .eq (broadcastInDim S4096x4096x3 ![0, 1, 2] bcast_S4096x1x3_S4096x4096x3_0_1_2 (broadcastInDim S4096x1x3 ![0, 2] bcast_S4096x3_S4096x1x3_0_2 k)) (broadcastInDim S4096x4096x3 ![0, 1, 2] bcast_S1x4096x3_S4096x4096x3_0_1_2 (broadcastInDim S1x4096x3 ![1, 2] bcast_S4096x3_S1x4096x3_1_2 k))) (constantI S_ 1 1#1) reducesTo_S4096x4096x3_S4096x4096_d2 h_S_))) (constantI S_ 1 1#1) reducesTo_S4096x4096_S4096_d1 h_S_) natLt_1_32) (constantI S_ 32 0#32) reducesTo_S4096_S_d0 h_S_)) (constant S_ .f32 0x45800000#32))

end Cert.ReferenceIdeal.Hand

end
-- ==== Proof.RefRun.lean ====
/- The reference's run: its operations in order, and what each stretch of them leaves. -/
module

public import proofs.«01_k».proof.Proof.RefDefs

@[expose] public section

set_option maxRecDepth 16384

noncomputable section

namespace Cert.ReferenceIdeal.Hand

open Idealize.ShloMosaic Idealize.ShloMosaic.TcCoe Idealize.ShloMosaic.StableHlo Idealize.SL.Sem
open Cert.ReferenceIdeal.Gen

variable {F : FTy → Type} [FloatOps F]

/-- The operations of the encoder. -/
def opsEnc : List (HloOp τ sig (Elt F)) :=
  [ binary main_arg0 main_arg1 main_v0 ((fun l r => Host.dotGeneral dot_S4096x768_S768x512_S4096x512_1_0_0_1_n_n none l r) : (⟨S4096x768, .f32⟩ : BufTy).Contents (Elt F) → (⟨S768x512, .f32⟩ : BufTy).Contents (Elt F) → (⟨S4096x512, .f32⟩ : BufTy).Contents (Elt F)),
    unary main_arg2 main_v1 (broadcastInDim S1x512 ![1] bcast_S512_S1x512_1 : (⟨S512, .f32⟩ : BufTy).Contents (Elt F) → (⟨S1x512, .f32⟩ : BufTy).Contents (Elt F)),
    unary main_v1 main_v2 (broadcastInDim S4096x512 ![0, 1] bcast_S1x512_S4096x512_0_1 : (⟨S1x512, .f32⟩ : BufTy).Contents (Elt F) → (⟨S4096x512, .f32⟩ : BufTy).Contents (Elt F)),
    binary main_v0 main_v2 main_v3 (addf : (⟨S4096x512, .f32⟩ : BufTy).Contents (Elt F) → (⟨S4096x512, .f32⟩ : BufTy).Contents (Elt F) → (⟨S4096x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4096x512, .f32⟩) main_call0_v0) (broadcastInDim S4096x512 ![] bcast_S_S4096x512),
    TRef.binary (TRef.of (T := ⟨S4096x512, .f32⟩) main_v3) (TRef.of (T := ⟨S4096x512, .f32⟩) main_call0_v0) (TRef.of (T := ⟨S4096x512, .f32⟩) main_v4) maximumf,
    binary main_v4 main_arg3 main_v5 ((fun l r => Host.dotGeneral dot_S4096x512_S512x256_S4096x256_1_0_0_1_n_n none l r) : (⟨S4096x512, .f32⟩ : BufTy).Contents (Elt F) → (⟨S512x256, .f32⟩ : BufTy).Contents (Elt F) → (⟨S4096x256, .f32⟩ : BufTy).Contents (Elt F)),
    unary main_arg4 main_v6 (broadcastInDim S1x256 ![1] bcast_S256_S1x256_1 : (⟨S256, .f32⟩ : BufTy).Contents (Elt F) → (⟨S1x256, .f32⟩ : BufTy).Contents (Elt F)),
    unary main_v6 main_v7 (broadcastInDim S4096x256 ![0, 1] bcast_S1x256_S4096x256_0_1 : (⟨S1x256, .f32⟩ : BufTy).Contents (Elt F) → (⟨S4096x256, .f32⟩ : BufTy).Contents (Elt F)),
    binary main_v5 main_v7 main_v8 (addf : (⟨S4096x256, .f32⟩ : BufTy).Contents (Elt F) → (⟨S4096x256, .f32⟩ : BufTy).Contents (Elt F) → (⟨S4096x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S4096x256, .f32⟩) main_call1_v0) (broadcastInDim S4096x256 ![] bcast_S_S4096x256),
    TRef.binary (TRef.of (T := ⟨S4096x256, .f32⟩) main_v8) (TRef.of (T := ⟨S4096x256, .f32⟩) main_call1_v0) (TRef.of (T := ⟨S4096x256, .f32⟩) main_v9) maximumf,
    binary main_v9 main_arg5 main_v10 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    unary main_arg6 main_v11 (broadcastInDim S1x128 ![1] bcast_S128_S1x128_1 : (⟨S128, .f32⟩ : BufTy).Contents (Elt F) → (⟨S1x128, .f32⟩ : BufTy).Contents (Elt F)),
    unary main_v11 main_v12 (broadcastInDim S4096x128 ![0, 1] bcast_S1x128_S4096x128_0_1 : (⟨S1x128, .f32⟩ : BufTy).Contents (Elt F) → (⟨S4096x128, .f32⟩ : BufTy).Contents (Elt F)),
    binary main_v10 main_v12 main_v13 (addf : (⟨S4096x128, .f32⟩ : BufTy).Contents (Elt F) → (⟨S4096x128, .f32⟩ : BufTy).Contents (Elt F) → (⟨S4096x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4096x128, .f32⟩) main_call2_v0) (broadcastInDim S4096x128 ![] bcast_S_S4096x128),
    TRef.binary (TRef.of (T := ⟨S4096x128, .f32⟩) main_v13) (TRef.of (T := ⟨S4096x128, .f32⟩) main_call2_v0) (TRef.of (T := ⟨S4096x128, .f32⟩) main_v14) maximumf,
    binary main_v14 main_arg7 main_v15 ((fun l r => Host.dotGeneral dot_S4096x128_S128x64_S4096x64_1_0_0_1_n_n none l r) : (⟨S4096x128, .f32⟩ : BufTy).Contents (Elt F) → (⟨S128x64, .f32⟩ : BufTy).Contents (Elt F) → (⟨S4096x64, .f32⟩ : BufTy).Contents (Elt F)),
    unary main_arg8 main_v16 (broadcastInDim S1x64 ![1] bcast_S64_S1x64_1 : (⟨S64, .f32⟩ : BufTy).Contents (Elt F) → (⟨S1x64, .f32⟩ : BufTy).Contents (Elt F)),
    unary main_v16 main_v17 (broadcastInDim S4096x64 ![0, 1] bcast_S1x64_S4096x64_0_1 : (⟨S1x64, .f32⟩ : BufTy).Contents (Elt F) → (⟨S4096x64, .f32⟩ : BufTy).Contents (Elt F)),
    binary main_v15 main_v17 main_v18 (addf : (⟨S4096x64, .f32⟩ : BufTy).Contents (Elt F) → (⟨S4096x64, .f32⟩ : BufTy).Contents (Elt F) → (⟨S4096x64, .f32⟩ : BufTy).Contents (Elt F)) ]

/-- The operations of the first quantiser. -/
def opsQ0 : List (HloOp τ sig (Elt F)) :=
  [ binary main_v18 main_v18 main_v19 (mulf : (⟨S4096x64, .f32⟩ : BufTy).Contents (Elt F) → (⟨S4096x64, .f32⟩ : BufTy).Contents (Elt F) → (⟨S4096x64, .f32⟩ : BufTy).Contents (Elt F)),
    nullary main_cst (constant S_ .f32 0x00000000#32),
    binary main_v19 main_cst main_v20 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    unary main_v20 main_v21 (broadcastInDim S4096x1 ![0] bcast_S4096_S4096x1_0 : (⟨S4096, .f32⟩ : BufTy).Contents (Elt F) → (⟨S4096x1, .f32⟩ : BufTy).Contents (Elt F)),
    unary main_arg17 main_v22 ((transpose S64x1024 [1, 0] · transposes_S1024x64_S64x1024_1_0) : (⟨S1024x64, .f32⟩ : BufTy).Contents (Elt F) → (⟨S64x1024, .f32⟩ : BufTy).Contents (Elt F)),
    binary main_v18 main_v22 main_v23 ((fun l r => Host.dotGeneral dot_S4096x64_S64x1024_S4096x1024_1_0_0_1_n_n none l r) : (⟨S4096x64, .f32⟩ : BufTy).Contents (Elt F) → (⟨S64x1024, .f32⟩ : BufTy).Contents (Elt F) → (⟨S4096x1024, .f32⟩ : BufTy).Contents (Elt F)),
    nullary main_cst_0 (constant S_ .f32 0x40000000#32),
    unary main_cst_0 main_v24 (broadcastInDim S4096x1024 ![] bcast_S_S4096x1024 : (⟨S_, .f32⟩ : BufTy).Contents (Elt F) → (⟨S4096x1024, .f32⟩ : BufTy).Contents (Elt F)),
    binary main_v24 main_v23 main_v25 (mulf : (⟨S4096x1024, .f32⟩ : BufTy).Contents (Elt F) → (⟨S4096x1024, .f32⟩ : BufTy).Contents (Elt F) → (⟨S4096x1024, .f32⟩ : BufTy).Contents (Elt F)),
    unary main_v21 main_v26 (broadcastInDim S4096x1024 ![0, 1] bcast_S4096x1_S4096x1024_0_1 : (⟨S4096x1, .f32⟩ : BufTy).Contents (Elt F) → (⟨S4096x1024, .f32⟩ : BufTy).Contents (Elt F)),
    binary main_v26 main_v25 main_v27 (subf : (⟨S4096x1024, .f32⟩ : BufTy).Contents (Elt F) → (⟨S4096x1024, .f32⟩ : BufTy).Contents (Elt F) → (⟨S4096x1024, .f32⟩ : BufTy).Contents (Elt F)),
    binary main_arg17 main_arg17 main_v28 (mulf : (⟨S1024x64, .f32⟩ : BufTy).Contents (Elt F) → (⟨S1024x64, .f32⟩ : BufTy).Contents (Elt F) → (⟨S1024x64, .f32⟩ : BufTy).Contents (Elt F)),
    nullary main_cst_1 (constant S_ .f32 0x00000000#32),
    binary main_v28 main_cst_1 main_v29 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v29 main_v30 (broadcastInDim S1x1024 ![1] bcast_S1024_S1x1024_1 : (⟨S1024, .f32⟩ : BufTy).Contents (Elt F) → (⟨S1x1024, .f32⟩ : BufTy).Contents (Elt F)),
    unary main_v30 main_v31 (broadcastInDim S4096x1024 ![0, 1] bcast_S1x1024_S4096x1024_0_1 : (⟨S1x1024, .f32⟩ : BufTy).Contents (Elt F) → (⟨S4096x1024, .f32⟩ : BufTy).Contents (Elt F)),
    binary main_v27 main_v31 main_v32 (addf : (⟨S4096x1024, .f32⟩ : BufTy).Contents (Elt F) → (⟨S4096x1024, .f32⟩ : BufTy).Contents (Elt F) → (⟨S4096x1024, .f32⟩ : BufTy).Contents (Elt F)),
    TRef.nullary (TRef.of (T := ⟨S4096x1024, .i32⟩) main_call3_v0) (iotaInDim S4096x1024 32 1),
    TRef.nullary (TRef.of (T := ⟨S_, .f32⟩) main_call3_cst) (constant S_ .f32 0x7F800000#32),
    TRef.nullary (TRef.of (T := ⟨S_, .i32⟩) main_call3_c) (constantI S_ 32 0#32),
    TRef.quaternary (TRef.of (T := ⟨S4096x1024, .f32⟩) main_v32) (TRef.of (T := ⟨S4096x1024, .i32⟩) main_call3_v0) (TRef.of (T := ⟨S_, .f32⟩) main_call3_cst) (TRef.of (T := ⟨S_, .i32⟩) main_call3_c) (TRef.of (T := ⟨S4096, .f32⟩) main_call3_v1_0) (fun x y u v j => (Host.argReduce reducer_argmin_f32_i32 x y u v reducesTo_S4096x1024_S4096_d1 h_S_ j).1),
    TRef.quaternary (TRef.of (T := ⟨S4096x1024, .f32⟩) main_v32) (TRef.of (T := ⟨S4096x1024, .i32⟩) main_call3_v0) (TRef.of (T := ⟨S_, .f32⟩) main_call3_cst) (TRef.of (T := ⟨S_, .i32⟩) main_call3_c) (TRef.of (T := ⟨S4096, .i32⟩) main_v33) (fun x y u v j => (Host.argReduce reducer_argmin_f32_i32 x y u v reducesTo_S4096x1024_S4096_d1 h_S_ j).2),
    TRef.nullary (TRef.of (T := ⟨S_, .i32⟩) main_call4_c) (constantI S_ 32 0#32),
    TRef.unary (TRef.of (T := ⟨S_, .i32⟩) main_call4_c) (TRef.of (T := ⟨S4096, .i32⟩) main_call4_v0) (broadcastInDim S4096 ![] bcast_S_S4096),
    TRef.binary (TRef.of (T := ⟨S4096, .i32⟩) main_v33) (TRef.of (T := ⟨S4096, .i32⟩) main_call4_v0) (TRef.of (T := ⟨S4096, .i1⟩) main_call4_v1) (cmpi .slt),
    TRef.nullary (TRef.of (T := ⟨S_, .i32⟩) main_call4_c_0) (constantI S_ 32 1024#32),
    TRef.unary (TRef.of (T := ⟨S_, .i32⟩) main_call4_c_0) (TRef.of (T := ⟨S4096, .i32⟩) main_call4_v2) (broadcastInDim S4096 ![] bcast_S_S4096),
    TRef.binary (TRef.of (T := ⟨S4096, .i32⟩) main_v33) (TRef.of (T := ⟨S4096, .i32⟩) main_call4_v2) (TRef.of (T := ⟨S4096, .i32⟩) main_call4_v3) addi,
    TRef.ternary (TRef.of (T := ⟨S4096, .i1⟩) main_call4_v1) (TRef.of (T := ⟨S4096, .i32⟩) main_call4_v3) (TRef.of (T := ⟨S4096, .i32⟩) main_v33) (TRef.of (T := ⟨S4096, .i32⟩) main_call4_v4) select,
    TRef.unary (TRef.of (T := ⟨S4096, .i32⟩) main_call4_v4) (TRef.of (T := ⟨S4096x1, .i32⟩) main_call4_v5) (broadcastInDim S4096x1 ![0] bcast_S4096_S4096x1_0),
    TRef.nullary (TRef.of (T := ⟨S1, .i32⟩) main_call4_c_1) (constantI S1 32 1023#32),
    TRef.nullary (TRef.of (T := ⟨S_, .i32⟩) main_call4_c_2) (constantI S_ 32 0#32),
    TRef.unary (TRef.of (T := ⟨S_, .i32⟩) main_call4_c_2) (TRef.of (T := ⟨S4096x1, .i32⟩) main_call4_v6) (broadcastInDim S4096x1 ![] bcast_S_S4096x1),
    TRef.binary (TRef.of (T := ⟨S4096x1, .i32⟩) main_call4_v5) (TRef.of (T := ⟨S4096x1, .i32⟩) main_call4_v6) (TRef.of (T := ⟨S4096x1, .i1⟩) main_call4_v7) (cmpi .sge),
    TRef.unary (TRef.of (T := ⟨S1, .i32⟩) main_call4_c_1) (TRef.of (T := ⟨S1x1, .i32⟩) main_call4_v8) (broadcastInDim S1x1 ![1] bcast_S1_S1x1_1),
    TRef.unary (TRef.of (T := ⟨S1x1, .i32⟩) main_call4_v8) (TRef.of (T := ⟨S4096x1, .i32⟩) main_call4_v9) (broadcastInDim S4096x1 ![0, 1] bcast_S1x1_S4096x1_0_1),
    TRef.binary (TRef.of (T := ⟨S4096x1, .i32⟩) main_call4_v5) (TRef.of (T := ⟨S4096x1, .i32⟩) main_call4_v9) (TRef.of (T := ⟨S4096x1, .i1⟩) main_call4_v10) (cmpi .sle),
    TRef.binary (TRef.of (T := ⟨S4096x1, .i1⟩) main_call4_v7) (TRef.of (T := ⟨S4096x1, .i1⟩) main_call4_v10) (TRef.of (T := ⟨S4096x1, .i1⟩) main_call4_v11) andi,
    TRef.nullary (TRef.of (T := ⟨S_, .i1⟩) main_call4_c_3) (constantI S_ 1 1#1),
    TRef.binary (TRef.of (T := ⟨S4096x1, .i1⟩) main_call4_v11) (TRef.of (T := ⟨S_, .i1⟩) main_call4_c_3) (TRef.of (T := ⟨S4096, .i1⟩) main_call4_v12) (fun x v => Host.reduce IntOp.andi x v reducesTo_S4096x1_S4096_d1 h_S_),
    TRef.binary (TRef.of (T := ⟨S1024x64, .f32⟩) main_arg17) (TRef.of (T := ⟨S4096x1, .i32⟩) main_call4_v5) (TRef.of (T := ⟨S4096x64, .f32⟩) main_call4_v13) (fun x i => Host.gather gather_S1024x64_S4096x1_S4096x64_1_0_n_n_0_1_164 x i),
    TRef.unary (TRef.of (T := ⟨S4096, .i1⟩) main_call4_v12) (TRef.of (T := ⟨S4096x64, .i1⟩) main_call4_v14) (broadcastInDim S4096x64 ![0] bcast_S4096_S4096x64_0),
    TRef.nullary (TRef.of (T := ⟨S_, .f32⟩) main_call4_cst) (constant S_ .f32 0x7FC00000#32),
    TRef.unary (TRef.of (T := ⟨S_, .f32⟩) main_call4_cst) (TRef.of (T := ⟨S4096x64, .f32⟩) main_call4_v15) (broadcastInDim S4096x64 ![] bcast_S_S4096x64),
    TRef.ternary (TRef.of (T := ⟨S4096x64, .i1⟩) main_call4_v14) (TRef.of (T := ⟨S4096x64, .f32⟩) main_call4_v13) (TRef.of (T := ⟨S4096x64, .f32⟩) main_call4_v15) (TRef.of (T := ⟨S4096x64, .f32⟩) main_v34) select,
    binary main_v18 main_v34 main_v35 (subf : (⟨S4096x64, .f32⟩ : BufTy).Contents (Elt F) → (⟨S4096x64, .f32⟩ : BufTy).Contents (Elt F) → (⟨S4096x64, .f32⟩ : BufTy).Contents (Elt F)),
    binary main_v35 main_v35 main_v36 (mulf : (⟨S4096x64, .f32⟩ : BufTy).Contents (Elt F) → (⟨S4096x64, .f32⟩ : BufTy).Contents (Elt F) → (⟨S4096x64, .f32⟩ : BufTy).Contents (Elt F)),
    nullary main_cst_2 (constant S_ .f32 0x00000000#32),
    binary main_v36 main_cst_2 main_v37 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    binary main_v18 main_v34 main_v38 (subf : (⟨S4096x64, .f32⟩ : BufTy).Contents (Elt F) → (⟨S4096x64, .f32⟩ : BufTy).Contents (Elt F) → (⟨S4096x64, .f32⟩ : BufTy).Contents (Elt F)),
    binary main_v38 main_v38 main_v39 (mulf : (⟨S4096x64, .f32⟩ : BufTy).Contents (Elt F) → (⟨S4096x64, .f32⟩ : BufTy).Contents (Elt F) → (⟨S4096x64, .f32⟩ : BufTy).Contents (Elt F)),
    nullary main_cst_3 (constant S_ .f32 0x00000000#32),
    binary main_v39 main_cst_3 main_v40 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    nullary main_cst_4 (constant S_ .f32 0x3E800000#32),
    unary main_cst_4 main_v41 (broadcastInDim S4096 ![] bcast_S_S4096 : (⟨S_, .f32⟩ : BufTy).Contents (Elt F) → (⟨S4096, .f32⟩ : BufTy).Contents (Elt F)),
    binary main_v41 main_v37 main_v42 (mulf : (⟨S4096, .f32⟩ : BufTy).Contents (Elt F) → (⟨S4096, .f32⟩ : BufTy).Contents (Elt F) → (⟨S4096, .f32⟩ : BufTy).Contents (Elt F)),
    binary main_v40 main_v42 main_v43 (addf : (⟨S4096, .f32⟩ : BufTy).Contents (Elt F) → (⟨S4096, .f32⟩ : BufTy).Contents (Elt F) → (⟨S4096, .f32⟩ : BufTy).Contents (Elt F)),
    binary main_v34 main_v18 main_v44 (subf : (⟨S4096x64, .f32⟩ : BufTy).Contents (Elt F) → (⟨S4096x64, .f32⟩ : BufTy).Contents (Elt F) → (⟨S4096x64, .f32⟩ : BufTy).Contents (Elt F)),
    binary main_v18 main_v44 main_v45 (addf : (⟨S4096x64, .f32⟩ : BufTy).Contents (Elt F) → (⟨S4096x64, .f32⟩ : BufTy).Contents (Elt F) → (⟨S4096x64, .f32⟩ : BufTy).Contents (Elt F)),
    nullary main_cst_5 (constant S_ .f32 0x00000000#32),
    unary main_cst_5 main_v46 (broadcastInDim S4096 ![] bcast_S_S4096 : (⟨S_, .f32⟩ : BufTy).Contents (Elt F) → (⟨S4096, .f32⟩ : BufTy).Contents (Elt F)),
    binary main_v46 main_v43 main_v47 (addf : (⟨S4096, .f32⟩ : BufTy).Contents (Elt F) → (⟨S4096, .f32⟩ : BufTy).Contents (Elt F) → (⟨S4096, .f32⟩ : BufTy).Contents (Elt F)),
    binary main_v18 main_v45 main_v48 (subf : (⟨S4096x64, .f32⟩ : BufTy).Contents (Elt F) → (⟨S4096x64, .f32⟩ : BufTy).Contents (Elt F) → (⟨S4096x64, .f32⟩ : BufTy).Contents (Elt F)) ]

/-- The operations of the second quantiser. -/
def opsQ1 : List (HloOp τ sig (Elt F)) :=
  [ binary main_v48 main_v48 main_v49 (mulf : (⟨S4096x64, .f32⟩ : BufTy).Contents (Elt F) → (⟨S4096x64, .f32⟩ : BufTy).Contents (Elt F) → (⟨S4096x64, .f32⟩ : BufTy).Contents (Elt F)),
    nullary main_cst_6 (constant S_ .f32 0x00000000#32),
    binary main_v49 main_cst_6 main_v50 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    unary main_v50 main_v51 (broadcastInDim S4096x1 ![0] bcast_S4096_S4096x1_0 : (⟨S4096, .f32⟩ : BufTy).Contents (Elt F) → (⟨S4096x1, .f32⟩ : BufTy).Contents (Elt F)),
    unary main_arg18 main_v52 ((transpose S64x1024 [1, 0] · transposes_S1024x64_S64x1024_1_0) : (⟨S1024x64, .f32⟩ : BufTy).Contents (Elt F) → (⟨S64x1024, .f32⟩ : BufTy).Contents (Elt F)),
    binary main_v48 main_v52 main_v53 ((fun l r => Host.dotGeneral dot_S4096x64_S64x1024_S4096x1024_1_0_0_1_n_n none l r) : (⟨S4096x64, .f32⟩ : BufTy).Contents (Elt F) → (⟨S64x1024, .f32⟩ : BufTy).Contents (Elt F) → (⟨S4096x1024, .f32⟩ : BufTy).Contents (Elt F)),
    nullary main_cst_7 (constant S_ .f32 0x40000000#32),
    unary main_cst_7 main_v54 (broadcastInDim S4096x1024 ![] bcast_S_S4096x1024 : (⟨S_, .f32⟩ : BufTy).Contents (Elt F) → (⟨S4096x1024, .f32⟩ : BufTy).Contents (Elt F)),
    binary main_v54 main_v53 main_v55 (mulf : (⟨S4096x1024, .f32⟩ : BufTy).Contents (Elt F) → (⟨S4096x1024, .f32⟩ : BufTy).Contents (Elt F) → (⟨S4096x1024, .f32⟩ : BufTy).Contents (Elt F)),
    unary main_v51 main_v56 (broadcastInDim S4096x1024 ![0, 1] bcast_S4096x1_S4096x1024_0_1 : (⟨S4096x1, .f32⟩ : BufTy).Contents (Elt F) → (⟨S4096x1024, .f32⟩ : BufTy).Contents (Elt F)),
    binary main_v56 main_v55 main_v57 (subf : (⟨S4096x1024, .f32⟩ : BufTy).Contents (Elt F) → (⟨S4096x1024, .f32⟩ : BufTy).Contents (Elt F) → (⟨S4096x1024, .f32⟩ : BufTy).Contents (Elt F)),
    binary main_arg18 main_arg18 main_v58 (mulf : (⟨S1024x64, .f32⟩ : BufTy).Contents (Elt F) → (⟨S1024x64, .f32⟩ : BufTy).Contents (Elt F) → (⟨S1024x64, .f32⟩ : BufTy).Contents (Elt F)),
    nullary main_cst_8 (constant S_ .f32 0x00000000#32),
    binary main_v58 main_cst_8 main_v59 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v59 main_v60 (broadcastInDim S1x1024 ![1] bcast_S1024_S1x1024_1 : (⟨S1024, .f32⟩ : BufTy).Contents (Elt F) → (⟨S1x1024, .f32⟩ : BufTy).Contents (Elt F)),
    unary main_v60 main_v61 (broadcastInDim S4096x1024 ![0, 1] bcast_S1x1024_S4096x1024_0_1 : (⟨S1x1024, .f32⟩ : BufTy).Contents (Elt F) → (⟨S4096x1024, .f32⟩ : BufTy).Contents (Elt F)),
    binary main_v57 main_v61 main_v62 (addf : (⟨S4096x1024, .f32⟩ : BufTy).Contents (Elt F) → (⟨S4096x1024, .f32⟩ : BufTy).Contents (Elt F) → (⟨S4096x1024, .f32⟩ : BufTy).Contents (Elt F)),
    TRef.nullary (TRef.of (T := ⟨S4096x1024, .i32⟩) main_call5_v0) (iotaInDim S4096x1024 32 1),
    TRef.nullary (TRef.of (T := ⟨S_, .f32⟩) main_call5_cst) (constant S_ .f32 0x7F800000#32),
    TRef.nullary (TRef.of (T := ⟨S_, .i32⟩) main_call5_c) (constantI S_ 32 0#32),
    TRef.quaternary (TRef.of (T := ⟨S4096x1024, .f32⟩) main_v62) (TRef.of (T := ⟨S4096x1024, .i32⟩) main_call5_v0) (TRef.of (T := ⟨S_, .f32⟩) main_call5_cst) (TRef.of (T := ⟨S_, .i32⟩) main_call5_c) (TRef.of (T := ⟨S4096, .f32⟩) main_call5_v1_0) (fun x y u v j => (Host.argReduce reducer_argmin_f32_i32 x y u v reducesTo_S4096x1024_S4096_d1 h_S_ j).1),
    TRef.quaternary (TRef.of (T := ⟨S4096x1024, .f32⟩) main_v62) (TRef.of (T := ⟨S4096x1024, .i32⟩) main_call5_v0) (TRef.of (T := ⟨S_, .f32⟩) main_call5_cst) (TRef.of (T := ⟨S_, .i32⟩) main_call5_c) (TRef.of (T := ⟨S4096, .i32⟩) main_v63) (fun x y u v j => (Host.argReduce reducer_argmin_f32_i32 x y u v reducesTo_S4096x1024_S4096_d1 h_S_ j).2),
    TRef.nullary (TRef.of (T := ⟨S_, .i32⟩) main_call6_c) (constantI S_ 32 0#32),
    TRef.unary (TRef.of (T := ⟨S_, .i32⟩) main_call6_c) (TRef.of (T := ⟨S4096, .i32⟩) main_call6_v0) (broadcastInDim S4096 ![] bcast_S_S4096),
    TRef.binary (TRef.of (T := ⟨S4096, .i32⟩) main_v63) (TRef.of (T := ⟨S4096, .i32⟩) main_call6_v0) (TRef.of (T := ⟨S4096, .i1⟩) main_call6_v1) (cmpi .slt),
    TRef.nullary (TRef.of (T := ⟨S_, .i32⟩) main_call6_c_0) (constantI S_ 32 1024#32),
    TRef.unary (TRef.of (T := ⟨S_, .i32⟩) main_call6_c_0) (TRef.of (T := ⟨S4096, .i32⟩) main_call6_v2) (broadcastInDim S4096 ![] bcast_S_S4096),
    TRef.binary (TRef.of (T := ⟨S4096, .i32⟩) main_v63) (TRef.of (T := ⟨S4096, .i32⟩) main_call6_v2) (TRef.of (T := ⟨S4096, .i32⟩) main_call6_v3) addi,
    TRef.ternary (TRef.of (T := ⟨S4096, .i1⟩) main_call6_v1) (TRef.of (T := ⟨S4096, .i32⟩) main_call6_v3) (TRef.of (T := ⟨S4096, .i32⟩) main_v63) (TRef.of (T := ⟨S4096, .i32⟩) main_call6_v4) select,
    TRef.unary (TRef.of (T := ⟨S4096, .i32⟩) main_call6_v4) (TRef.of (T := ⟨S4096x1, .i32⟩) main_call6_v5) (broadcastInDim S4096x1 ![0] bcast_S4096_S4096x1_0),
    TRef.nullary (TRef.of (T := ⟨S1, .i32⟩) main_call6_c_1) (constantI S1 32 1023#32),
    TRef.nullary (TRef.of (T := ⟨S_, .i32⟩) main_call6_c_2) (constantI S_ 32 0#32),
    TRef.unary (TRef.of (T := ⟨S_, .i32⟩) main_call6_c_2) (TRef.of (T := ⟨S4096x1, .i32⟩) main_call6_v6) (broadcastInDim S4096x1 ![] bcast_S_S4096x1),
    TRef.binary (TRef.of (T := ⟨S4096x1, .i32⟩) main_call6_v5) (TRef.of (T := ⟨S4096x1, .i32⟩) main_call6_v6) (TRef.of (T := ⟨S4096x1, .i1⟩) main_call6_v7) (cmpi .sge),
    TRef.unary (TRef.of (T := ⟨S1, .i32⟩) main_call6_c_1) (TRef.of (T := ⟨S1x1, .i32⟩) main_call6_v8) (broadcastInDim S1x1 ![1] bcast_S1_S1x1_1),
    TRef.unary (TRef.of (T := ⟨S1x1, .i32⟩) main_call6_v8) (TRef.of (T := ⟨S4096x1, .i32⟩) main_call6_v9) (broadcastInDim S4096x1 ![0, 1] bcast_S1x1_S4096x1_0_1),
    TRef.binary (TRef.of (T := ⟨S4096x1, .i32⟩) main_call6_v5) (TRef.of (T := ⟨S4096x1, .i32⟩) main_call6_v9) (TRef.of (T := ⟨S4096x1, .i1⟩) main_call6_v10) (cmpi .sle),
    TRef.binary (TRef.of (T := ⟨S4096x1, .i1⟩) main_call6_v7) (TRef.of (T := ⟨S4096x1, .i1⟩) main_call6_v10) (TRef.of (T := ⟨S4096x1, .i1⟩) main_call6_v11) andi,
    TRef.nullary (TRef.of (T := ⟨S_, .i1⟩) main_call6_c_3) (constantI S_ 1 1#1),
    TRef.binary (TRef.of (T := ⟨S4096x1, .i1⟩) main_call6_v11) (TRef.of (T := ⟨S_, .i1⟩) main_call6_c_3) (TRef.of (T := ⟨S4096, .i1⟩) main_call6_v12) (fun x v => Host.reduce IntOp.andi x v reducesTo_S4096x1_S4096_d1 h_S_),
    TRef.binary (TRef.of (T := ⟨S1024x64, .f32⟩) main_arg18) (TRef.of (T := ⟨S4096x1, .i32⟩) main_call6_v5) (TRef.of (T := ⟨S4096x64, .f32⟩) main_call6_v13) (fun x i => Host.gather gather_S1024x64_S4096x1_S4096x64_1_0_n_n_0_1_164 x i),
    TRef.unary (TRef.of (T := ⟨S4096, .i1⟩) main_call6_v12) (TRef.of (T := ⟨S4096x64, .i1⟩) main_call6_v14) (broadcastInDim S4096x64 ![0] bcast_S4096_S4096x64_0),
    TRef.nullary (TRef.of (T := ⟨S_, .f32⟩) main_call6_cst) (constant S_ .f32 0x7FC00000#32),
    TRef.unary (TRef.of (T := ⟨S_, .f32⟩) main_call6_cst) (TRef.of (T := ⟨S4096x64, .f32⟩) main_call6_v15) (broadcastInDim S4096x64 ![] bcast_S_S4096x64),
    TRef.ternary (TRef.of (T := ⟨S4096x64, .i1⟩) main_call6_v14) (TRef.of (T := ⟨S4096x64, .f32⟩) main_call6_v13) (TRef.of (T := ⟨S4096x64, .f32⟩) main_call6_v15) (TRef.of (T := ⟨S4096x64, .f32⟩) main_v64) select,
    binary main_v48 main_v64 main_v65 (subf : (⟨S4096x64, .f32⟩ : BufTy).Contents (Elt F) → (⟨S4096x64, .f32⟩ : BufTy).Contents (Elt F) → (⟨S4096x64, .f32⟩ : BufTy).Contents (Elt F)),
    binary main_v65 main_v65 main_v66 (mulf : (⟨S4096x64, .f32⟩ : BufTy).Contents (Elt F) → (⟨S4096x64, .f32⟩ : BufTy).Contents (Elt F) → (⟨S4096x64, .f32⟩ : BufTy).Contents (Elt F)),
    nullary main_cst_9 (constant S_ .f32 0x00000000#32),
    binary main_v66 main_cst_9 main_v67 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    binary main_v48 main_v64 main_v68 (subf : (⟨S4096x64, .f32⟩ : BufTy).Contents (Elt F) → (⟨S4096x64, .f32⟩ : BufTy).Contents (Elt F) → (⟨S4096x64, .f32⟩ : BufTy).Contents (Elt F)),
    binary main_v68 main_v68 main_v69 (mulf : (⟨S4096x64, .f32⟩ : BufTy).Contents (Elt F) → (⟨S4096x64, .f32⟩ : BufTy).Contents (Elt F) → (⟨S4096x64, .f32⟩ : BufTy).Contents (Elt F)),
    nullary main_cst_10 (constant S_ .f32 0x00000000#32),
    binary main_v69 main_cst_10 main_v70 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    nullary main_cst_11 (constant S_ .f32 0x3E800000#32),
    unary main_cst_11 main_v71 (broadcastInDim S4096 ![] bcast_S_S4096 : (⟨S_, .f32⟩ : BufTy).Contents (Elt F) → (⟨S4096, .f32⟩ : BufTy).Contents (Elt F)),
    binary main_v71 main_v67 main_v72 (mulf : (⟨S4096, .f32⟩ : BufTy).Contents (Elt F) → (⟨S4096, .f32⟩ : BufTy).Contents (Elt F) → (⟨S4096, .f32⟩ : BufTy).Contents (Elt F)),
    binary main_v70 main_v72 main_v73 (addf : (⟨S4096, .f32⟩ : BufTy).Contents (Elt F) → (⟨S4096, .f32⟩ : BufTy).Contents (Elt F) → (⟨S4096, .f32⟩ : BufTy).Contents (Elt F)),
    binary main_v64 main_v48 main_v74 (subf : (⟨S4096x64, .f32⟩ : BufTy).Contents (Elt F) → (⟨S4096x64, .f32⟩ : BufTy).Contents (Elt F) → (⟨S4096x64, .f32⟩ : BufTy).Contents (Elt F)),
    binary main_v48 main_v74 main_v75 (addf : (⟨S4096x64, .f32⟩ : BufTy).Contents (Elt F) → (⟨S4096x64, .f32⟩ : BufTy).Contents (Elt F) → (⟨S4096x64, .f32⟩ : BufTy).Contents (Elt F)),
    binary main_v47 main_v73 main_v76 (addf : (⟨S4096, .f32⟩ : BufTy).Contents (Elt F) → (⟨S4096, .f32⟩ : BufTy).Contents (Elt F) → (⟨S4096, .f32⟩ : BufTy).Contents (Elt F)),
    binary main_v48 main_v75 main_v77 (subf : (⟨S4096x64, .f32⟩ : BufTy).Contents (Elt F) → (⟨S4096x64, .f32⟩ : BufTy).Contents (Elt F) → (⟨S4096x64, .f32⟩ : BufTy).Contents (Elt F)) ]

/-- The operations of the third quantiser. -/
def opsQ2 : List (HloOp τ sig (Elt F)) :=
  [ binary main_v77 main_v77 main_v78 (mulf : (⟨S4096x64, .f32⟩ : BufTy).Contents (Elt F) → (⟨S4096x64, .f32⟩ : BufTy).Contents (Elt F) → (⟨S4096x64, .f32⟩ : BufTy).Contents (Elt F)),
    nullary main_cst_12 (constant S_ .f32 0x00000000#32),
    binary main_v78 main_cst_12 main_v79 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    unary main_v79 main_v80 (broadcastInDim S4096x1 ![0] bcast_S4096_S4096x1_0 : (⟨S4096, .f32⟩ : BufTy).Contents (Elt F) → (⟨S4096x1, .f32⟩ : BufTy).Contents (Elt F)),
    unary main_arg19 main_v81 ((transpose S64x1024 [1, 0] · transposes_S1024x64_S64x1024_1_0) : (⟨S1024x64, .f32⟩ : BufTy).Contents (Elt F) → (⟨S64x1024, .f32⟩ : BufTy).Contents (Elt F)),
    binary main_v77 main_v81 main_v82 ((fun l r => Host.dotGeneral dot_S4096x64_S64x1024_S4096x1024_1_0_0_1_n_n none l r) : (⟨S4096x64, .f32⟩ : BufTy).Contents (Elt F) → (⟨S64x1024, .f32⟩ : BufTy).Contents (Elt F) → (⟨S4096x1024, .f32⟩ : BufTy).Contents (Elt F)),
    nullary main_cst_13 (constant S_ .f32 0x40000000#32),
    unary main_cst_13 main_v83 (broadcastInDim S4096x1024 ![] bcast_S_S4096x1024 : (⟨S_, .f32⟩ : BufTy).Contents (Elt F) → (⟨S4096x1024, .f32⟩ : BufTy).Contents (Elt F)),
    binary main_v83 main_v82 main_v84 (mulf : (⟨S4096x1024, .f32⟩ : BufTy).Contents (Elt F) → (⟨S4096x1024, .f32⟩ : BufTy).Contents (Elt F) → (⟨S4096x1024, .f32⟩ : BufTy).Contents (Elt F)),
    unary main_v80 main_v85 (broadcastInDim S4096x1024 ![0, 1] bcast_S4096x1_S4096x1024_0_1 : (⟨S4096x1, .f32⟩ : BufTy).Contents (Elt F) → (⟨S4096x1024, .f32⟩ : BufTy).Contents (Elt F)),
    binary main_v85 main_v84 main_v86 (subf : (⟨S4096x1024, .f32⟩ : BufTy).Contents (Elt F) → (⟨S4096x1024, .f32⟩ : BufTy).Contents (Elt F) → (⟨S4096x1024, .f32⟩ : BufTy).Contents (Elt F)),
    binary main_arg19 main_arg19 main_v87 (mulf : (⟨S1024x64, .f32⟩ : BufTy).Contents (Elt F) → (⟨S1024x64, .f32⟩ : BufTy).Contents (Elt F) → (⟨S1024x64, .f32⟩ : BufTy).Contents (Elt F)),
    nullary main_cst_14 (constant S_ .f32 0x00000000#32),
    binary main_v87 main_cst_14 main_v88 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v88 main_v89 (broadcastInDim S1x1024 ![1] bcast_S1024_S1x1024_1 : (⟨S1024, .f32⟩ : BufTy).Contents (Elt F) → (⟨S1x1024, .f32⟩ : BufTy).Contents (Elt F)),
    unary main_v89 main_v90 (broadcastInDim S4096x1024 ![0, 1] bcast_S1x1024_S4096x1024_0_1 : (⟨S1x1024, .f32⟩ : BufTy).Contents (Elt F) → (⟨S4096x1024, .f32⟩ : BufTy).Contents (Elt F)),
    binary main_v86 main_v90 main_v91 (addf : (⟨S4096x1024, .f32⟩ : BufTy).Contents (Elt F) → (⟨S4096x1024, .f32⟩ : BufTy).Contents (Elt F) → (⟨S4096x1024, .f32⟩ : BufTy).Contents (Elt F)),
    TRef.nullary (TRef.of (T := ⟨S4096x1024, .i32⟩) main_call7_v0) (iotaInDim S4096x1024 32 1),
    TRef.nullary (TRef.of (T := ⟨S_, .f32⟩) main_call7_cst) (constant S_ .f32 0x7F800000#32),
    TRef.nullary (TRef.of (T := ⟨S_, .i32⟩) main_call7_c) (constantI S_ 32 0#32),
    TRef.quaternary (TRef.of (T := ⟨S4096x1024, .f32⟩) main_v91) (TRef.of (T := ⟨S4096x1024, .i32⟩) main_call7_v0) (TRef.of (T := ⟨S_, .f32⟩) main_call7_cst) (TRef.of (T := ⟨S_, .i32⟩) main_call7_c) (TRef.of (T := ⟨S4096, .f32⟩) main_call7_v1_0) (fun x y u v j => (Host.argReduce reducer_argmin_f32_i32 x y u v reducesTo_S4096x1024_S4096_d1 h_S_ j).1),
    TRef.quaternary (TRef.of (T := ⟨S4096x1024, .f32⟩) main_v91) (TRef.of (T := ⟨S4096x1024, .i32⟩) main_call7_v0) (TRef.of (T := ⟨S_, .f32⟩) main_call7_cst) (TRef.of (T := ⟨S_, .i32⟩) main_call7_c) (TRef.of (T := ⟨S4096, .i32⟩) main_v92) (fun x y u v j => (Host.argReduce reducer_argmin_f32_i32 x y u v reducesTo_S4096x1024_S4096_d1 h_S_ j).2),
    TRef.nullary (TRef.of (T := ⟨S_, .i32⟩) main_call8_c) (constantI S_ 32 0#32),
    TRef.unary (TRef.of (T := ⟨S_, .i32⟩) main_call8_c) (TRef.of (T := ⟨S4096, .i32⟩) main_call8_v0) (broadcastInDim S4096 ![] bcast_S_S4096),
    TRef.binary (TRef.of (T := ⟨S4096, .i32⟩) main_v92) (TRef.of (T := ⟨S4096, .i32⟩) main_call8_v0) (TRef.of (T := ⟨S4096, .i1⟩) main_call8_v1) (cmpi .slt),
    TRef.nullary (TRef.of (T := ⟨S_, .i32⟩) main_call8_c_0) (constantI S_ 32 1024#32),
    TRef.unary (TRef.of (T := ⟨S_, .i32⟩) main_call8_c_0) (TRef.of (T := ⟨S4096, .i32⟩) main_call8_v2) (broadcastInDim S4096 ![] bcast_S_S4096),
    TRef.binary (TRef.of (T := ⟨S4096, .i32⟩) main_v92) (TRef.of (T := ⟨S4096, .i32⟩) main_call8_v2) (TRef.of (T := ⟨S4096, .i32⟩) main_call8_v3) addi,
    TRef.ternary (TRef.of (T := ⟨S4096, .i1⟩) main_call8_v1) (TRef.of (T := ⟨S4096, .i32⟩) main_call8_v3) (TRef.of (T := ⟨S4096, .i32⟩) main_v92) (TRef.of (T := ⟨S4096, .i32⟩) main_call8_v4) select,
    TRef.unary (TRef.of (T := ⟨S4096, .i32⟩) main_call8_v4) (TRef.of (T := ⟨S4096x1, .i32⟩) main_call8_v5) (broadcastInDim S4096x1 ![0] bcast_S4096_S4096x1_0),
    TRef.nullary (TRef.of (T := ⟨S1, .i32⟩) main_call8_c_1) (constantI S1 32 1023#32),
    TRef.nullary (TRef.of (T := ⟨S_, .i32⟩) main_call8_c_2) (constantI S_ 32 0#32),
    TRef.unary (TRef.of (T := ⟨S_, .i32⟩) main_call8_c_2) (TRef.of (T := ⟨S4096x1, .i32⟩) main_call8_v6) (broadcastInDim S4096x1 ![] bcast_S_S4096x1),
    TRef.binary (TRef.of (T := ⟨S4096x1, .i32⟩) main_call8_v5) (TRef.of (T := ⟨S4096x1, .i32⟩) main_call8_v6) (TRef.of (T := ⟨S4096x1, .i1⟩) main_call8_v7) (cmpi .sge),
    TRef.unary (TRef.of (T := ⟨S1, .i32⟩) main_call8_c_1) (TRef.of (T := ⟨S1x1, .i32⟩) main_call8_v8) (broadcastInDim S1x1 ![1] bcast_S1_S1x1_1),
    TRef.unary (TRef.of (T := ⟨S1x1, .i32⟩) main_call8_v8) (TRef.of (T := ⟨S4096x1, .i32⟩) main_call8_v9) (broadcastInDim S4096x1 ![0, 1] bcast_S1x1_S4096x1_0_1),
    TRef.binary (TRef.of (T := ⟨S4096x1, .i32⟩) main_call8_v5) (TRef.of (T := ⟨S4096x1, .i32⟩) main_call8_v9) (TRef.of (T := ⟨S4096x1, .i1⟩) main_call8_v10) (cmpi .sle),
    TRef.binary (TRef.of (T := ⟨S4096x1, .i1⟩) main_call8_v7) (TRef.of (T := ⟨S4096x1, .i1⟩) main_call8_v10) (TRef.of (T := ⟨S4096x1, .i1⟩) main_call8_v11) andi,
    TRef.nullary (TRef.of (T := ⟨S_, .i1⟩) main_call8_c_3) (constantI S_ 1 1#1),
    TRef.binary (TRef.of (T := ⟨S4096x1, .i1⟩) main_call8_v11) (TRef.of (T := ⟨S_, .i1⟩) main_call8_c_3) (TRef.of (T := ⟨S4096, .i1⟩) main_call8_v12) (fun x v => Host.reduce IntOp.andi x v reducesTo_S4096x1_S4096_d1 h_S_),
    TRef.binary (TRef.of (T := ⟨S1024x64, .f32⟩) main_arg19) (TRef.of (T := ⟨S4096x1, .i32⟩) main_call8_v5) (TRef.of (T := ⟨S4096x64, .f32⟩) main_call8_v13) (fun x i => Host.gather gather_S1024x64_S4096x1_S4096x64_1_0_n_n_0_1_164 x i),
    TRef.unary (TRef.of (T := ⟨S4096, .i1⟩) main_call8_v12) (TRef.of (T := ⟨S4096x64, .i1⟩) main_call8_v14) (broadcastInDim S4096x64 ![0] bcast_S4096_S4096x64_0),
    TRef.nullary (TRef.of (T := ⟨S_, .f32⟩) main_call8_cst) (constant S_ .f32 0x7FC00000#32),
    TRef.unary (TRef.of (T := ⟨S_, .f32⟩) main_call8_cst) (TRef.of (T := ⟨S4096x64, .f32⟩) main_call8_v15) (broadcastInDim S4096x64 ![] bcast_S_S4096x64),
    TRef.ternary (TRef.of (T := ⟨S4096x64, .i1⟩) main_call8_v14) (TRef.of (T := ⟨S4096x64, .f32⟩) main_call8_v13) (TRef.of (T := ⟨S4096x64, .f32⟩) main_call8_v15) (TRef.of (T := ⟨S4096x64, .f32⟩) main_v93) select,
    binary main_v77 main_v93 main_v94 (subf : (⟨S4096x64, .f32⟩ : BufTy).Contents (Elt F) → (⟨S4096x64, .f32⟩ : BufTy).Contents (Elt F) → (⟨S4096x64, .f32⟩ : BufTy).Contents (Elt F)),
    binary main_v94 main_v94 main_v95 (mulf : (⟨S4096x64, .f32⟩ : BufTy).Contents (Elt F) → (⟨S4096x64, .f32⟩ : BufTy).Contents (Elt F) → (⟨S4096x64, .f32⟩ : BufTy).Contents (Elt F)),
    nullary main_cst_15 (constant S_ .f32 0x00000000#32),
    binary main_v95 main_cst_15 main_v96 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    binary main_v77 main_v93 main_v97 (subf : (⟨S4096x64, .f32⟩ : BufTy).Contents (Elt F) → (⟨S4096x64, .f32⟩ : BufTy).Contents (Elt F) → (⟨S4096x64, .f32⟩ : BufTy).Contents (Elt F)),
    binary main_v97 main_v97 main_v98 (mulf : (⟨S4096x64, .f32⟩ : BufTy).Contents (Elt F) → (⟨S4096x64, .f32⟩ : BufTy).Contents (Elt F) → (⟨S4096x64, .f32⟩ : BufTy).Contents (Elt F)),
    nullary main_cst_16 (constant S_ .f32 0x00000000#32),
    binary main_v98 main_cst_16 main_v99 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    nullary main_cst_17 (constant S_ .f32 0x3E800000#32),
    unary main_cst_17 main_v100 (broadcastInDim S4096 ![] bcast_S_S4096 : (⟨S_, .f32⟩ : BufTy).Contents (Elt F) → (⟨S4096, .f32⟩ : BufTy).Contents (Elt F)),
    binary main_v100 main_v96 main_v101 (mulf : (⟨S4096, .f32⟩ : BufTy).Contents (Elt F) → (⟨S4096, .f32⟩ : BufTy).Contents (Elt F) → (⟨S4096, .f32⟩ : BufTy).Contents (Elt F)),
    binary main_v99 main_v101 main_v102 (addf : (⟨S4096, .f32⟩ : BufTy).Contents (Elt F) → (⟨S4096, .f32⟩ : BufTy).Contents (Elt F) → (⟨S4096, .f32⟩ : BufTy).Contents (Elt F)),
    binary main_v93 main_v77 main_v103 (subf : (⟨S4096x64, .f32⟩ : BufTy).Contents (Elt F) → (⟨S4096x64, .f32⟩ : BufTy).Contents (Elt F) → (⟨S4096x64, .f32⟩ : BufTy).Contents (Elt F)),
    binary main_v77 main_v103 main_v104 (addf : (⟨S4096x64, .f32⟩ : BufTy).Contents (Elt F) → (⟨S4096x64, .f32⟩ : BufTy).Contents (Elt F) → (⟨S4096x64, .f32⟩ : BufTy).Contents (Elt F)),
    binary main_v76 main_v102 main_v105 (addf : (⟨S4096, .f32⟩ : BufTy).Contents (Elt F) → (⟨S4096, .f32⟩ : BufTy).Contents (Elt F) → (⟨S4096, .f32⟩ : BufTy).Contents (Elt F)),
    binary main_v77 main_v104 main_v106 (subf : (⟨S4096x64, .f32⟩ : BufTy).Contents (Elt F) → (⟨S4096x64, .f32⟩ : BufTy).Contents (Elt F) → (⟨S4096x64, .f32⟩ : BufTy).Contents (Elt F)) ]

/-- The operations of the decoder. -/
def opsDec : List (HloOp τ sig (Elt F)) :=
  [ binary main_v45 main_v75 main_v107 (addf : (⟨S4096x64, .f32⟩ : BufTy).Contents (Elt F) → (⟨S4096x64, .f32⟩ : BufTy).Contents (Elt F) → (⟨S4096x64, .f32⟩ : BufTy).Contents (Elt F)),
    binary main_v107 main_v104 main_v108 (addf : (⟨S4096x64, .f32⟩ : BufTy).Contents (Elt F) → (⟨S4096x64, .f32⟩ : BufTy).Contents (Elt F) → (⟨S4096x64, .f32⟩ : BufTy).Contents (Elt F)),
    binary main_v108 main_arg9 main_v109 ((fun l r => Host.dotGeneral dot_S4096x64_S64x128_S4096x128_1_0_0_1_n_n none l r) : (⟨S4096x64, .f32⟩ : BufTy).Contents (Elt F) → (⟨S64x128, .f32⟩ : BufTy).Contents (Elt F) → (⟨S4096x128, .f32⟩ : BufTy).Contents (Elt F)),
    unary main_arg10 main_v110 (broadcastInDim S1x128 ![1] bcast_S128_S1x128_1 : (⟨S128, .f32⟩ : BufTy).Contents (Elt F) → (⟨S1x128, .f32⟩ : BufTy).Contents (Elt F)),
    unary main_v110 main_v111 (broadcastInDim S4096x128 ![0, 1] bcast_S1x128_S4096x128_0_1 : (⟨S1x128, .f32⟩ : BufTy).Contents (Elt F) → (⟨S4096x128, .f32⟩ : BufTy).Contents (Elt F)),
    binary main_v109 main_v111 main_v112 (addf : (⟨S4096x128, .f32⟩ : BufTy).Contents (Elt F) → (⟨S4096x128, .f32⟩ : BufTy).Contents (Elt F) → (⟨S4096x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S4096x128, .f32⟩) main_call9_v0) (broadcastInDim S4096x128 ![] bcast_S_S4096x128),
    TRef.binary (TRef.of (T := ⟨S4096x128, .f32⟩) main_v112) (TRef.of (T := ⟨S4096x128, .f32⟩) main_call9_v0) (TRef.of (T := ⟨S4096x128, .f32⟩) main_v113) maximumf,
    binary main_v113 main_arg11 main_v114 ((fun l r => Host.dotGeneral dot_S4096x128_S128x256_S4096x256_1_0_0_1_n_n none l r) : (⟨S4096x128, .f32⟩ : BufTy).Contents (Elt F) → (⟨S128x256, .f32⟩ : BufTy).Contents (Elt F) → (⟨S4096x256, .f32⟩ : BufTy).Contents (Elt F)),
    unary main_arg12 main_v115 (broadcastInDim S1x256 ![1] bcast_S256_S1x256_1 : (⟨S256, .f32⟩ : BufTy).Contents (Elt F) → (⟨S1x256, .f32⟩ : BufTy).Contents (Elt F)),
    unary main_v115 main_v116 (broadcastInDim S4096x256 ![0, 1] bcast_S1x256_S4096x256_0_1 : (⟨S1x256, .f32⟩ : BufTy).Contents (Elt F) → (⟨S4096x256, .f32⟩ : BufTy).Contents (Elt F)),
    binary main_v114 main_v116 main_v117 (addf : (⟨S4096x256, .f32⟩ : BufTy).Contents (Elt F) → (⟨S4096x256, .f32⟩ : BufTy).Contents (Elt F) → (⟨S4096x256, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S4096x256, .f32⟩) main_call10_v0) (broadcastInDim S4096x256 ![] bcast_S_S4096x256),
    TRef.binary (TRef.of (T := ⟨S4096x256, .f32⟩) main_v117) (TRef.of (T := ⟨S4096x256, .f32⟩) main_call10_v0) (TRef.of (T := ⟨S4096x256, .f32⟩) main_v118) maximumf,
    binary main_v118 main_arg13 main_v119 ((fun l r => Host.dotGeneral dot_S4096x256_S256x512_S4096x512_1_0_0_1_n_n none l r) : (⟨S4096x256, .f32⟩ : BufTy).Contents (Elt F) → (⟨S256x512, .f32⟩ : BufTy).Contents (Elt F) → (⟨S4096x512, .f32⟩ : BufTy).Contents (Elt F)),
    unary main_arg14 main_v120 (broadcastInDim S1x512 ![1] bcast_S512_S1x512_1 : (⟨S512, .f32⟩ : BufTy).Contents (Elt F) → (⟨S1x512, .f32⟩ : BufTy).Contents (Elt F)),
    unary main_v120 main_v121 (broadcastInDim S4096x512 ![0, 1] bcast_S1x512_S4096x512_0_1 : (⟨S1x512, .f32⟩ : BufTy).Contents (Elt F) → (⟨S4096x512, .f32⟩ : BufTy).Contents (Elt F)),
    binary main_v119 main_v121 main_v122 (addf : (⟨S4096x512, .f32⟩ : BufTy).Contents (Elt F) → (⟨S4096x512, .f32⟩ : BufTy).Contents (Elt F) → (⟨S4096x512, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S4096x512, .f32⟩) main_call11_v0) (broadcastInDim S4096x512 ![] bcast_S_S4096x512),
    TRef.binary (TRef.of (T := ⟨S4096x512, .f32⟩) main_v122) (TRef.of (T := ⟨S4096x512, .f32⟩) main_call11_v0) (TRef.of (T := ⟨S4096x512, .f32⟩) main_v123) maximumf,
    binary main_v123 main_arg15 main_v124 ((fun l r => Host.dotGeneral dot_S4096x512_S512x768_S4096x768_1_0_0_1_n_n none l r) : (⟨S4096x512, .f32⟩ : BufTy).Contents (Elt F) → (⟨S512x768, .f32⟩ : BufTy).Contents (Elt F) → (⟨S4096x768, .f32⟩ : BufTy).Contents (Elt F)),
    unary main_arg16 main_v125 (broadcastInDim S1x768 ![1] bcast_S768_S1x768_1 : (⟨S768, .f32⟩ : BufTy).Contents (Elt F) → (⟨S1x768, .f32⟩ : BufTy).Contents (Elt F)),
    unary main_v125 main_v126 (broadcastInDim S4096x768 ![0, 1] bcast_S1x768_S4096x768_0_1 : (⟨S1x768, .f32⟩ : BufTy).Contents (Elt F) → (⟨S4096x768, .f32⟩ : BufTy).Contents (Elt F)),
    binary main_v124 main_v126 main_v127 (addf : (⟨S4096x768, .f32⟩ : BufTy).Contents (Elt F) → (⟨S4096x768, .f32⟩ : BufTy).Contents (Elt F) → (⟨S4096x768, .f32⟩ : BufTy).Contents (Elt F)) ]

/-- The operations of the reconstruction error. -/
def opsErr : List (HloOp τ sig (Elt F)) :=
  [ TRef.binary (TRef.of (T := ⟨S4096x768, .f32⟩) main_v127) (TRef.of (T := ⟨S4096x768, .f32⟩) main_v127) (TRef.of (T := ⟨S4096x768, .f32⟩) main_call12_v0) mulf,
    TRef.nullary (TRef.of (T := ⟨S_, .f32⟩) main_call12_cst) (constant S_ .f32 0x00000000#32),
    TRef.binary (TRef.of (T := ⟨S4096x768, .f32⟩) main_call12_v0) (TRef.of (T := ⟨S_, .f32⟩) main_call12_cst) (TRef.of (T := ⟨S4096, .f32⟩) main_call12_v1) (fun x v => Host.reduceAdd x v reducesTo_S4096x768_S4096_d1 h_S_),
    TRef.unary (TRef.of (T := ⟨S4096, .f32⟩) main_call12_v1) (TRef.of (T := ⟨S4096x1, .f32⟩) main_call12_v2) (broadcastInDim S4096x1 ![0] bcast_S4096_S4096x1_0),
    TRef.unary (TRef.of (T := ⟨S4096x1, .f32⟩) main_call12_v2) (TRef.of (T := ⟨S4096x1, .f32⟩) main_v128) Host.sqrt,
    nullary main_cst_18 (constant S_ .f32 0x2B8CBCCC#32),
    unary main_cst_18 main_v129 (broadcastInDim S4096x1 ![] bcast_S_S4096x1 : (⟨S_, .f32⟩ : BufTy).Contents (Elt F) → (⟨S4096x1, .f32⟩ : BufTy).Contents (Elt F)),
    binary main_v128 main_v129 main_v130 (addf : (⟨S4096x1, .f32⟩ : BufTy).Contents (Elt F) → (⟨S4096x1, .f32⟩ : BufTy).Contents (Elt F) → (⟨S4096x1, .f32⟩ : BufTy).Contents (Elt F)),
    unary main_v130 main_v131 (broadcastInDim S4096x768 ![0, 1] bcast_S4096x1_S4096x768_0_1 : (⟨S4096x1, .f32⟩ : BufTy).Contents (Elt F) → (⟨S4096x768, .f32⟩ : BufTy).Contents (Elt F)),
    binary main_v127 main_v131 main_v132 (Host.divf : (⟨S4096x768, .f32⟩ : BufTy).Contents (Elt F) → (⟨S4096x768, .f32⟩ : BufTy).Contents (Elt F) → (⟨S4096x768, .f32⟩ : BufTy).Contents (Elt F)),
    unary main_v132 main_v133 ((extractStridedSlice S4096x750 ![0, 0] · slices_S4096x768_S4096x750_0_0) : (⟨S4096x768, .f32⟩ : BufTy).Contents (Elt F) → (⟨S4096x750, .f32⟩ : BufTy).Contents (Elt F)),
    TRef.binary (TRef.of (T := ⟨S4096x750, .f32⟩) main_v133) (TRef.of (T := ⟨S4096x750, .f32⟩) main_v133) (TRef.of (T := ⟨S4096x750, .f32⟩) main_call13_v0) mulf,
    TRef.nullary (TRef.of (T := ⟨S_, .f32⟩) main_call13_cst) (constant S_ .f32 0x00000000#32),
    TRef.binary (TRef.of (T := ⟨S4096x750, .f32⟩) main_call13_v0) (TRef.of (T := ⟨S_, .f32⟩) main_call13_cst) (TRef.of (T := ⟨S4096, .f32⟩) main_call13_v1) (fun x v => Host.reduceAdd x v reducesTo_S4096x750_S4096_d1 h_S_),
    TRef.unary (TRef.of (T := ⟨S4096, .f32⟩) main_call13_v1) (TRef.of (T := ⟨S4096x1, .f32⟩) main_call13_v2) (broadcastInDim S4096x1 ![0] bcast_S4096_S4096x1_0),
    TRef.unary (TRef.of (T := ⟨S4096x1, .f32⟩) main_call13_v2) (TRef.of (T := ⟨S4096x1, .f32⟩) main_v134) Host.sqrt,
    nullary main_cst_19 (constant S_ .f32 0x2B8CBCCC#32),
    unary main_cst_19 main_v135 (broadcastInDim S4096x1 ![] bcast_S_S4096x1 : (⟨S_, .f32⟩ : BufTy).Contents (Elt F) → (⟨S4096x1, .f32⟩ : BufTy).Contents (Elt F)),
    binary main_v134 main_v135 main_v136 (addf : (⟨S4096x1, .f32⟩ : BufTy).Contents (Elt F) → (⟨S4096x1, .f32⟩ : BufTy).Contents (Elt F) → (⟨S4096x1, .f32⟩ : BufTy).Contents (Elt F)),
    unary main_v136 main_v137 (broadcastInDim S4096x750 ![0, 1] bcast_S4096x1_S4096x750_0_1 : (⟨S4096x1, .f32⟩ : BufTy).Contents (Elt F) → (⟨S4096x750, .f32⟩ : BufTy).Contents (Elt F)),
    binary main_v133 main_v137 main_v138 (Host.divf : (⟨S4096x750, .f32⟩ : BufTy).Contents (Elt F) → (⟨S4096x750, .f32⟩ : BufTy).Contents (Elt F) → (⟨S4096x750, .f32⟩ : BufTy).Contents (Elt F)),
    unary main_v132 main_v139 ((extractStridedSlice S4096x18 ![0, 750] · slices_S4096x768_S4096x18_0_750) : (⟨S4096x768, .f32⟩ : BufTy).Contents (Elt F) → (⟨S4096x18, .f32⟩ : BufTy).Contents (Elt F)),
    binary main_v138 main_v139 main_v140 (rCat2 (F := F)),
    binary main_v140 main_arg0 main_v141 (subf : (⟨S4096x768, .f32⟩ : BufTy).Contents (Elt F) → (⟨S4096x768, .f32⟩ : BufTy).Contents (Elt F) → (⟨S4096x768, .f32⟩ : BufTy).Contents (Elt F)),
    binary main_v141 main_v141 main_v142 (mulf : (⟨S4096x768, .f32⟩ : BufTy).Contents (Elt F) → (⟨S4096x768, .f32⟩ : BufTy).Contents (Elt F) → (⟨S4096x768, .f32⟩ : BufTy).Contents (Elt F)),
    nullary main_cst_20 (constant S_ .f32 0x00000000#32),
    binary main_v142 main_cst_20 main_v143 ((fun x v => Host.reduceAdd x v reducesTo_S4096x768_S4096_d1 h_S_) : (⟨S4096x768, .f32⟩ : BufTy).Contents (Elt F) → (⟨S_, .f32⟩ : BufTy).Contents (Elt F) → (⟨S4096, .f32⟩ : BufTy).Contents (Elt F)) ]

/-- The operations of the loss. -/
def opsLoss : List (HloOp τ sig (Elt F)) :=
  [ binary main_v143 main_v105 main_v144 (addf : (⟨S4096, .f32⟩ : BufTy).Contents (Elt F) → (⟨S4096, .f32⟩ : BufTy).Contents (Elt F) → (⟨S4096, .f32⟩ : BufTy).Contents (Elt F)),
    nullary main_cst_21 (constant S_ .f32 0x00000000#32),
    binary main_v144 main_cst_21 main_v145 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_22 (constant S_ .f32 0x45800000#32),
    binary main_v145 main_cst_22 main_v146 (Host.divf : (⟨S_, .f32⟩ : BufTy).Contents (Elt F) → (⟨S_, .f32⟩ : BufTy).Contents (Elt F) → (⟨S_, .f32⟩ : BufTy).Contents (Elt F)) ]

/-- The operations of the codes and the norms. -/
def opsNorm : List (HloOp τ sig (Elt F)) :=
  [ unary main_v33 main_v147 (broadcastInDim S4096x1 ![0] bcast_S4096_S4096x1_0 : (⟨S4096, .i32⟩ : BufTy).Contents (Elt F) → (⟨S4096x1, .i32⟩ : BufTy).Contents (Elt F)),
    unary main_v63 main_v148 (broadcastInDim S4096x1 ![0] bcast_S4096_S4096x1_0 : (⟨S4096, .i32⟩ : BufTy).Contents (Elt F) → (⟨S4096x1, .i32⟩ : BufTy).Contents (Elt F)),
    unary main_v92 main_v149 (broadcastInDim S4096x1 ![0] bcast_S4096_S4096x1_0 : (⟨S4096, .i32⟩ : BufTy).Contents (Elt F) → (⟨S4096x1, .i32⟩ : BufTy).Contents (Elt F)),
    nary ![main_v147, main_v148, main_v149] main_v150 (fun u => rCatIds (u 0) (u 1) (u 2)),
    unary main_v45 main_v151 (broadcastInDim S4096x64x1 ![0, 1] bcast_S4096x64_S4096x64x1_0_1 : (⟨S4096x64, .f32⟩ : BufTy).Contents (Elt F) → (⟨S4096x64x1, .f32⟩ : BufTy).Contents (Elt F)),
    unary main_v75 main_v152 (broadcastInDim S4096x64x1 ![0, 1] bcast_S4096x64_S4096x64x1_0_1 : (⟨S4096x64, .f32⟩ : BufTy).Contents (Elt F) → (⟨S4096x64x1, .f32⟩ : BufTy).Contents (Elt F)),
    unary main_v104 main_v153 (broadcastInDim S4096x64x1 ![0, 1] bcast_S4096x64_S4096x64x1_0_1 : (⟨S4096x64, .f32⟩ : BufTy).Contents (Elt F) → (⟨S4096x64x1, .f32⟩ : BufTy).Contents (Elt F)),
    nary ![main_v151, main_v152, main_v153] main_v154 (fun u => rCatEmb (F := F) (u 0) (u 1) (u 2)),
    TRef.binary (TRef.of (T := ⟨S4096x64x3, .f32⟩) main_v154) (TRef.of (T := ⟨S4096x64x3, .f32⟩) main_v154) (TRef.of (T := ⟨S4096x64x3, .f32⟩) main_call14_v0) mulf,
    TRef.nullary (TRef.of (T := ⟨S_, .f32⟩) main_call14_cst) (constant S_ .f32 0x00000000#32),
    TRef.binary (TRef.of (T := ⟨S4096x64x3, .f32⟩) main_call14_v0) (TRef.of (T := ⟨S_, .f32⟩) main_call14_cst) (TRef.of (T := ⟨S4096x3, .f32⟩) main_call14_v1) (fun x v => Host.reduceAdd x v reducesTo_S4096x64x3_S4096x3_d1 h_S_),
    TRef.unary (TRef.of (T := ⟨S4096x3, .f32⟩) main_call14_v1) (TRef.of (T := ⟨S4096x3, .f32⟩) main_v155) Host.sqrt ]

/-- The operations of the share of unrepeated rows. -/
def opsUniq : List (HloOp τ sig (Elt F)) :=
  [ unary main_v150 main_v156 (broadcastInDim S4096x1x3 ![0, 2] bcast_S4096x3_S4096x1x3_0_2 : (⟨S4096x3, .i32⟩ : BufTy).Contents (Elt F) → (⟨S4096x1x3, .i32⟩ : BufTy).Contents (Elt F)),
    unary main_v150 main_v157 (broadcastInDim S1x4096x3 ![1, 2] bcast_S4096x3_S1x4096x3_1_2 : (⟨S4096x3, .i32⟩ : BufTy).Contents (Elt F) → (⟨S1x4096x3, .i32⟩ : BufTy).Contents (Elt F)),
    unary main_v156 main_v158 (broadcastInDim S4096x4096x3 ![0, 1, 2] bcast_S4096x1x3_S4096x4096x3_0_1_2 : (⟨S4096x1x3, .i32⟩ : BufTy).Contents (Elt F) → (⟨S4096x4096x3, .i32⟩ : BufTy).Contents (Elt F)),
    unary main_v157 main_v159 (broadcastInDim S4096x4096x3 ![0, 1, 2] bcast_S1x4096x3_S4096x4096x3_0_1_2 : (⟨S1x4096x3, .i32⟩ : BufTy).Contents (Elt F) → (⟨S4096x4096x3, .i32⟩ : BufTy).Contents (Elt F)),
    binary main_v158 main_v159 main_v160 (cmpi .eq : (⟨S4096x4096x3, .i32⟩ : BufTy).Contents (Elt F) → (⟨S4096x4096x3, .i32⟩ : BufTy).Contents (Elt F) → (⟨S4096x4096x3, .i1⟩ : BufTy).Contents (Elt F)),
    nullary main_c (constantI S_ 1 1#1),
    binary main_v160 main_c main_v161 ((fun x v => Host.reduce IntOp.andi x v reducesTo_S4096x4096x3_S4096x4096_d2 h_S_) : (⟨S4096x4096x3, .i1⟩ : BufTy).Contents (Elt F) → (⟨S_, .i1⟩ : BufTy).Contents (Elt F) → (⟨S4096x4096, .i1⟩ : BufTy).Contents (Elt F)),
    TRef.nullary (TRef.of (T := ⟨S4096x4096, .i32⟩) main_call15_v0) (iotaInDim S4096x4096 32 0),
    TRef.nullary (TRef.of (T := ⟨S_, .i32⟩) main_call15_c) (constantI S_ 32 0#32),
    TRef.unary (TRef.of (T := ⟨S_, .i32⟩) main_call15_c) (TRef.of (T := ⟨S4096x4096, .i32⟩) main_call15_v1) (broadcastInDim S4096x4096 ![] bcast_S_S4096x4096),
    TRef.binary (TRef.of (T := ⟨S4096x4096, .i32⟩) main_call15_v0) (TRef.of (T := ⟨S4096x4096, .i32⟩) main_call15_v1) (TRef.of (T := ⟨S4096x4096, .i32⟩) main_call15_v2) addi,
    TRef.nullary (TRef.of (T := ⟨S4096x4096, .i32⟩) main_call15_v3) (iotaInDim S4096x4096 32 1),
    TRef.binary (TRef.of (T := ⟨S4096x4096, .i32⟩) main_call15_v2) (TRef.of (T := ⟨S4096x4096, .i32⟩) main_call15_v3) (TRef.of (T := ⟨S4096x4096, .i1⟩) main_call15_v4) (cmpi .sge),
    TRef.nullary (TRef.of (T := ⟨S_, .i1⟩) main_call15_c_0) (constantI S_ 1 0#1),
    TRef.unary (TRef.of (T := ⟨S_, .i1⟩) main_call15_c_0) (TRef.of (T := ⟨S4096x4096, .i1⟩) main_call15_v5) (broadcastInDim S4096x4096 ![] bcast_S_S4096x4096),
    TRef.ternary (TRef.of (T := ⟨S4096x4096, .i1⟩) main_call15_v4) (TRef.of (T := ⟨S4096x4096, .i1⟩) main_call15_v5) (TRef.of (T := ⟨S4096x4096, .i1⟩) main_v161) (TRef.of (T := ⟨S4096x4096, .i1⟩) main_v162) select,
    unary main_v162 main_v163 (noti : (⟨S4096x4096, .i1⟩ : BufTy).Contents (Elt F) → (⟨S4096x4096, .i1⟩ : BufTy).Contents (Elt F)),
    nullary main_c_23 (constantI S_ 1 1#1),
    binary main_v163 main_c_23 main_v164 ((fun x v => Host.reduce IntOp.andi x v reducesTo_S4096x4096_S4096_d1 h_S_) : (⟨S4096x4096, .i1⟩ : BufTy).Contents (Elt F) → (⟨S_, .i1⟩ : BufTy).Contents (Elt F) → (⟨S4096, .i1⟩ : BufTy).Contents (Elt F)),
    unary main_v164 main_v165 ((extui 32 · natLt_1_32) : (⟨S4096, .i1⟩ : BufTy).Contents (Elt F) → (⟨S4096, .i32⟩ : BufTy).Contents (Elt F)),
    nullary main_c_24 (constantI S_ 32 0#32),
    binary main_v165 main_c_24 main_v166 ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)),
    unary main_v166 main_v167 (sitofp .f32 : (⟨S_, .i32⟩ : BufTy).Contents (Elt F) → (⟨S_, .f32⟩ : BufTy).Contents (Elt F)),
    nullary main_cst_25 (constant S_ .f32 0x45800000#32),
    binary main_v167 main_cst_25 main_v168 (Host.divf : (⟨S_, .f32⟩ : BufTy).Contents (Elt F) → (⟨S_, .f32⟩ : BufTy).Contents (Elt F) → (⟨S_, .f32⟩ : BufTy).Contents (Elt F)) ]

/-- The operations of the two means. -/
def opsMean : List (HloOp τ sig (Elt F)) :=
  [ nullary main_cst_26 (constant S_ .f32 0x00000000#32),
    binary main_v143 main_cst_26 main_v169 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_27 (constant S_ .f32 0x45800000#32),
    binary main_v169 main_cst_27 main_v170 (Host.divf : (⟨S_, .f32⟩ : BufTy).Contents (Elt F) → (⟨S_, .f32⟩ : BufTy).Contents (Elt F) → (⟨S_, .f32⟩ : BufTy).Contents (Elt F)),
    nullary main_cst_28 (constant S_ .f32 0x00000000#32),
    binary main_v105 main_cst_28 main_v171 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_29 (constant S_ .f32 0x45800000#32),
    binary main_v171 main_cst_29 main_v172 (Host.divf : (⟨S_, .f32⟩ : BufTy).Contents (Elt F) → (⟨S_, .f32⟩ : BufTy).Contents (Elt F) → (⟨S_, .f32⟩ : BufTy).Contents (Elt F)) ]

/-- All of the reference's operations, in order. -/
def ops : List (HloOp τ sig (Elt F)) :=
  opsEnc ++ (opsQ0 ++ (opsQ1 ++ (opsQ2 ++ (opsDec ++ (opsErr ++ (opsLoss ++ (opsNorm ++ (opsUniq ++ (opsMean)))))))))

set_option maxHeartbeats 16000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem opsEnc_sub : (opsEnc : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem opsEnc_fresh : (opsEnc : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩
theorem opsEnc_keep (V : Valuation τ sig (Elt F)) (r : Ref sig .tc) (h : r ∉ ([main_v0, main_v1, main_v2, main_v3, main_call0_cst, main_call0_v0, main_v4, main_v5, main_v6, main_v7, main_v8, main_call1_cst, main_call1_v0, main_v9, main_v10, main_v11, main_v12, main_v13, main_call2_cst, main_call2_v0, main_v14, main_v15, main_v16, main_v17, main_v18] : List (Ref sig .tc))) :
    after opsEnc V (Proc.devRef .tc r) = V (Proc.devRef .tc r) :=
  after_unwritten _ rfl h V

theorem opsQ0_sub : (opsQ0 : List (HloOp τ sig (Elt F))).Forall fun op => op.bufs ⊆ tcRefs τ sig :=
  ⟨binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., nullary_bufs_sub .., binary_bufs_sub .., binary_bufs_sub .., binary_bufs_sub .., nullary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub ..⟩
theorem opsQ0_fresh : (opsQ0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsQ0_keep (V : Valuation τ sig (Elt F)) (r : Ref sig .tc) (h : r ∉ ([main_v19, main_cst, main_v20, main_v21, main_v22, main_v23, main_cst_0, main_v24, main_v25, main_v26, main_v27, main_v28, main_cst_1, main_v29, main_v30, main_v31, main_v32, main_call3_v0, main_call3_cst, main_call3_c, main_call3_v1_0, main_v33, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v34, main_v35, main_v36, main_cst_2, main_v37, main_v38, main_v39, main_cst_3, main_v40, main_cst_4, main_v41, main_v42, main_v43, main_v44, main_v45, main_cst_5, main_v46, main_v47, main_v48] : List (Ref sig .tc))) :
    after opsQ0 V (Proc.devRef .tc r) = V (Proc.devRef .tc r) :=
  after_unwritten _ rfl h V

theorem opsQ1_sub : (opsQ1 : List (HloOp τ sig (Elt F))).Forall fun op => op.bufs ⊆ tcRefs τ sig :=
  ⟨binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., nullary_bufs_sub .., binary_bufs_sub .., binary_bufs_sub .., binary_bufs_sub .., nullary_bufs_sub .., binary_bufs_sub .., nullary_bufs_sub .., unary_bufs_sub .., binary_bufs_sub .., binary_bufs_sub .., binary_bufs_sub .., binary_bufs_sub .., binary_bufs_sub .., binary_bufs_sub ..⟩
theorem opsQ1_fresh : (opsQ1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsQ1_keep (V : Valuation τ sig (Elt F)) (r : Ref sig .tc) (h : r ∉ ([main_v49, main_cst_6, main_v50, main_v51, main_v52, main_v53, main_cst_7, main_v54, main_v55, main_v56, main_v57, main_v58, main_cst_8, main_v59, main_v60, main_v61, main_v62, main_call5_v0, main_call5_cst, main_call5_c, main_call5_v1_0, main_v63, main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v64, main_v65, main_v66, main_cst_9, main_v67, main_v68, main_v69, main_cst_10, main_v70, main_cst_11, main_v71, main_v72, main_v73, main_v74, main_v75, main_v76, main_v77] : List (Ref sig .tc))) :
    after opsQ1 V (Proc.devRef .tc r) = V (Proc.devRef .tc r) :=
  after_unwritten _ rfl h V

theorem opsQ2_sub : (opsQ2 : List (HloOp τ sig (Elt F))).Forall fun op => op.bufs ⊆ tcRefs τ sig :=
  ⟨binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., nullary_bufs_sub .., binary_bufs_sub .., binary_bufs_sub .., binary_bufs_sub .., nullary_bufs_sub .., binary_bufs_sub .., nullary_bufs_sub .., unary_bufs_sub .., binary_bufs_sub .., binary_bufs_sub .., binary_bufs_sub .., binary_bufs_sub .., binary_bufs_sub .., binary_bufs_sub ..⟩
theorem opsQ2_fresh : (opsQ2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsQ2_keep (V : Valuation τ sig (Elt F)) (r : Ref sig .tc) (h : r ∉ ([main_v78, main_cst_12, main_v79, main_v80, main_v81, main_v82, main_cst_13, main_v83, main_v84, main_v85, main_v86, main_v87, main_cst_14, main_v88, main_v89, main_v90, main_v91, main_call7_v0, main_call7_cst, main_call7_c, main_call7_v1_0, main_v92, main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v93, main_v94, main_v95, main_cst_15, main_v96, main_v97, main_v98, main_cst_16, main_v99, main_cst_17, main_v100, main_v101, main_v102, main_v103, main_v104, main_v105, main_v106] : List (Ref sig .tc))) :
    after opsQ2 V (Proc.devRef .tc r) = V (Proc.devRef .tc r) :=
  after_unwritten _ rfl h V

theorem opsDec_sub : (opsDec : List (HloOp τ sig (Elt F))).Forall fun op => op.bufs ⊆ tcRefs τ sig :=
  ⟨binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem opsDec_fresh : (opsDec : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
theorem opsDec_keep (V : Valuation τ sig (Elt F)) (r : Ref sig .tc) (h : r ∉ ([main_v107, main_v108, main_v109, main_v110, main_v111, main_v112, main_call9_cst, main_call9_v0, main_v113, main_v114, main_v115, main_v116, main_v117, main_call10_cst, main_call10_v0, main_v118, main_v119, main_v120, main_v121, main_v122, main_call11_cst, main_call11_v0, main_v123, main_v124, main_v125, main_v126, main_v127] : List (Ref sig .tc))) :
    after opsDec V (Proc.devRef .tc r) = V (Proc.devRef .tc r) :=
  after_unwritten _ rfl h V

theorem opsErr_sub : (opsErr : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., binary_bufs_sub .., binary_bufs_sub .., nullary_bufs_sub .., binary_bufs_sub ..⟩
theorem opsErr_fresh : (opsErr : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
theorem opsErr_keep (V : Valuation τ sig (Elt F)) (r : Ref sig .tc) (h : r ∉ ([main_call12_v0, main_call12_cst, main_call12_v1, main_call12_v2, main_v128, main_cst_18, main_v129, main_v130, main_v131, main_v132, main_v133, main_call13_v0, main_call13_cst, main_call13_v1, main_call13_v2, main_v134, main_cst_19, main_v135, main_v136, main_v137, main_v138, main_v139, main_v140, main_v141, main_v142, main_cst_20, main_v143] : List (Ref sig .tc))) :
    after opsErr V (Proc.devRef .tc r) = V (Proc.devRef .tc r) :=
  after_unwritten _ rfl h V

theorem opsLoss_sub : (opsLoss : List (HloOp τ sig (Elt F))).Forall fun op => op.bufs ⊆ tcRefs τ sig :=
  ⟨binary_bufs_sub .., nullary_bufs_sub .., binary_bufs_sub .., nullary_bufs_sub .., binary_bufs_sub ..⟩
theorem opsLoss_fresh : (opsLoss : List (HloOp τ sig (Elt F))).Forall fun op => op.fresh = ∅ :=
  ⟨rfl, rfl, rfl, rfl, rfl⟩
theorem opsLoss_keep (V : Valuation τ sig (Elt F)) (r : Ref sig .tc) (h : r ∉ ([main_v144, main_cst_21, main_v145, main_cst_22, main_v146] : List (Ref sig .tc))) :
    after opsLoss V (Proc.devRef .tc r) = V (Proc.devRef .tc r) :=
  after_unwritten _ rfl h V

theorem opsNorm_sub : (opsNorm : List (HloOp τ sig (Elt F))).Forall fun op => op.bufs ⊆ tcRefs τ sig :=
  ⟨unary_bufs_sub .., unary_bufs_sub .., unary_bufs_sub .., nary_bufs_sub .., unary_bufs_sub .., unary_bufs_sub .., unary_bufs_sub .., nary_bufs_sub .., binary_bufs_sub .., nullary_bufs_sub .., binary_bufs_sub .., unary_bufs_sub ..⟩
theorem opsNorm_fresh : (opsNorm : List (HloOp τ sig (Elt F))).Forall fun op => op.fresh = ∅ :=
  ⟨rfl, rfl, rfl, rfl, rfl, rfl, rfl, rfl, rfl, rfl, rfl, rfl⟩
theorem opsNorm_keep (V : Valuation τ sig (Elt F)) (r : Ref sig .tc) (h : r ∉ ([main_v147, main_v148, main_v149, main_v150, main_v151, main_v152, main_v153, main_v154, main_call14_v0, main_call14_cst, main_call14_v1, main_v155] : List (Ref sig .tc))) :
    after opsNorm V (Proc.devRef .tc r) = V (Proc.devRef .tc r) :=
  after_unwritten _ rfl h V

theorem opsUniq_sub : (opsUniq : List (HloOp τ sig (Elt F))).Forall fun op => op.bufs ⊆ tcRefs τ sig :=
  ⟨unary_bufs_sub .., unary_bufs_sub .., unary_bufs_sub .., unary_bufs_sub .., binary_bufs_sub .., nullary_bufs_sub .., binary_bufs_sub .., nullary_bufs_sub .., nullary_bufs_sub .., unary_bufs_sub .., binary_bufs_sub .., nullary_bufs_sub .., binary_bufs_sub .., nullary_bufs_sub .., unary_bufs_sub .., ternary_bufs_sub .., unary_bufs_sub .., nullary_bufs_sub .., binary_bufs_sub .., unary_bufs_sub .., nullary_bufs_sub .., binary_bufs_sub .., unary_bufs_sub .., nullary_bufs_sub .., binary_bufs_sub ..⟩
theorem opsUniq_fresh : (opsUniq : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩
theorem opsUniq_keep (V : Valuation τ sig (Elt F)) (r : Ref sig .tc) (h : r ∉ ([main_v156, main_v157, main_v158, main_v159, main_v160, main_c, main_v161, main_call15_v0, main_call15_c, main_call15_v1, main_call15_v2, main_call15_v3, main_call15_v4, main_call15_c_0, main_call15_v5, main_v162, main_v163, main_c_23, main_v164, main_v165, main_c_24, main_v166, main_v167, main_cst_25, main_v168] : List (Ref sig .tc))) :
    after opsUniq V (Proc.devRef .tc r) = V (Proc.devRef .tc r) :=
  after_unwritten _ rfl h V

theorem opsMean_sub : (opsMean : List (HloOp τ sig (Elt F))).Forall fun op => op.bufs ⊆ tcRefs τ sig :=
  ⟨nullary_bufs_sub .., binary_bufs_sub .., nullary_bufs_sub .., binary_bufs_sub .., nullary_bufs_sub .., binary_bufs_sub .., nullary_bufs_sub .., binary_bufs_sub ..⟩
theorem opsMean_fresh : (opsMean : List (HloOp τ sig (Elt F))).Forall fun op => op.fresh = ∅ :=
  ⟨rfl, rfl, rfl, rfl, rfl, rfl, rfl, rfl⟩
theorem opsMean_keep (V : Valuation τ sig (Elt F)) (r : Ref sig .tc) (h : r ∉ ([main_cst_26, main_v169, main_cst_27, main_v170, main_cst_28, main_v171, main_cst_29, main_v172] : List (Ref sig .tc))) :
    after opsMean V (Proc.devRef .tc r) = V (Proc.devRef .tc r) :=
  after_unwritten _ rfl h V

theorem ops_sub : (ops : List (HloOp τ sig (Elt F))).Forall fun op => op.bufs ⊆ tcRefs τ sig := by
  simp only [ops, List.forall_append]
  exact ⟨opsEnc_sub, opsQ0_sub, opsQ1_sub, opsQ2_sub, opsDec_sub, opsErr_sub, opsLoss_sub, opsNorm_sub, opsUniq_sub, opsMean_sub⟩
theorem ops_fresh : ∀ op ∈ (ops : List (HloOp τ sig (Elt F))), op.fresh = ∅ := by
  rw [← List.forall_iff_forall_mem]
  simp only [ops, List.forall_append]
  exact ⟨opsEnc_fresh, opsQ0_fresh, opsQ1_fresh, opsQ2_fresh, opsDec_fresh, opsErr_fresh, opsLoss_fresh, opsNorm_fresh, opsUniq_fresh, opsMean_fresh⟩

set_option maxHeartbeats 4000000 in
/-- The encoder leaves the encoded rows. -/
theorem opsEnc_v18 (V : Valuation τ sig (Elt F)) : after opsEnc V (Proc.devRef .tc main_v18) = rEnc (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  simp only [opsEnc, TRef.binary, TRef.nullary, TRef.unary, TRef.ternary, TRef.quaternary, TRef.toBuf, TRef.ofBuf, cast_eq]
  after_results_simp
  rfl

set_option maxHeartbeats 4000000 in
/-- The quantiser leaves each row's code, -/
theorem opsQ0_v33 (V : Valuation τ sig (Elt F)) : after opsQ0 V (Proc.devRef .tc main_v33) = rId (rDist (V (Proc.devRef .tc main_v18)) (V (Proc.devRef .tc main_arg17))) := by
  simp only [opsQ0, TRef.binary, TRef.nullary, TRef.unary, TRef.ternary, TRef.quaternary, TRef.toBuf, TRef.ofBuf, cast_eq]
  after_results_simp
  rfl

set_option maxHeartbeats 4000000 in
/-- its straight-through code vector, -/
theorem opsQ0_v45 (V : Valuation τ sig (Elt F)) : after opsQ0 V (Proc.devRef .tc main_v45) = rSte (V (Proc.devRef .tc main_v18)) (rEmb (rId (rDist (V (Proc.devRef .tc main_v18)) (V (Proc.devRef .tc main_arg17)))) (V (Proc.devRef .tc main_arg17))) := by
  simp only [opsQ0, TRef.binary, TRef.nullary, TRef.unary, TRef.ternary, TRef.quaternary, TRef.toBuf, TRef.ofBuf, cast_eq]
  after_results_simp
  rfl

set_option maxHeartbeats 4000000 in
/-- the loss so far, -/
theorem opsQ0_v47 (V : Valuation τ sig (Elt F)) : after opsQ0 V (Proc.devRef .tc main_v47) = rL0 (rLoss (V (Proc.devRef .tc main_v18)) (rEmb (rId (rDist (V (Proc.devRef .tc main_v18)) (V (Proc.devRef .tc main_arg17)))) (V (Proc.devRef .tc main_arg17)))) := by
  simp only [opsQ0, TRef.binary, TRef.nullary, TRef.unary, TRef.ternary, TRef.quaternary, TRef.toBuf, TRef.ofBuf, cast_eq]
  after_results_simp
  rfl

set_option maxHeartbeats 4000000 in
/-- and the residual. -/
theorem opsQ0_v48 (V : Valuation τ sig (Elt F)) : after opsQ0 V (Proc.devRef .tc main_v48) = subf (V (Proc.devRef .tc main_v18)) (rSte (V (Proc.devRef .tc main_v18)) (rEmb (rId (rDist (V (Proc.devRef .tc main_v18)) (V (Proc.devRef .tc main_arg17)))) (V (Proc.devRef .tc main_arg17)))) := by
  simp only [opsQ0, TRef.binary, TRef.nullary, TRef.unary, TRef.ternary, TRef.quaternary, TRef.toBuf, TRef.ofBuf, cast_eq]
  after_results_simp
  rfl

set_option maxHeartbeats 4000000 in
/-- The quantiser leaves each row's code, -/
theorem opsQ1_v63 (V : Valuation τ sig (Elt F)) : after opsQ1 V (Proc.devRef .tc main_v63) = rId (rDist (V (Proc.devRef .tc main_v48)) (V (Proc.devRef .tc main_arg18))) := by
  simp only [opsQ1, TRef.binary, TRef.nullary, TRef.unary, TRef.ternary, TRef.quaternary, TRef.toBuf, TRef.ofBuf, cast_eq]
  after_results_simp
  rfl

set_option maxHeartbeats 4000000 in
/-- its straight-through code vector, -/
theorem opsQ1_v75 (V : Valuation τ sig (Elt F)) : after opsQ1 V (Proc.devRef .tc main_v75) = rSte (V (Proc.devRef .tc main_v48)) (rEmb (rId (rDist (V (Proc.devRef .tc main_v48)) (V (Proc.devRef .tc main_arg18)))) (V (Proc.devRef .tc main_arg18))) := by
  simp only [opsQ1, TRef.binary, TRef.nullary, TRef.unary, TRef.ternary, TRef.quaternary, TRef.toBuf, TRef.ofBuf, cast_eq]
  after_results_simp
  rfl

set_option maxHeartbeats 4000000 in
/-- the loss so far, -/
theorem opsQ1_v76 (V : Valuation τ sig (Elt F)) : after opsQ1 V (Proc.devRef .tc main_v76) = addf (V (Proc.devRef .tc main_v47)) (rLoss (V (Proc.devRef .tc main_v48)) (rEmb (rId (rDist (V (Proc.devRef .tc main_v48)) (V (Proc.devRef .tc main_arg18)))) (V (Proc.devRef .tc main_arg18)))) := by
  simp only [opsQ1, TRef.binary, TRef.nullary, TRef.unary, TRef.ternary, TRef.quaternary, TRef.toBuf, TRef.ofBuf, cast_eq]
  after_results_simp
  rfl

set_option maxHeartbeats 4000000 in
/-- and the residual. -/
theorem opsQ1_v77 (V : Valuation τ sig (Elt F)) : after opsQ1 V (Proc.devRef .tc main_v77) = subf (V (Proc.devRef .tc main_v48)) (rSte (V (Proc.devRef .tc main_v48)) (rEmb (rId (rDist (V (Proc.devRef .tc main_v48)) (V (Proc.devRef .tc main_arg18)))) (V (Proc.devRef .tc main_arg18)))) := by
  simp only [opsQ1, TRef.binary, TRef.nullary, TRef.unary, TRef.ternary, TRef.quaternary, TRef.toBuf, TRef.ofBuf, cast_eq]
  after_results_simp
  rfl

set_option maxHeartbeats 4000000 in
/-- The quantiser leaves each row's code, -/
theorem opsQ2_v92 (V : Valuation τ sig (Elt F)) : after opsQ2 V (Proc.devRef .tc main_v92) = rId (rDist (V (Proc.devRef .tc main_v77)) (V (Proc.devRef .tc main_arg19))) := by
  simp only [opsQ2, TRef.binary, TRef.nullary, TRef.unary, TRef.ternary, TRef.quaternary, TRef.toBuf, TRef.ofBuf, cast_eq]
  after_results_simp
  rfl

set_option maxHeartbeats 4000000 in
/-- its straight-through code vector, -/
theorem opsQ2_v104 (V : Valuation τ sig (Elt F)) : after opsQ2 V (Proc.devRef .tc main_v104) = rSte (V (Proc.devRef .tc main_v77)) (rEmb (rId (rDist (V (Proc.devRef .tc main_v77)) (V (Proc.devRef .tc main_arg19)))) (V (Proc.devRef .tc main_arg19))) := by
  simp only [opsQ2, TRef.binary, TRef.nullary, TRef.unary, TRef.ternary, TRef.quaternary, TRef.toBuf, TRef.ofBuf, cast_eq]
  after_results_simp
  rfl

set_option maxHeartbeats 4000000 in
/-- the loss so far, -/
theorem opsQ2_v105 (V : Valuation τ sig (Elt F)) : after opsQ2 V (Proc.devRef .tc main_v105) = addf (V (Proc.devRef .tc main_v76)) (rLoss (V (Proc.devRef .tc main_v77)) (rEmb (rId (rDist (V (Proc.devRef .tc main_v77)) (V (Proc.devRef .tc main_arg19)))) (V (Proc.devRef .tc main_arg19)))) := by
  simp only [opsQ2, TRef.binary, TRef.nullary, TRef.unary, TRef.ternary, TRef.quaternary, TRef.toBuf, TRef.ofBuf, cast_eq]
  after_results_simp
  rfl

set_option maxHeartbeats 4000000 in
/-- The decoder leaves the decoded rows. -/
theorem opsDec_v127 (V : Valuation τ sig (Elt F)) : after opsDec V (Proc.devRef .tc main_v127) = rDec (addf (addf (V (Proc.devRef .tc main_v45)) (V (Proc.devRef .tc main_v75))) (V (Proc.devRef .tc main_v104))) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  simp only [opsDec, TRef.binary, TRef.nullary, TRef.unary, TRef.ternary, TRef.quaternary, TRef.toBuf, TRef.ofBuf, cast_eq]
  after_results_simp
  rfl

set_option maxHeartbeats 4000000 in
/-- The reconstruction error of each row. -/
theorem opsErr_v143 (V : Valuation τ sig (Elt F)) : after opsErr V (Proc.devRef .tc main_v143) = rErr (rUnit (V (Proc.devRef .tc main_v127))) (V (Proc.devRef .tc main_arg0)) := by
  simp only [opsErr, TRef.binary, TRef.nullary, TRef.unary, TRef.ternary, TRef.quaternary, TRef.toBuf, TRef.ofBuf, cast_eq]
  after_results_simp
  rfl

set_option maxHeartbeats 4000000 in
/-- The first result. -/
theorem opsLoss_v146 (V : Valuation τ sig (Elt F)) : after opsLoss V (Proc.devRef .tc main_v146) = rMean (addf (V (Proc.devRef .tc main_v143)) (V (Proc.devRef .tc main_v105))) := by
  simp only [opsLoss, TRef.binary, TRef.nullary, TRef.unary, TRef.ternary, TRef.quaternary, TRef.toBuf, TRef.ofBuf, cast_eq]
  after_results_simp
  rfl

set_option maxHeartbeats 4000000 in
/-- The codes of each row, side by side. -/
theorem opsNorm_v150 (V : Valuation τ sig (Elt F)) : after opsNorm V (Proc.devRef .tc main_v150) = rIds (V (Proc.devRef .tc main_v33)) (V (Proc.devRef .tc main_v63)) (V (Proc.devRef .tc main_v92)) := by
  simp only [opsNorm, TRef.binary, TRef.nullary, TRef.unary, TRef.ternary, TRef.quaternary, TRef.toBuf, TRef.ofBuf, cast_eq]
  after_results_simp
  rfl

set_option maxHeartbeats 4000000 in
/-- The fourth result. -/
theorem opsNorm_v155 (V : Valuation τ sig (Elt F)) : after opsNorm V (Proc.devRef .tc main_v155) = rNorms (V (Proc.devRef .tc main_v45)) (V (Proc.devRef .tc main_v75)) (V (Proc.devRef .tc main_v104)) := by
  simp only [opsNorm, TRef.binary, TRef.nullary, TRef.unary, TRef.ternary, TRef.quaternary, TRef.toBuf, TRef.ofBuf, cast_eq]
  after_results_simp
  rfl

set_option maxHeartbeats 4000000 in
/-- The fifth result. -/
theorem opsUniq_v168 (V : Valuation τ sig (Elt F)) : after opsUniq V (Proc.devRef .tc main_v168) = rUniq (V (Proc.devRef .tc main_v150)) := by
  simp only [opsUniq, TRef.binary, TRef.nullary, TRef.unary, TRef.ternary, TRef.quaternary, TRef.toBuf, TRef.ofBuf, cast_eq]
  after_results_simp
  rfl

set_option maxHeartbeats 4000000 in
/-- The second result. -/
theorem opsMean_v170 (V : Valuation τ sig (Elt F)) : after opsMean V (Proc.devRef .tc main_v170) = rMean (V (Proc.devRef .tc main_v143)) := by
  simp only [opsMean, TRef.binary, TRef.nullary, TRef.unary, TRef.ternary, TRef.quaternary, TRef.toBuf, TRef.ofBuf, cast_eq]
  after_results_simp
  rfl

set_option maxHeartbeats 4000000 in
/-- The third result. -/
theorem opsMean_v172 (V : Valuation τ sig (Elt F)) : after opsMean V (Proc.devRef .tc main_v172) = rMean (V (Proc.devRef .tc main_v105)) := by
  simp only [opsMean, TRef.binary, TRef.nullary, TRef.unary, TRef.ternary, TRef.quaternary, TRef.toBuf, TRef.ofBuf, cast_eq]
  after_results_simp
  rfl

end Cert.ReferenceIdeal.Hand

end
-- ==== Proof.RefVal.lean ====
/- The reference's results as functions of its arguments, and its run. -/
module

public import proofs.«01_k».proof.Proof.RefRun

@[expose] public section

set_option maxRecDepth 16384

noncomputable section

namespace Cert.ReferenceIdeal.Hand

open Idealize.ShloMosaic Idealize.ShloMosaic.TcCoe Idealize.ShloMosaic.StableHlo Idealize.SL.Sem
open Cert.ReferenceIdeal.Gen

variable {F : FTy → Type} [FloatOps F]

/-- The twenty arguments: the rows, the layers' weights and biases, the three codebooks. -/
structure Args (F : FTy → Type) where
  a0 : FVec F S4096x768 .f32
  a1 : FVec F S768x512 .f32
  a2 : FVec F S512 .f32
  a3 : FVec F S512x256 .f32
  a4 : FVec F S256 .f32
  a5 : FVec F S256x128 .f32
  a6 : FVec F S128 .f32
  a7 : FVec F S128x64 .f32
  a8 : FVec F S64 .f32
  a9 : FVec F S64x128 .f32
  a10 : FVec F S128 .f32
  a11 : FVec F S128x256 .f32
  a12 : FVec F S256 .f32
  a13 : FVec F S256x512 .f32
  a14 : FVec F S512 .f32
  a15 : FVec F S512x768 .f32
  a16 : FVec F S768 .f32
  a17 : FVec F S1024x64 .f32
  a18 : FVec F S1024x64 .f32
  a19 : FVec F S1024x64 .f32

/-- The encoded rows. -/
def Args.z (A : Args F) := rEnc A.a0 A.a1 A.a2 A.a3 A.a4 A.a5 A.a6 A.a7 A.a8
/-- First quantiser: the codes, the code vectors, the straight-through vectors, the residual. -/
def Args.k0 (A : Args F) := rId (F := F) (rDist A.z A.a17)
def Args.e0 (A : Args F) := rEmb A.k0 A.a17
def Args.s0 (A : Args F) := rSte A.z A.e0
def Args.r1 (A : Args F) := subf A.z A.s0
/-- Second quantiser. -/
def Args.k1 (A : Args F) := rId (F := F) (rDist A.r1 A.a18)
def Args.e1 (A : Args F) := rEmb A.k1 A.a18
def Args.s1 (A : Args F) := rSte A.r1 A.e1
def Args.r2 (A : Args F) := subf A.r1 A.s1
/-- Third quantiser. -/
def Args.k2 (A : Args F) := rId (F := F) (rDist A.r2 A.a19)
def Args.e2 (A : Args F) := rEmb A.k2 A.a19
def Args.s2 (A : Args F) := rSte A.r2 A.e2
/-- The quantiser loss of each row. -/
def Args.q (A : Args F) := addf (addf (rL0 (rLoss A.z A.e0)) (rLoss A.r1 A.e1)) (rLoss A.r2 A.e2)
/-- The decoded rows. -/
def Args.h (A : Args F) := rDec (addf (addf A.s0 A.s1) A.s2) A.a9 A.a10 A.a11 A.a12 A.a13 A.a14 A.a15 A.a16
/-- The reconstruction error of each row. -/
def Args.err (A : Args F) := rErr (rUnit A.h) A.a0
/-- The five results. -/
def Args.loss (A : Args F) := rMean (addf A.err A.q)
def Args.recon (A : Args F) := rMean A.err
def Args.qloss (A : Args F) := rMean A.q
def Args.norms (A : Args F) := rNorms A.s0 A.s1 A.s2
def Args.uniq (A : Args F) := rUniq (F := F) (rIds A.k0 A.k1 A.k2)

/-- The arguments as the reference's memory holds them. -/
abbrev argsOf (V : Valuation τ sig (Elt F)) : Args F :=
  ⟨V (Proc.devRef .tc main_arg0), V (Proc.devRef .tc main_arg1), V (Proc.devRef .tc main_arg2), V (Proc.devRef .tc main_arg3), V (Proc.devRef .tc main_arg4), V (Proc.devRef .tc main_arg5), V (Proc.devRef .tc main_arg6), V (Proc.devRef .tc main_arg7), V (Proc.devRef .tc main_arg8), V (Proc.devRef .tc main_arg9), V (Proc.devRef .tc main_arg10), V (Proc.devRef .tc main_arg11), V (Proc.devRef .tc main_arg12), V (Proc.devRef .tc main_arg13), V (Proc.devRef .tc main_arg14), V (Proc.devRef .tc main_arg15), V (Proc.devRef .tc main_arg16), V (Proc.devRef .tc main_arg17), V (Proc.devRef .tc main_arg18), V (Proc.devRef .tc main_arg19)⟩

theorem after_app (l₁ l₂ : List (HloOp τ sig (Elt F))) (V : Valuation τ sig (Elt F)) :
    after (l₁ ++ l₂) V = after l₂ (after l₁ V) := by
  induction l₁ generalizing V with
  | nil => rfl
  | cons op l ih => exact ih _

theorem after_ops (V : Valuation τ sig (Elt F)) :
    after ops V = after opsMean (after opsUniq (after opsNorm (after opsLoss (after opsErr (after opsDec (after opsQ2 (after opsQ1 (after opsQ0 (after opsEnc V))))))))) := by
  simp only [ops, after_app]

set_option maxHeartbeats 2000000 in
theorem val_v146 (V : Valuation τ sig (Elt F)) : after ops V (Proc.devRef .tc main_v146) = (argsOf V).loss := by
  rw [after_ops]
  rw [opsMean_keep _ main_v146 (by decide), opsUniq_keep _ main_v146 (by decide), opsNorm_keep _ main_v146 (by decide), opsLoss_v146, opsErr_keep _ main_v105 (by decide), opsErr_v143, opsDec_keep _ main_v105 (by decide), opsDec_keep _ main_arg0 (by decide), opsDec_v127, opsQ2_v105, opsQ2_keep _ main_arg0 (by decide), opsQ2_keep _ main_arg10 (by decide), opsQ2_keep _ main_arg11 (by decide), opsQ2_keep _ main_arg12 (by decide), opsQ2_keep _ main_arg13 (by decide), opsQ2_keep _ main_arg14 (by decide), opsQ2_keep _ main_arg15 (by decide), opsQ2_keep _ main_arg16 (by decide), opsQ2_keep _ main_arg9 (by decide), opsQ2_v104, opsQ2_keep _ main_v45 (by decide), opsQ2_keep _ main_v75 (by decide), opsQ1_keep _ main_arg19 (by decide), opsQ1_v76, opsQ1_v77, opsQ1_keep _ main_arg0 (by decide), opsQ1_keep _ main_arg10 (by decide), opsQ1_keep _ main_arg11 (by decide), opsQ1_keep _ main_arg12 (by decide), opsQ1_keep _ main_arg13 (by decide), opsQ1_keep _ main_arg14 (by decide), opsQ1_keep _ main_arg15 (by decide), opsQ1_keep _ main_arg16 (by decide), opsQ1_keep _ main_arg9 (by decide), opsQ1_keep _ main_v45 (by decide), opsQ1_v75, opsQ0_keep _ main_arg19 (by decide), opsQ0_keep _ main_arg18 (by decide), opsQ0_v47, opsQ0_v48, opsQ0_keep _ main_arg0 (by decide), opsQ0_keep _ main_arg10 (by decide), opsQ0_keep _ main_arg11 (by decide), opsQ0_keep _ main_arg12 (by decide), opsQ0_keep _ main_arg13 (by decide), opsQ0_keep _ main_arg14 (by decide), opsQ0_keep _ main_arg15 (by decide), opsQ0_keep _ main_arg16 (by decide), opsQ0_keep _ main_arg9 (by decide), opsQ0_v45, opsEnc_keep _ main_arg19 (by decide), opsEnc_keep _ main_arg18 (by decide), opsEnc_keep _ main_arg17 (by decide), opsEnc_v18, opsEnc_keep _ main_arg0 (by decide), opsEnc_keep _ main_arg10 (by decide), opsEnc_keep _ main_arg11 (by decide), opsEnc_keep _ main_arg12 (by decide), opsEnc_keep _ main_arg13 (by decide), opsEnc_keep _ main_arg14 (by decide), opsEnc_keep _ main_arg15 (by decide), opsEnc_keep _ main_arg16 (by decide), opsEnc_keep _ main_arg9 (by decide)]
  rfl

set_option maxHeartbeats 2000000 in
theorem val_v170 (V : Valuation τ sig (Elt F)) : after ops V (Proc.devRef .tc main_v170) = (argsOf V).recon := by
  rw [after_ops]
  rw [opsMean_v170, opsUniq_keep _ main_v143 (by decide), opsNorm_keep _ main_v143 (by decide), opsLoss_keep _ main_v143 (by decide), opsErr_v143, opsDec_keep _ main_arg0 (by decide), opsDec_v127, opsQ2_keep _ main_arg0 (by decide), opsQ2_keep _ main_arg10 (by decide), opsQ2_keep _ main_arg11 (by decide), opsQ2_keep _ main_arg12 (by decide), opsQ2_keep _ main_arg13 (by decide), opsQ2_keep _ main_arg14 (by decide), opsQ2_keep _ main_arg15 (by decide), opsQ2_keep _ main_arg16 (by decide), opsQ2_keep _ main_arg9 (by decide), opsQ2_v104, opsQ2_keep _ main_v45 (by decide), opsQ2_keep _ main_v75 (by decide), opsQ1_keep _ main_arg0 (by decide), opsQ1_keep _ main_arg10 (by decide), opsQ1_keep _ main_arg11 (by decide), opsQ1_keep _ main_arg12 (by decide), opsQ1_keep _ main_arg13 (by decide), opsQ1_keep _ main_arg14 (by decide), opsQ1_keep _ main_arg15 (by decide), opsQ1_keep _ main_arg16 (by decide), opsQ1_keep _ main_arg9 (by decide), opsQ1_keep _ main_arg19 (by decide), opsQ1_v77, opsQ1_keep _ main_v45 (by decide), opsQ1_v75, opsQ0_keep _ main_arg0 (by decide), opsQ0_keep _ main_arg10 (by decide), opsQ0_keep _ main_arg11 (by decide), opsQ0_keep _ main_arg12 (by decide), opsQ0_keep _ main_arg13 (by decide), opsQ0_keep _ main_arg14 (by decide), opsQ0_keep _ main_arg15 (by decide), opsQ0_keep _ main_arg16 (by decide), opsQ0_keep _ main_arg9 (by decide), opsQ0_keep _ main_arg19 (by decide), opsQ0_keep _ main_arg18 (by decide), opsQ0_v48, opsQ0_v45, opsEnc_keep _ main_arg0 (by decide), opsEnc_keep _ main_arg10 (by decide), opsEnc_keep _ main_arg11 (by decide), opsEnc_keep _ main_arg12 (by decide), opsEnc_keep _ main_arg13 (by decide), opsEnc_keep _ main_arg14 (by decide), opsEnc_keep _ main_arg15 (by decide), opsEnc_keep _ main_arg16 (by decide), opsEnc_keep _ main_arg9 (by decide), opsEnc_keep _ main_arg19 (by decide), opsEnc_keep _ main_arg18 (by decide), opsEnc_keep _ main_arg17 (by decide), opsEnc_v18]
  rfl

set_option maxHeartbeats 2000000 in
theorem val_v172 (V : Valuation τ sig (Elt F)) : after ops V (Proc.devRef .tc main_v172) = (argsOf V).qloss := by
  rw [after_ops]
  rw [opsMean_v172, opsUniq_keep _ main_v105 (by decide), opsNorm_keep _ main_v105 (by decide), opsLoss_keep _ main_v105 (by decide), opsErr_keep _ main_v105 (by decide), opsDec_keep _ main_v105 (by decide), opsQ2_v105, opsQ1_keep _ main_arg19 (by decide), opsQ1_v76, opsQ1_v77, opsQ0_keep _ main_arg19 (by decide), opsQ0_keep _ main_arg18 (by decide), opsQ0_v47, opsQ0_v48, opsEnc_keep _ main_arg19 (by decide), opsEnc_keep _ main_arg18 (by decide), opsEnc_keep _ main_arg17 (by decide), opsEnc_v18]
  rfl

set_option maxHeartbeats 2000000 in
theorem val_v155 (V : Valuation τ sig (Elt F)) : after ops V (Proc.devRef .tc main_v155) = (argsOf V).norms := by
  rw [after_ops]
  rw [opsMean_keep _ main_v155 (by decide), opsUniq_keep _ main_v155 (by decide), opsNorm_v155, opsLoss_keep _ main_v104 (by decide), opsLoss_keep _ main_v45 (by decide), opsLoss_keep _ main_v75 (by decide), opsErr_keep _ main_v104 (by decide), opsErr_keep _ main_v45 (by decide), opsErr_keep _ main_v75 (by decide), opsDec_keep _ main_v104 (by decide), opsDec_keep _ main_v45 (by decide), opsDec_keep _ main_v75 (by decide), opsQ2_v104, opsQ2_keep _ main_v45 (by decide), opsQ2_keep _ main_v75 (by decide), opsQ1_keep _ main_arg19 (by decide), opsQ1_v77, opsQ1_keep _ main_v45 (by decide), opsQ1_v75, opsQ0_keep _ main_arg19 (by decide), opsQ0_keep _ main_arg18 (by decide), opsQ0_v48, opsQ0_v45, opsEnc_keep _ main_arg19 (by decide), opsEnc_keep _ main_arg18 (by decide), opsEnc_keep _ main_arg17 (by decide), opsEnc_v18]
  rfl

set_option maxHeartbeats 2000000 in
theorem val_v168 (V : Valuation τ sig (Elt F)) : after ops V (Proc.devRef .tc main_v168) = (argsOf V).uniq := by
  rw [after_ops]
  rw [opsMean_keep _ main_v168 (by decide), opsUniq_v168, opsNorm_v150, opsLoss_keep _ main_v33 (by decide), opsLoss_keep _ main_v63 (by decide), opsLoss_keep _ main_v92 (by decide), opsErr_keep _ main_v33 (by decide), opsErr_keep _ main_v63 (by decide), opsErr_keep _ main_v92 (by decide), opsDec_keep _ main_v33 (by decide), opsDec_keep _ main_v63 (by decide), opsDec_keep _ main_v92 (by decide), opsQ2_keep _ main_v33 (by decide), opsQ2_keep _ main_v63 (by decide), opsQ2_v92, opsQ1_keep _ main_v33 (by decide), opsQ1_v63, opsQ1_keep _ main_arg19 (by decide), opsQ1_v77, opsQ0_v33, opsQ0_keep _ main_arg18 (by decide), opsQ0_v48, opsQ0_keep _ main_arg19 (by decide), opsEnc_keep _ main_arg17 (by decide), opsEnc_v18, opsEnc_keep _ main_arg18 (by decide), opsEnc_keep _ main_arg19 (by decide)]
  rfl
theorem val_arg0 (V : Valuation τ sig (Elt F)) : after ops V (Proc.devRef .tc main_arg0) = V (Proc.devRef .tc main_arg0) := by
  rw [after_ops, opsMean_keep _ main_arg0 (by decide), opsUniq_keep _ main_arg0 (by decide), opsNorm_keep _ main_arg0 (by decide), opsLoss_keep _ main_arg0 (by decide), opsErr_keep _ main_arg0 (by decide), opsDec_keep _ main_arg0 (by decide), opsQ2_keep _ main_arg0 (by decide), opsQ1_keep _ main_arg0 (by decide), opsQ0_keep _ main_arg0 (by decide), opsEnc_keep _ main_arg0 (by decide)]
theorem val_arg1 (V : Valuation τ sig (Elt F)) : after ops V (Proc.devRef .tc main_arg1) = V (Proc.devRef .tc main_arg1) := by
  rw [after_ops, opsMean_keep _ main_arg1 (by decide), opsUniq_keep _ main_arg1 (by decide), opsNorm_keep _ main_arg1 (by decide), opsLoss_keep _ main_arg1 (by decide), opsErr_keep _ main_arg1 (by decide), opsDec_keep _ main_arg1 (by decide), opsQ2_keep _ main_arg1 (by decide), opsQ1_keep _ main_arg1 (by decide), opsQ0_keep _ main_arg1 (by decide), opsEnc_keep _ main_arg1 (by decide)]
theorem val_arg2 (V : Valuation τ sig (Elt F)) : after ops V (Proc.devRef .tc main_arg2) = V (Proc.devRef .tc main_arg2) := by
  rw [after_ops, opsMean_keep _ main_arg2 (by decide), opsUniq_keep _ main_arg2 (by decide), opsNorm_keep _ main_arg2 (by decide), opsLoss_keep _ main_arg2 (by decide), opsErr_keep _ main_arg2 (by decide), opsDec_keep _ main_arg2 (by decide), opsQ2_keep _ main_arg2 (by decide), opsQ1_keep _ main_arg2 (by decide), opsQ0_keep _ main_arg2 (by decide), opsEnc_keep _ main_arg2 (by decide)]
theorem val_arg3 (V : Valuation τ sig (Elt F)) : after ops V (Proc.devRef .tc main_arg3) = V (Proc.devRef .tc main_arg3) := by
  rw [after_ops, opsMean_keep _ main_arg3 (by decide), opsUniq_keep _ main_arg3 (by decide), opsNorm_keep _ main_arg3 (by decide), opsLoss_keep _ main_arg3 (by decide), opsErr_keep _ main_arg3 (by decide), opsDec_keep _ main_arg3 (by decide), opsQ2_keep _ main_arg3 (by decide), opsQ1_keep _ main_arg3 (by decide), opsQ0_keep _ main_arg3 (by decide), opsEnc_keep _ main_arg3 (by decide)]
theorem val_arg4 (V : Valuation τ sig (Elt F)) : after ops V (Proc.devRef .tc main_arg4) = V (Proc.devRef .tc main_arg4) := by
  rw [after_ops, opsMean_keep _ main_arg4 (by decide), opsUniq_keep _ main_arg4 (by decide), opsNorm_keep _ main_arg4 (by decide), opsLoss_keep _ main_arg4 (by decide), opsErr_keep _ main_arg4 (by decide), opsDec_keep _ main_arg4 (by decide), opsQ2_keep _ main_arg4 (by decide), opsQ1_keep _ main_arg4 (by decide), opsQ0_keep _ main_arg4 (by decide), opsEnc_keep _ main_arg4 (by decide)]
theorem val_arg5 (V : Valuation τ sig (Elt F)) : after ops V (Proc.devRef .tc main_arg5) = V (Proc.devRef .tc main_arg5) := by
  rw [after_ops, opsMean_keep _ main_arg5 (by decide), opsUniq_keep _ main_arg5 (by decide), opsNorm_keep _ main_arg5 (by decide), opsLoss_keep _ main_arg5 (by decide), opsErr_keep _ main_arg5 (by decide), opsDec_keep _ main_arg5 (by decide), opsQ2_keep _ main_arg5 (by decide), opsQ1_keep _ main_arg5 (by decide), opsQ0_keep _ main_arg5 (by decide), opsEnc_keep _ main_arg5 (by decide)]
theorem val_arg6 (V : Valuation τ sig (Elt F)) : after ops V (Proc.devRef .tc main_arg6) = V (Proc.devRef .tc main_arg6) := by
  rw [after_ops, opsMean_keep _ main_arg6 (by decide), opsUniq_keep _ main_arg6 (by decide), opsNorm_keep _ main_arg6 (by decide), opsLoss_keep _ main_arg6 (by decide), opsErr_keep _ main_arg6 (by decide), opsDec_keep _ main_arg6 (by decide), opsQ2_keep _ main_arg6 (by decide), opsQ1_keep _ main_arg6 (by decide), opsQ0_keep _ main_arg6 (by decide), opsEnc_keep _ main_arg6 (by decide)]
theorem val_arg7 (V : Valuation τ sig (Elt F)) : after ops V (Proc.devRef .tc main_arg7) = V (Proc.devRef .tc main_arg7) := by
  rw [after_ops, opsMean_keep _ main_arg7 (by decide), opsUniq_keep _ main_arg7 (by decide), opsNorm_keep _ main_arg7 (by decide), opsLoss_keep _ main_arg7 (by decide), opsErr_keep _ main_arg7 (by decide), opsDec_keep _ main_arg7 (by decide), opsQ2_keep _ main_arg7 (by decide), opsQ1_keep _ main_arg7 (by decide), opsQ0_keep _ main_arg7 (by decide), opsEnc_keep _ main_arg7 (by decide)]
theorem val_arg8 (V : Valuation τ sig (Elt F)) : after ops V (Proc.devRef .tc main_arg8) = V (Proc.devRef .tc main_arg8) := by
  rw [after_ops, opsMean_keep _ main_arg8 (by decide), opsUniq_keep _ main_arg8 (by decide), opsNorm_keep _ main_arg8 (by decide), opsLoss_keep _ main_arg8 (by decide), opsErr_keep _ main_arg8 (by decide), opsDec_keep _ main_arg8 (by decide), opsQ2_keep _ main_arg8 (by decide), opsQ1_keep _ main_arg8 (by decide), opsQ0_keep _ main_arg8 (by decide), opsEnc_keep _ main_arg8 (by decide)]
theorem val_arg9 (V : Valuation τ sig (Elt F)) : after ops V (Proc.devRef .tc main_arg9) = V (Proc.devRef .tc main_arg9) := by
  rw [after_ops, opsMean_keep _ main_arg9 (by decide), opsUniq_keep _ main_arg9 (by decide), opsNorm_keep _ main_arg9 (by decide), opsLoss_keep _ main_arg9 (by decide), opsErr_keep _ main_arg9 (by decide), opsDec_keep _ main_arg9 (by decide), opsQ2_keep _ main_arg9 (by decide), opsQ1_keep _ main_arg9 (by decide), opsQ0_keep _ main_arg9 (by decide), opsEnc_keep _ main_arg9 (by decide)]
theorem val_arg10 (V : Valuation τ sig (Elt F)) : after ops V (Proc.devRef .tc main_arg10) = V (Proc.devRef .tc main_arg10) := by
  rw [after_ops, opsMean_keep _ main_arg10 (by decide), opsUniq_keep _ main_arg10 (by decide), opsNorm_keep _ main_arg10 (by decide), opsLoss_keep _ main_arg10 (by decide), opsErr_keep _ main_arg10 (by decide), opsDec_keep _ main_arg10 (by decide), opsQ2_keep _ main_arg10 (by decide), opsQ1_keep _ main_arg10 (by decide), opsQ0_keep _ main_arg10 (by decide), opsEnc_keep _ main_arg10 (by decide)]
theorem val_arg11 (V : Valuation τ sig (Elt F)) : after ops V (Proc.devRef .tc main_arg11) = V (Proc.devRef .tc main_arg11) := by
  rw [after_ops, opsMean_keep _ main_arg11 (by decide), opsUniq_keep _ main_arg11 (by decide), opsNorm_keep _ main_arg11 (by decide), opsLoss_keep _ main_arg11 (by decide), opsErr_keep _ main_arg11 (by decide), opsDec_keep _ main_arg11 (by decide), opsQ2_keep _ main_arg11 (by decide), opsQ1_keep _ main_arg11 (by decide), opsQ0_keep _ main_arg11 (by decide), opsEnc_keep _ main_arg11 (by decide)]
theorem val_arg12 (V : Valuation τ sig (Elt F)) : after ops V (Proc.devRef .tc main_arg12) = V (Proc.devRef .tc main_arg12) := by
  rw [after_ops, opsMean_keep _ main_arg12 (by decide), opsUniq_keep _ main_arg12 (by decide), opsNorm_keep _ main_arg12 (by decide), opsLoss_keep _ main_arg12 (by decide), opsErr_keep _ main_arg12 (by decide), opsDec_keep _ main_arg12 (by decide), opsQ2_keep _ main_arg12 (by decide), opsQ1_keep _ main_arg12 (by decide), opsQ0_keep _ main_arg12 (by decide), opsEnc_keep _ main_arg12 (by decide)]
theorem val_arg13 (V : Valuation τ sig (Elt F)) : after ops V (Proc.devRef .tc main_arg13) = V (Proc.devRef .tc main_arg13) := by
  rw [after_ops, opsMean_keep _ main_arg13 (by decide), opsUniq_keep _ main_arg13 (by decide), opsNorm_keep _ main_arg13 (by decide), opsLoss_keep _ main_arg13 (by decide), opsErr_keep _ main_arg13 (by decide), opsDec_keep _ main_arg13 (by decide), opsQ2_keep _ main_arg13 (by decide), opsQ1_keep _ main_arg13 (by decide), opsQ0_keep _ main_arg13 (by decide), opsEnc_keep _ main_arg13 (by decide)]
theorem val_arg14 (V : Valuation τ sig (Elt F)) : after ops V (Proc.devRef .tc main_arg14) = V (Proc.devRef .tc main_arg14) := by
  rw [after_ops, opsMean_keep _ main_arg14 (by decide), opsUniq_keep _ main_arg14 (by decide), opsNorm_keep _ main_arg14 (by decide), opsLoss_keep _ main_arg14 (by decide), opsErr_keep _ main_arg14 (by decide), opsDec_keep _ main_arg14 (by decide), opsQ2_keep _ main_arg14 (by decide), opsQ1_keep _ main_arg14 (by decide), opsQ0_keep _ main_arg14 (by decide), opsEnc_keep _ main_arg14 (by decide)]
theorem val_arg15 (V : Valuation τ sig (Elt F)) : after ops V (Proc.devRef .tc main_arg15) = V (Proc.devRef .tc main_arg15) := by
  rw [after_ops, opsMean_keep _ main_arg15 (by decide), opsUniq_keep _ main_arg15 (by decide), opsNorm_keep _ main_arg15 (by decide), opsLoss_keep _ main_arg15 (by decide), opsErr_keep _ main_arg15 (by decide), opsDec_keep _ main_arg15 (by decide), opsQ2_keep _ main_arg15 (by decide), opsQ1_keep _ main_arg15 (by decide), opsQ0_keep _ main_arg15 (by decide), opsEnc_keep _ main_arg15 (by decide)]
theorem val_arg16 (V : Valuation τ sig (Elt F)) : after ops V (Proc.devRef .tc main_arg16) = V (Proc.devRef .tc main_arg16) := by
  rw [after_ops, opsMean_keep _ main_arg16 (by decide), opsUniq_keep _ main_arg16 (by decide), opsNorm_keep _ main_arg16 (by decide), opsLoss_keep _ main_arg16 (by decide), opsErr_keep _ main_arg16 (by decide), opsDec_keep _ main_arg16 (by decide), opsQ2_keep _ main_arg16 (by decide), opsQ1_keep _ main_arg16 (by decide), opsQ0_keep _ main_arg16 (by decide), opsEnc_keep _ main_arg16 (by decide)]
theorem val_arg17 (V : Valuation τ sig (Elt F)) : after ops V (Proc.devRef .tc main_arg17) = V (Proc.devRef .tc main_arg17) := by
  rw [after_ops, opsMean_keep _ main_arg17 (by decide), opsUniq_keep _ main_arg17 (by decide), opsNorm_keep _ main_arg17 (by decide), opsLoss_keep _ main_arg17 (by decide), opsErr_keep _ main_arg17 (by decide), opsDec_keep _ main_arg17 (by decide), opsQ2_keep _ main_arg17 (by decide), opsQ1_keep _ main_arg17 (by decide), opsQ0_keep _ main_arg17 (by decide), opsEnc_keep _ main_arg17 (by decide)]
theorem val_arg18 (V : Valuation τ sig (Elt F)) : after ops V (Proc.devRef .tc main_arg18) = V (Proc.devRef .tc main_arg18) := by
  rw [after_ops, opsMean_keep _ main_arg18 (by decide), opsUniq_keep _ main_arg18 (by decide), opsNorm_keep _ main_arg18 (by decide), opsLoss_keep _ main_arg18 (by decide), opsErr_keep _ main_arg18 (by decide), opsDec_keep _ main_arg18 (by decide), opsQ2_keep _ main_arg18 (by decide), opsQ1_keep _ main_arg18 (by decide), opsQ0_keep _ main_arg18 (by decide), opsEnc_keep _ main_arg18 (by decide)]
theorem val_arg19 (V : Valuation τ sig (Elt F)) : after ops V (Proc.devRef .tc main_arg19) = V (Proc.devRef .tc main_arg19) := by
  rw [after_ops, opsMean_keep _ main_arg19 (by decide), opsUniq_keep _ main_arg19 (by decide), opsNorm_keep _ main_arg19 (by decide), opsLoss_keep _ main_arg19 (by decide), opsErr_keep _ main_arg19 (by decide), opsDec_keep _ main_arg19 (by decide), opsQ2_keep _ main_arg19 (by decide), opsQ1_keep _ main_arg19 (by decide), opsQ0_keep _ main_arg19 (by decide), opsEnc_keep _ main_arg19 (by decide)]

/-- The reference ends, every result the named function of the arguments, the arguments as they were. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      (r.2.mem ((c.tc : Thread nD τ).loc main_v146) = (argsOf (launchContents m c)).loss
      ∧ r.2.mem ((c.tc : Thread nD τ).loc main_v170) = (argsOf (launchContents m c)).recon
      ∧ r.2.mem ((c.tc : Thread nD τ).loc main_v172) = (argsOf (launchContents m c)).qloss
      ∧ r.2.mem ((c.tc : Thread nD τ).loc main_v155) = (argsOf (launchContents m c)).norms
      ∧ r.2.mem ((c.tc : Thread nD τ).loc main_v168) = (argsOf (launchContents m c)).uniq)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0 :=
  (θ_run defs _ _).mono (fun r h c => ⟨⟨(h c main_v146).trans (val_v146 _), (h c main_v170).trans (val_v170 _), (h c main_v172).trans (val_v172 _), (h c main_v155).trans (val_v155 _), (h c main_v168).trans (val_v168 _)⟩,
    ⟨(h c main_arg0).trans (val_arg0 _), (h c main_arg1).trans (val_arg1 _), (h c main_arg2).trans (val_arg2 _), (h c main_arg3).trans (val_arg3 _), (h c main_arg4).trans (val_arg4 _), (h c main_arg5).trans (val_arg5 _), (h c main_arg6).trans (val_arg6 _), (h c main_arg7).trans (val_arg7 _), (h c main_arg8).trans (val_arg8 _), (h c main_arg9).trans (val_arg9 _), (h c main_arg10).trans (val_arg10 _), (h c main_arg11).trans (val_arg11 _), (h c main_arg12).trans (val_arg12 _), (h c main_arg13).trans (val_arg13 _), (h c main_arg14).trans (val_arg14 _), (h c main_arg15).trans (val_arg15 _), (h c main_arg16).trans (val_arg16 _), (h c main_arg17).trans (val_arg17 _), (h c main_arg18).trans (val_arg18 _), (h c main_arg19).trans (val_arg19 _)⟩, sem_eq_zero_of_no_sems rfl _⟩)
    (run_seq scopedRefs_eq scopedSems_eq defs main (fun _ => ops) main_eq (fun _ => ops_sub) m ρ fun _ => ops_fresh)

end Cert.ReferenceIdeal.Hand

end
-- ==== Proof.Frames.lean ====
/- The three programs run to the end, leave their arguments as they were and every semaphore at zero. -/
module

public import proofs.«01_k».proof.Defs
public import proofs.«01_k».proof.Proof.KLaunch
public import proofs.«01_k».proof.Proof.KILaunch
public import proofs.«01_k».proof.Proof.RefVal
public import proofs.«01_k».proof.Proof.Gen.Pre_no_tie
public import Idealize.ShloMosaic.Lib.Claim

@[expose] public section

noncomputable section

namespace Cert.Hand

open Idealize.ShloMosaic Idealize.SL.Sem

attribute [local instance] Cert.Kernel.Gen.facts Cert.KernelIdeal.Gen.facts Cert.ReferenceIdeal.Gen.facts Cert.Pre_no_tie.Gen.facts

/-- The kernel at machine floats. -/
theorem frame_kernel_bits : Cert.quiescent_Kernel := fun m g _ =>
  (θ_run _ _ _).mono (fun _ h => h)
    (θ_run_and (Cert.Kernel.Gen.frame_of m g (Cert.Kernel.Hand.dats m) (Cert.Kernel.Hand.A_eq m)
        ((θ_run _ _ _).mono (fun _ h => h.1) (Cert.Kernel.Hand.run_main m g)))
      ((θ_run _ _ _).mono (fun _ h => h.2) (Cert.Kernel.Hand.run_main m g)))

/-- The kernel at machine floats, under the precondition. -/
theorem frame_kernel_bits_pre : Cert.quiescent_Kernel_pre_no_tie := fun m g _ => frame_kernel_bits m g trivial

/-- The kernel at the extended reals. -/
theorem frame_kernel_ideal : Cert.quiescent_KernelIdeal := fun m g _ =>
  (θ_run _ _ _).mono (fun _ h => h)
    (θ_run_and (Cert.KernelIdeal.Gen.frame_of m g (Cert.KernelIdeal.Hand.dats m) (Cert.KernelIdeal.Hand.A_eq m)
        ((θ_run _ _ _).mono (fun _ h => h.1) (Cert.KernelIdeal.Hand.run_main m g)))
      ((θ_run _ _ _).mono (fun _ h => h.2) (Cert.KernelIdeal.Hand.run_main m g)))

/-- The reference at the extended reals. -/
theorem frame_reference_ideal : Cert.quiescent_ReferenceIdeal := fun m g _ =>
  (θ_run _ _ _).mono (fun _ h => ⟨fun c => (h c).2.1, (h 0).2.2⟩) (Cert.ReferenceIdeal.Hand.run m g)

/-- The reference at the extended reals, under the precondition. -/
theorem frame_reference_ideal_pre : Cert.quiescent_ReferenceIdeal_pre_no_tie := fun m g _ => frame_reference_ideal m g trivial

end Cert.Hand

end
-- ==== Proof.VBase.lean ====
/- The kernel's block of rows beside the reference's rows: which argument elements each reads. -/
module

public import proofs.«01_k».proof.Proof.KIDefs
public import proofs.«01_k».proof.Proof.RefVal
public import Idealize.ShloMosaic.Lib.Pointwise

@[expose] public section

set_option maxRecDepth 16384

noncomputable section

namespace Cert.Val

open Idealize.ShloMosaic
open Cert.KernelIdeal.Hand (Blk)
open Cert.ReferenceIdeal.Hand (Args)

/-- Row `r` of block `t`, as a row of the whole array. -/
def rowOf (t : Fin 4) (r : Fin 1024) : Fin 4096 := ⟨t.val * 1024 + r.val, by omega⟩

/-- The block `X` holds block `t` of the rows of `A`, and the layers and codebooks of `A`. -/
structure Match (A : Args Ideal) (t : Fin 4) (X : Blk Ideal) : Prop where
  h0 : ∀ (r : Fin 1024) (c : Fin 768), X.x0 (ix2 r c) = A.a0 (ix2 (rowOf t r) c)
  h1 : X.x1 = A.a1
  h2 : ∀ (c : Fin 512), X.x2 (ix2 0 c) = A.a2 (ix1 c)
  h3 : X.x3 = A.a3
  h4 : ∀ (c : Fin 256), X.x4 (ix2 0 c) = A.a4 (ix1 c)
  h5 : X.x5 = A.a5
  h6 : ∀ (c : Fin 128), X.x6 (ix2 0 c) = A.a6 (ix1 c)
  h7 : X.x7 = A.a7
  h8 : ∀ (c : Fin 64), X.x8 (ix2 0 c) = A.a8 (ix1 c)
  h9 : X.x9 = A.a9
  h10 : ∀ (c : Fin 128), X.x10 (ix2 0 c) = A.a10 (ix1 c)
  h11 : X.x11 = A.a11
  h12 : ∀ (c : Fin 256), X.x12 (ix2 0 c) = A.a12 (ix1 c)
  h13 : X.x13 = A.a13
  h14 : ∀ (c : Fin 512), X.x14 (ix2 0 c) = A.a14 (ix1 c)
  h15 : X.x15 = A.a15
  h16 : ∀ (c : Fin 768), X.x16 (ix2 0 c) = A.a16 (ix1 c)
  h17 : X.x17 = A.a17
  h18 : X.x18 = A.a18
  h19 : X.x19 = A.a19

end Cert.Val

end
-- ==== Proof.VArg.lean ====
/- The first least entry of a row of distances: what the two argmins give, and the finite extended reals. -/
module

public import proofs.«01_k».proof.Proof.VBase

@[expose] public section

set_option maxRecDepth 16384

noncomputable section

namespace Cert.Val

open Idealize.ShloMosaic
open Cert.KernelIdeal Cert.KernelIdeal.Gen

/-- `k` is the first position of the least value of `f`. -/
def First {n : Nat} (f : Fin n → EReal) (k : Fin n) : Prop := (∀ k', f k ≤ f k') ∧ ∀ k', f k' = f k → k ≤ k'

/-- There is only one first minimum. -/
theorem First.unique {n : Nat} {f : Fin n → EReal} {k k' : Fin n} (h : First f k) (h' : First f k') : k = k' :=
  le_antisymm (h.2 k' (le_antisymm (h'.1 k) (h.1 k'))) (h'.2 k (le_antisymm (h.1 k') (h'.1 k)))

/-- The least coordinate of the least entries, listed by `e`, is the first position of the least value. -/
theorem min_first {I : Type} [DecidableEq I] (c : I → Nat) (d : I → EReal) {n : Nat} (hn : 0 < n) (e : Fin n → I) (hax : ∀ k, c (e k) = k.val)
    (ext : Finset I) (hmem : ∀ i, i ∈ ext ↔ ∃ k, i = e k ∧ ∀ k', d (e k) ≤ d (e k')) :
    ∃ k : Fin n, BitVec.ofNat 32 (Option.getD (ext.image c).min 0) = BitVec.ofNat 32 k.val ∧ First (fun k => d (e k)) k := by
  haveI : Nonempty (Fin n) := ⟨⟨0, hn⟩⟩
  obtain ⟨k0, hk0⟩ := Finite.exists_min fun k : Fin n => d (e k)
  have hne : (ext.image c).Nonempty := ⟨_, Finset.mem_image.2 ⟨e k0, (hmem _).2 ⟨k0, rfl, hk0⟩, rfl⟩⟩
  obtain ⟨m, hm⟩ := Finset.min_of_nonempty hne
  obtain ⟨i, hi, him⟩ := Finset.mem_image.1 (Finset.mem_of_min hm)
  obtain ⟨k, rfl, hk⟩ := (hmem _).1 hi
  have hkm : m = k.val := him.symm.trans (hax k)
  refine ⟨k, ?_, hk, fun k' hq => ?_⟩
  · have : Option.getD (ext.image c).min 0 = m := by
      generalize (ext.image c).min = w at hm
      subst hm; rfl
    rw [this, hkm]
  · have hle : m ≤ k'.val := Finset.min_le_of_eq (Finset.mem_image.2 ⟨e k', (hmem _).2 ⟨k', rfl, fun j => hq.trans_le (hk j)⟩, hax k'⟩) hm
    exact Fin.le_def.2 (hkm ▸ hle)

/-- An argmin along an axis whose fiber at `j` is `e 0, e 1, …` is the first position of the least value. -/
theorem reduceIndex_first {s t : Shape} {axis : Fin s.rank} (h : s.Reduces [axis] t) (d : s.Idx → EReal) (j : t.Idx)
    {n : Nat} (hn : 0 < n) (e : Fin n → s.Idx) (he : ∀ i, h.drop i = j ↔ ∃ k, i = e k) (hax : ∀ k, (e k axis).val = k.val) :
    ∃ k : Fin n, Ideal.reduceIndex .argMin axis h d j = BitVec.ofNat 32 k.val ∧ First (fun k => d (e k)) k := by
  classical
  refine min_first (fun i => (i axis).val) d hn e hax _ fun i => ?_
  simp only [Finset.mem_filter, Finset.mem_univ, true_and, he, reduceCtorEq, if_false, not_lt]
  constructor
  · rintro ⟨⟨k, rfl⟩, h⟩
    exact ⟨k, rfl, fun k' => h _ ⟨k', rfl⟩⟩
  · rintro ⟨k, rfl, h⟩
    refine ⟨⟨k, rfl⟩, ?_⟩
    rintro i' ⟨k', rfl⟩
    exact h k'

/-- The kernel's argmin of a row is the first position of its least value. -/
theorem argmin_kernel (d : FVec Ideal S1024x1024 .f32) (r : Fin 1024) :
    ∃ k : Fin 1024, reduceIndex .argMin 1 S1024 d reduces_S1024x1024_S1024 (ix1 r) = BitVec.ofNat 32 k.val
      ∧ First (fun k => d (ix2 r k)) k :=
  reduceIndex_first reduces_S1024x1024_S1024 d (ix1 r) (by decide) (fun k => ix2 r k)
    (fun i => ⟨fun h => ⟨i 1, (eq_ix2 i).trans (congrArg (fun a => ix2 a (i 1)) (congrFun h 0))⟩,
      fun ⟨k, h⟩ => by subst h; funext a; obtain rfl : a = 0 := Subsingleton.elim _ _; rfl⟩)
    (fun _ => rfl)

/-- Comparison of (value, index) pairs: by value, then by index. -/
def PairLe (p q : EReal × BitVec 32) : Prop := p.1 < q.1 ∨ (p.1 = q.1 ∧ p.2.toInt ≤ q.2.toInt)

/-- The order of value and index pairs is reflexive. -/
theorem PairLe.refl (p : EReal × BitVec 32) : PairLe p p := .inr ⟨rfl, le_rfl⟩

/-- The order of value and index pairs is transitive. -/
theorem PairLe.trans {p q s : EReal × BitVec 32} (h : PairLe p q) (h' : PairLe q s) : PairLe p s := by
  rcases h with h | ⟨h, h2⟩ <;> rcases h' with h' | ⟨h', h2'⟩
  · exact .inl (h.trans h')
  · exact .inl (h.trans_eq h')
  · exact .inl (h.trans_lt h')
  · exact .inr ⟨h.trans h', h2.trans h2'⟩

/-- One step of the reference's argmin keeps the lesser of the two pairs. -/
theorem reducer_spec (p q : EReal × BitVec 32) :
    (Cert.ReferenceIdeal.reducer_argmin_f32_i32 (F := Ideal) p q = p ∧ PairLe p q)
      ∨ (Cert.ReferenceIdeal.reducer_argmin_f32_i32 (F := Ideal) p q = q ∧ PairLe q p) := by
  obtain ⟨a, i⟩ := p
  obtain ⟨b, j⟩ := q
  have hs : Cert.ReferenceIdeal.reducer_argmin_f32_i32 (F := Ideal) (a, i) (b, j)
      = (if a < b then a else b, if a < b ∨ (a = b ∧ i.toInt < j.toInt) then i else j) := by
    unfold Cert.ReferenceIdeal.reducer_argmin_f32_i32
    simp only [Ideal.cmpf_def, Ideal.cmp, Scalar.select, IntOp.ori, IntOp.andi, IntOp.cmpi, BitVec.slt]
    by_cases h1 : a < b <;> by_cases h2 : a = b <;> by_cases h3 : i.toInt < j.toInt <;> simp [h1, h2, h3]
  rw [hs]
  rcases lt_trichotomy a b with h | h | h
  · left; simp [h, PairLe]
  · subst h
    by_cases h3 : i.toInt < j.toInt
    · left; simp [h3, PairLe, h3.le]
    · right; simp [h3, PairLe, not_lt.mp h3]
  · right; simp [not_lt.mpr h.le, h.ne', PairLe, h]

/-- The reference's argmin over a list of pairs keeps one of them, the least. -/
theorem foldl_spec (l : List (EReal × BitVec 32)) (p : EReal × BitVec 32) :
    (l.foldl (Cert.ReferenceIdeal.reducer_argmin_f32_i32 (F := Ideal)) p = p
        ∨ l.foldl (Cert.ReferenceIdeal.reducer_argmin_f32_i32 (F := Ideal)) p ∈ l)
      ∧ PairLe (l.foldl (Cert.ReferenceIdeal.reducer_argmin_f32_i32 (F := Ideal)) p) p
      ∧ ∀ q ∈ l, PairLe (l.foldl (Cert.ReferenceIdeal.reducer_argmin_f32_i32 (F := Ideal)) p) q := by
  induction l generalizing p with
  | nil => exact ⟨.inl rfl, .refl _, by simp⟩
  | cons x l ih =>
    rw [List.foldl_cons]
    obtain ⟨h1, h2, h3⟩ := ih (Cert.ReferenceIdeal.reducer_argmin_f32_i32 (F := Ideal) p x)
    rcases reducer_spec p x with ⟨e, hle⟩ | ⟨e, hle⟩ <;> rw [e] at h1 h2 h3 ⊢
    · refine ⟨h1.imp_right fun h => List.mem_cons_of_mem _ h, h2, fun q hq => ?_⟩
      rcases List.mem_cons.1 hq with rfl | hq
      · exact h2.trans hle
      · exact h3 q hq
    · refine ⟨.inr ?_, h2.trans hle, fun q hq => ?_⟩
      · rcases h1 with h | h
        · rw [h]; exact List.mem_cons_self
        · exact List.mem_cons_of_mem _ h
      · rcases List.mem_cons.1 hq with rfl | hq
        · exact h2
        · exact h3 q hq

/-- A code as a word is itself as an integer. -/
theorem toInt_small (k : Fin 1024) : (BitVec.ofNat 32 k.val).toInt = k.val := by
  rw [BitVec.toInt_eq_toNat_of_lt (by rw [BitVec.toNat_ofNat]; omega), BitVec.toNat_ofNat]; omega

/-- The reference's argmin over a fiber `e 0, e 1, …` of values below the top is the first position of the least. -/
theorem reduce2_first {s t u : Shape} {axes : List (Fin s.rank)} (h : s.ReducesTo axes t) (hu : 0 < u.numel)
    (d : s.Idx → EReal) (y : s.Idx → BitVec 32) (ix : u.Idx → EReal) (iy : u.Idx → BitVec 32) (j : t.Idx)
    (e : Fin 1024 → s.Idx) (he : ∀ i, h.drop i = j ↔ ∃ k, i = e k) (hy : ∀ k, y (e k) = BitVec.ofNat 32 k.val)
    (hix : ix (Shape.Idx.first hu) = ⊤) (hd : ∀ k, d (e k) < ⊤) :
    ∃ k : Fin 1024, (Host.reduce2 (Cert.ReferenceIdeal.reducer_argmin_f32_i32 (F := Ideal)) d y ix iy h hu j).2 = BitVec.ofNat 32 k.val
      ∧ First (fun k => d (e k)) k := by
  have h0 := Host.reduce2_eq_foldl_fiber (Cert.ReferenceIdeal.reducer_argmin_f32_i32 (F := Ideal)) d y ix iy h hu j
  have hfib : ∀ q : EReal × BitVec 32, q ∈ Host.argReduceFiber d y h j ↔ ∃ k : Fin 1024, q = (d (e k), BitVec.ofNat 32 k.val) := by
    intro q
    unfold Host.argReduceFiber
    simp only [List.mem_map, List.mem_filter, List.mem_finRange, true_and, decide_eq_true_eq, he]
    constructor
    · rintro ⟨n, ⟨k, hk⟩, rfl⟩
      exact ⟨k, by rw [hk, hy]⟩
    · rintro ⟨k, rfl⟩
      exact ⟨s.rowMajor (e k), ⟨k, by rw [Equiv.symm_apply_apply]⟩, by rw [Equiv.symm_apply_apply, hy]⟩
  obtain ⟨h1, h2, h3⟩ := foldl_spec (Host.argReduceFiber d y h j) (ix (Shape.Idx.first hu), iy (Shape.Idx.first hu))
  rw [← h0] at h1 h2 h3
  generalize Host.reduce2 (Cert.ReferenceIdeal.reducer_argmin_f32_i32 (F := Ideal)) d y ix iy h hu j = p at h1 h2 h3 ⊢
  have hp : ∃ k : Fin 1024, p = (d (e k), BitVec.ofNat 32 k.val) := by
    rcases h1 with h | h
    · exfalso
      have := h3 _ ((hfib _).2 ⟨0, rfl⟩)
      rw [h, hix] at this
      rcases this with h | ⟨h, _⟩
      · exact absurd h not_top_lt
      · exact absurd h.symm (hd 0).ne
    · exact (hfib _).1 h
  obtain ⟨k, rfl⟩ := hp
  refine ⟨k, rfl, fun k' => ?_, fun k' hq => ?_⟩
  · rcases h3 _ ((hfib _).2 ⟨k', rfl⟩) with h | ⟨h, _⟩
    · exact h.le
    · exact h.le
  · rcases h3 _ ((hfib _).2 ⟨k', rfl⟩) with h | ⟨_, h⟩
    · exact absurd hq h.ne'
    · rw [toInt_small, toInt_small] at h
      exact Fin.le_def.2 (by exact_mod_cast h)

/-- The word of plus infinity is the top. -/
theorem ofBits_top : Ideal.ofBits .f32 0x7F800000#32 = ⊤ := by simp [Ideal.ofBits, Ideal.ieee]

/-- Dropping the second coordinate of a place in the table of distances leaves its row. -/
theorem drop_row (h : Cert.ReferenceIdeal.S4096x1024.ReducesTo [1] Cert.ReferenceIdeal.S4096) (r : Fin 4096)
    (i : Cert.ReferenceIdeal.S4096x1024.Idx) : h.drop i = ix1 r ↔ ∃ k : Fin 1024, i = ix2 r k := by
  have hv : (h.drop i 0).val = (i 0).val := Shape.ReducesTo.drop_apply_val h i 0
  constructor
  · intro e
    rw [e] at hv
    have hr : i 0 = r := Fin.ext hv.symm
    exact ⟨i 1, (eq_ix2 i).trans (by rw [hr])⟩
  · rintro ⟨k, rfl⟩
    funext a
    obtain rfl : a = 0 := Subsingleton.elim _ _
    exact Fin.ext hv

/-- The same of the reference's argmin as it is written. -/
theorem arg_first {s t u : Shape} {axes : List (Fin s.rank)} (h : s.ReducesTo axes t) (hu : 0 < u.numel)
    (d : FVec Ideal s .f32) (y : s.Idx → BitVec 32) (ix : FVec Ideal u .f32) (iy : u.Idx → BitVec 32) (j : t.Idx)
    (e : Fin 1024 → s.Idx) (he : ∀ i, h.drop i = j ↔ ∃ k, i = e k) (hy : ∀ k, y (e k) = BitVec.ofNat 32 k.val)
    (hix : ix (Shape.Idx.first hu) = ⊤) (hd : ∀ k, d (e k) < ⊤) :
    ∃ k : Fin 1024, (Host.argReduce (Cert.ReferenceIdeal.reducer_argmin_f32_i32 (F := Ideal)) d y ix iy h hu j).2 = BitVec.ofNat 32 k.val
      ∧ First (fun k => d (e k)) k := by
  rw [Ideal.argReduce_eq_reduce2]
  exact reduce2_first h hu d y ix iy j e he hy hix hd

/-- The reference's column numbers. -/
theorem iota_col (r : Fin 4096) (k : Fin 1024) :
    iotaInDim Cert.ReferenceIdeal.S4096x1024 32 1 (ix2 r k) = BitVec.ofNat 32 k.val := rfl

/-- The reference's argmin starts from the top. -/
theorem top_first (i : Cert.ReferenceIdeal.S_.Idx) : constant (F := Ideal) Cert.ReferenceIdeal.S_ .f32 0x7F800000#32 i = ⊤ := ofBits_top

open Cert.ReferenceIdeal.Hand in
theorem rId_eq : @rId Ideal _ = fun d j => (Host.argReduce (Cert.ReferenceIdeal.reducer_argmin_f32_i32 (F := Ideal)) d (iotaInDim Cert.ReferenceIdeal.S4096x1024 32 1)
      (constant (F := Ideal) Cert.ReferenceIdeal.S_ .f32 0x7F800000#32) (constantI Cert.ReferenceIdeal.S_ 32 0#32)
      Cert.ReferenceIdeal.Gen.reducesTo_S4096x1024_S4096_d1 Cert.ReferenceIdeal.Gen.h_S_ j).2 := rfl

open Cert.ReferenceIdeal.Hand in
/-- The reference's argmin of a row whose values lie below the top is the first position of the least value. -/
theorem argmin_reference (d : FVec Ideal Cert.ReferenceIdeal.S4096x1024 .f32) (r : Fin 4096) (hd : ∀ k : Fin 1024, d (ix2 r k) < ⊤) :
    ∃ k : Fin 1024, rId d (ix1 r) = BitVec.ofNat 32 k.val ∧ First (fun k => d (ix2 r k)) k := by
  rw [rId_eq]
  exact arg_first _ _ d _ _ _ (ix1 r) (fun k => ix2 r k) (drop_row _ r) (iota_col r) (top_first _) hd

end Cert.Val

end
-- ==== Proof.VQ.lean ====
/- One quantiser on one row: the code that the kernel and the reference choose, and the code's vector. -/
module

public import proofs.«01_k».proof.Proof.VArg
public import Idealize.ShloMosaic.Lib.Routing.Ops

@[expose] public section

set_option maxRecDepth 16384

noncomputable section

namespace Cert.Val

open Idealize.ShloMosaic
open Cert.KernelIdeal Cert.KernelIdeal.Gen
open Cert.ReferenceIdeal.Hand

/-- An extended real that is a real number. -/
def Re (x : EReal) : Prop := ∃ r : ℝ, x = (r : EReal)

/-- Zero is real. -/
theorem Re.zero : Re 0 := ⟨0, rfl⟩
/-- One is real. -/
theorem Re.one : Re 1 := ⟨1, rfl⟩
/-- A sum of reals is real. -/
theorem Re.add {x y : EReal} : Re x → Re y → Re (x + y) := by
  rintro ⟨a, rfl⟩ ⟨b, rfl⟩; exact ⟨a + b, by push_cast; rfl⟩
/-- A difference of reals is real. -/
theorem Re.sub {x y : EReal} : Re x → Re y → Re (x - y) := by
  rintro ⟨a, rfl⟩ ⟨b, rfl⟩; exact ⟨a - b, by push_cast; rfl⟩
/-- A product of reals is real. -/
theorem Re.mul {x y : EReal} : Re x → Re y → Re (x * y) := by
  rintro ⟨a, rfl⟩ ⟨b, rfl⟩; exact ⟨a * b, by push_cast; rfl⟩
/-- The larger of two reals is real. -/
theorem Re.max {x y : EReal} : Re x → Re y → Re (max x y) := by
  rintro ⟨a, rfl⟩ ⟨b, rfl⟩; exact ⟨Max.max a b, (EReal.coe_strictMono.monotone.map_max).symm⟩
/-- A finite sum of reals is real. -/
theorem Re.sum {n : Nat} {f : Fin n → EReal} (h : ∀ i, Re (f i)) : Re (∑ i, f i) := by
  refine Finset.sum_induction f Re (fun _ _ => Re.add) Re.zero fun i _ => h i
/-- A real is below the top. -/
theorem Re.lt_top {x : EReal} : Re x → x < ⊤ := by rintro ⟨a, rfl⟩; exact EReal.coe_lt_top a
/-- A real less itself is zero. -/
theorem Re.sub_self {x : EReal} : Re x → x - x = 0 := by
  rintro ⟨a, rfl⟩; rw [← EReal.coe_sub]; simp
/-- Adding a difference of reals reaches the second. -/
theorem Re.add_sub {x y : EReal} : Re x → Re y → x + (y - x) = y := by
  rintro ⟨a, rfl⟩ ⟨b, rfl⟩; rw [← EReal.coe_sub, ← EReal.coe_add]; congr 1; ring

/-- The factor of the cross term is 2. -/
theorem ofBits_two : Ideal.ofBits .f32 0x40000000#32 = ((2 : ℝ) : EReal) := by
  simp [Ideal.ofBits, Ideal.ieee, -EReal.coe_mul]; norm_num

/-- The table of squared distances that the kernel takes the argmin of. -/
def kDist (v66 : FVec Ideal S1024x64 .f32) (v80 : FVec Ideal S64x1024 .f32) (v84 : FVec Ideal S1024x64 .f32) : FVec Ideal S1024x1024 .f32 :=
  addf (subf (broadcastTo S1024x1024 (shapeCast S1024x1 (multiReduction .add [1] S1024 (mulf v66 v66) 0x00000000#32 reduces_S1024x64_S1024 (.inl rfl) rfl) shapeCasts_S1024_S1024x1) broadcasts_S1024x1_S1024x1024)
    (mulf (broadcast S1024x1024 (Scalar.ofBits (F := Ideal) .f32 0x40000000#32)) (matmul dot_S1024x64_S1024x64_S1024x1024_1_1_0_0_n_n none v66 v84 (constant S1024x1024 .f32 0x00000000#32))))
    (broadcastTo S1024x1024 (shapeCast S1x1024 (multiReduction .add [0] S1024 (mulf v80 v80) 0x00000000#32 reduces_S64x1024_S1024 (.inl rfl) rfl) shapeCasts_S1024_S1x1024) broadcasts_S1x1024_S1024x1024)

/-- The kernel's codes are the argmin of its table of distances. -/
theorem pay33_eq (z : FVec Ideal S1024x64 .f32) (T : FVec Ideal S64x1024 .f32) (cb : FVec Ideal S1024x64 .f32) :
    k0_pay33 (F := Ideal) z T cb = shapeCast S1024x1 (reduceIndex .argMin 1 S1024 (kDist z T cb) reduces_S1024x1024_S1024) shapeCasts_S1024_S1024x1 := rfl

/-- A column of words reads as the row of words. -/
theorem cast_col (v : IVec S1024 32) (r : Fin 1024) : shapeCast S1024x1 v shapeCasts_S1024_S1024x1 (ix2 r 0) = v (ix1 r) := by
  pointwise []

/-- The squared distance of one row to one code vector. -/
def dist (z cb : Fin 64 → EReal) : EReal := ∑ x, z x * z x - Ideal.ofBits .f32 0x40000000#32 * ∑ x, z x * cb x + ∑ x, cb x * cb x

/-- The distance between real rows is real. -/
theorem Re.dist {z cb : Fin 64 → EReal} (hz : ∀ c, Re (z c)) (hc : ∀ c, Re (cb c)) : Re (dist z cb) :=
  ((Re.sum fun x => (hz x).mul (hz x)).sub (Re.mul ⟨2, ofBits_two⟩ (Re.sum fun x => (hz x).mul (hc x)))).add (Re.sum fun x => (hc x).mul (hc x))

/-- The kernel's distance of a row from a codeword. -/
theorem kDist_apply (z : FVec Ideal S1024x64 .f32) (cb : FVec Ideal S1024x64 .f32) (r k : Fin 1024) :
    kDist z (k0_pay9 (F := Ideal) cb) cb (ix2 r k) = dist (fun c => z (ix2 r c)) (fun c => cb (ix2 k c)) := by
  unfold dist
  pointwise [kDist, k0_pay9]

/-- The reference's distance of a row from a codeword. -/
theorem rDist_apply (z : FVec Ideal Cert.ReferenceIdeal.S4096x64 .f32) (cb : FVec Ideal Cert.ReferenceIdeal.S1024x64 .f32) (r : Fin 4096) (k : Fin 1024) :
    rDist z cb (ix2 r k) = dist (fun c => z (ix2 r c)) (fun c => cb (ix2 k c)) := by
  unfold dist
  pointwise [rDist]

/-- The kernel and the reference choose the same code for a row on which their inputs agree. -/
theorem same_id (z : FVec Ideal S1024x64 .f32) (w : FVec Ideal Cert.ReferenceIdeal.S4096x64 .f32) (cb : FVec Ideal S1024x64 .f32)
    (r : Fin 1024) (R : Fin 4096) (h : ∀ c : Fin 64, z (ix2 r c) = w (ix2 R c)) (hw : ∀ c : Fin 64, Re (w (ix2 R c)))
    (hc : ∀ (k : Fin 1024) (c : Fin 64), Re (cb (ix2 k c))) :
    ∃ k : Fin 1024, k0_pay33 (F := Ideal) z (k0_pay9 (F := Ideal) cb) cb (ix2 r 0) = BitVec.ofNat 32 k.val ∧ rId (F := Ideal) (rDist w cb) (ix1 R) = BitVec.ofNat 32 k.val := by
  have hd : ∀ k : Fin 1024, rDist w cb (ix2 R k) < ⊤ := fun k => by
    rw [rDist_apply]; exact (Re.dist hw (hc k)).lt_top
  obtain ⟨k, e, hk⟩ := argmin_reference (rDist w cb) R hd
  obtain ⟨k', e', hk'⟩ := argmin_kernel (kDist z (k0_pay9 (F := Ideal) cb) cb) r
  have hf : (fun k : Fin 1024 => kDist z (k0_pay9 (F := Ideal) cb) cb (ix2 r k)) = fun k => rDist w cb (ix2 R k) := by
    funext k; rw [rDist_apply, kDist_apply]; simp only [h]
  rw [hf] at hk'
  obtain rfl := hk'.unique hk
  refine ⟨k', ?_, e⟩
  rw [pay33_eq, cast_col]
  exact e'

/-- Whether two small numbers are equal, as a number. -/
theorem hot_eq (x k : Fin 1024) : FloatOps.sitofp (F := Ideal) .f32 (BitVec.setWidth 32 (IntOp.cmpi .eq (BitVec.ofNat 32 x.val) (BitVec.ofNat 32 k.val)))
    = if x = k then (1 : EReal) else 0 := by
  have e : BitVec.ofNat 32 x.val = BitVec.ofNat 32 k.val ↔ x = k := by
    constructor
    · intro h
      have := congrArg BitVec.toNat h
      rw [BitVec.toNat_ofNat, BitVec.toNat_ofNat] at this
      exact Fin.ext (by omega)
    · rintro rfl; rfl
  by_cases h : x = k
  · subst h
    simp [IntOp.cmpi, FloatOps.sitofp]
  · have h' : (BitVec.ofNat 32 x.val == BitVec.ofNat 32 k.val) = false := by simpa using mt e.1 h
    simp [IntOp.cmpi, FloatOps.sitofp, h, h']

/-- The product with a one-hot row picks one element. -/
theorem sum_hot (f : Fin 1024 → EReal) (k : Fin 1024) : ∑ x, (if x = k then (1 : EReal) else 0) * f x = f k := by
  simp

/-- The kernel's code vector is the chosen row of the codebook. -/
theorem emb_kernel (z : FVec Ideal S1024x64 .f32) (cb : FVec Ideal S1024x64 .f32)
    (r : Fin 1024) (k : Fin 1024) (hk : k0_pay33 (F := Ideal) z (k0_pay9 (F := Ideal) cb) cb (ix2 r 0) = BitVec.ofNat 32 k.val)
    (hc : ∀ (k : Fin 1024) (c : Fin 64), Re (cb (ix2 k c))) (c : Fin 64) :
    k0_pay34 (F := Ideal) z (k0_pay9 (F := Ideal) cb) cb (k0_pay13 (F := Ideal) cb) (k0_pay14 (F := Ideal) cb) (ix2 r c) = cb (ix2 k c) := by
  unfold k0_pay34
  generalize k0_pay33 (F := Ideal) z (k0_pay9 (F := Ideal) cb) cb = id at hk ⊢
  pointwise [k0_pay13, k0_pay14, k0_pay12, k0_pay11, k0_pay10]
  simp only [hk, hot_eq, sum_hot, (hc _ _).sub_self]
  simp

/-- A code is not negative, so the gather does not wrap it. -/
theorem sel_small (k : Fin 1024) : Scalar.select (IntOp.cmpi .slt (BitVec.ofNat 32 k.val) 0#32) (IntOp.addi (BitVec.ofNat 32 k.val) 1024#32) (BitVec.ofNat 32 k.val)
    = BitVec.ofNat 32 k.val := by
  have h : ¬ (BitVec.ofNat 32 k.val).toInt < 0 := by rw [toInt_small]; omega
  simp [Scalar.select, IntOp.cmpi, BitVec.slt, h]

/-- A code is in the gather's range. -/
theorem range_small (k : Fin 1024) : IntOp.andi (IntOp.cmpi .sge (BitVec.ofNat 32 k.val) 0#32) (IntOp.cmpi .sle (BitVec.ofNat 32 k.val) 1023#32) = 1#1 := by
  have h : 0 ≤ (BitVec.ofNat 32 k.val).toInt := by rw [toInt_small]; omega
  have h' : (BitVec.ofNat 32 k.val).toInt ≤ 1023 := by rw [toInt_small]; omega
  simp [IntOp.andi, IntOp.cmpi, BitVec.sle, h, h']

/-- The lookup of a row number reads that row of the codebook. -/
theorem gather_apply (cb : FVec Ideal Cert.ReferenceIdeal.S1024x64 .f32) (idx : IVec Cert.ReferenceIdeal.S4096x1 32)
    (R : Fin 4096) (k : Fin 1024) (c : Fin 64) (h : idx (ix2 R 0) = BitVec.ofNat 32 k.val) :
    Host.gather Cert.ReferenceIdeal.gather_S1024x64_S4096x1_S4096x64_1_0_n_n_0_1_164 cb idx (ix2 R c) = cb (ix2 k c) :=
  Routing.gather_row _ rfl rfl rfl rfl rfl cb idx R c k h (by norm_num)

/-- The conjunction of ones is one. -/
theorem fold_ones {n : Nat} : Finset.fold IntOp.andi (1#1) (fun _ : Fin n => 1#1) Finset.univ = 1#1 := by
  induction (Finset.univ : Finset (Fin n)) using Finset.induction_on with
  | empty => rfl
  | insert a s ha ih => rw [Finset.fold_insert ha, ih]; rfl

/-- The reference's code vector is the chosen row of the codebook. -/
theorem emb_reference (id : IVec Cert.ReferenceIdeal.S4096 32) (cb : FVec Ideal Cert.ReferenceIdeal.S1024x64 .f32)
    (R : Fin 4096) (k : Fin 1024) (hk : id (ix1 R) = BitVec.ofNat 32 k.val) (c : Fin 64) :
    rEmb (F := Ideal) id cb (ix2 R c) = cb (ix2 k c) := by
  pointwise [rEmb]
  simp only [hk, sel_small, range_small]
  rw [gather_apply cb _ R k c (by pointwise []; rw [hk, sel_small]), fold_ones]
  simp [Scalar.select]

end Cert.Val

end
-- ==== Proof.VChain.lean ====
/- The three quantisers of a block of rows beside the reference's. -/
module

public import proofs.«01_k».proof.Proof.VQ

@[expose] public section

set_option maxRecDepth 16384

noncomputable section

namespace Cert.Val

open Idealize.ShloMosaic
open Cert.KernelIdeal Cert.KernelIdeal.Gen Cert.KernelIdeal.Hand
open Cert.ReferenceIdeal.Hand

/-- The rows, the encoder's layers and the codebooks hold real numbers. -/
structure Reals (A : Args Ideal) : Prop where
  h0 : ∀ i, Re (A.a0 i)
  h1 : ∀ i, Re (A.a1 i)
  h2 : ∀ i, Re (A.a2 i)
  h3 : ∀ i, Re (A.a3 i)
  h4 : ∀ i, Re (A.a4 i)
  h5 : ∀ i, Re (A.a5 i)
  h6 : ∀ i, Re (A.a6 i)
  h7 : ∀ i, Re (A.a7 i)
  h8 : ∀ i, Re (A.a8 i)
  h17 : ∀ i, Re (A.a17 i)
  h18 : ∀ i, Re (A.a18 i)
  h19 : ∀ i, Re (A.a19 i)

variable {A : Args Ideal} {t : Fin 4} {X : Blk Ideal}

/-- The encoded rows of a block are the reference's. -/
theorem enc_row (h : Match A t X) (r : Fin 1024) (c : Fin 64) : bEnc X (ix2 r c) = A.z (ix2 (rowOf t r) c) := by
  unfold Args.z bEnc bPre
  pointwise [k0_pay24, k0_pay25, rEnc]
  simp only [h.h0, h.h1, h.h2, h.h3, h.h4, h.h5, h.h6, h.h7, h.h8]

/-- The encoded rows are real. -/
theorem Reals.z (f : Reals A) (R : Fin 4096) (c : Fin 64) : Re (A.z (ix2 R c)) := by
  unfold Args.z
  pointwise [rEnc]
  refine Re.add (Re.sum fun _ => Re.mul (Re.max (Re.add (Re.sum fun _ => Re.mul (Re.max (Re.add (Re.sum fun _ => Re.mul (Re.max (Re.add (Re.sum fun _ => Re.mul (f.h0 _) (f.h1 _)) (f.h2 _)) Re.zero) (f.h3 _)) (f.h4 _)) Re.zero) (f.h5 _)) (f.h6 _)) Re.zero) (f.h7 _)) (f.h8 _)

/-- What one quantiser does to one row: the same code `k` on both sides, and its vector `e`. -/
structure Step (kid : BitVec 32) (rid : BitVec 32) (ke re : Fin 64 → EReal) (cb : FVec Ideal S1024x64 .f32) (k : Fin 1024) : Prop where
  hk : kid = BitVec.ofNat 32 k.val
  hr : rid = BitVec.ofNat 32 k.val
  ek : ∀ c, ke c = cb (ix2 k c)
  er : ∀ c, re c = cb (ix2 k c)

/-- A quantiser's step on a row on which the two inputs agree. -/
theorem step (z : FVec Ideal S1024x64 .f32) (w : FVec Ideal Cert.ReferenceIdeal.S4096x64 .f32) (cb : FVec Ideal S1024x64 .f32)
    (r : Fin 1024) (R : Fin 4096) (h : ∀ c : Fin 64, z (ix2 r c) = w (ix2 R c)) (hw : ∀ c : Fin 64, Re (w (ix2 R c)))
    (hc : ∀ i, Re (cb i)) :
    ∃ k : Fin 1024, Step (k0_pay33 (F := Ideal) z (k0_pay9 (F := Ideal) cb) cb (ix2 r 0)) (rId (F := Ideal) (rDist w cb) (ix1 R))
      (fun c => k0_pay34 (F := Ideal) z (k0_pay9 (F := Ideal) cb) cb (k0_pay13 (F := Ideal) cb) (k0_pay14 (F := Ideal) cb) (ix2 r c))
      (fun c => rEmb (F := Ideal) (rId (F := Ideal) (rDist w cb)) cb (ix2 R c)) cb k := by
  obtain ⟨k, e1, e2⟩ := same_id z w cb r R h hw fun _ _ => hc _
  exact ⟨k, e1, e2, emb_kernel z cb r k e1 fun _ _ => hc _, emb_reference _ cb R k e2⟩

/-- The first level's codes, by the argmin of the encoded rows. -/
theorem bId0_eq : bId0 X = k0_pay33 (F := Ideal) (bEnc X) (k0_pay9 (F := Ideal) X.x17) X.x17 := rfl
/-- The first level's code vectors, by the one-hot products. -/
theorem bE0_eq : bE0 X = k0_pay34 (F := Ideal) (bEnc X) (k0_pay9 (F := Ideal) X.x17) X.x17 (k0_pay13 (F := Ideal) X.x17) (k0_pay14 (F := Ideal) X.x17) := rfl
/-- The residual after the first level. -/
theorem bR1_eq : bR1 X = subf (bEnc X) (bE0 X) := rfl
/-- The second level's codes, by the argmin of the first residual. -/
theorem bId1_eq : bId1 X = k0_pay33 (F := Ideal) (bR1 X) (k0_pay9 (F := Ideal) X.x18) X.x18 := rfl
/-- The second level's code vectors, by the one-hot products. -/
theorem bE1_eq : bE1 X = k0_pay34 (F := Ideal) (bR1 X) (k0_pay9 (F := Ideal) X.x18) X.x18 (k0_pay13 (F := Ideal) X.x18) (k0_pay14 (F := Ideal) X.x18) := rfl
/-- The third level's codes, by the argmin of the second residual. -/
theorem bId2_eq : bId2 X = k0_pay33 (F := Ideal) (bR2 X) (k0_pay9 (F := Ideal) X.x19) X.x19 := rfl
/-- The third level's code vectors, by the one-hot products. -/
theorem bE2_eq : bE2 X = k0_pay34 (F := Ideal) (bR2 X) (k0_pay9 (F := Ideal) X.x19) X.x19 (k0_pay13 (F := Ideal) X.x19) (k0_pay14 (F := Ideal) X.x19) := rfl
/-- The residual after the second level. -/
theorem bR2_eq : bR2 X = subf (bR1 X) (bE1 X) := rfl
/-- The residual after the third level. -/
theorem bR3_eq : bR3 X = subf (bR2 X) (bE2 X) := rfl

/-- What the three quantisers do to row `r` of block `t`: the codes and their vectors, on both sides, and the residuals. -/
structure Row (A : Args Ideal) (t : Fin 4) (X : Blk Ideal) (r : Fin 1024) (k0 k1 k2 : Fin 1024) : Prop where
  s0 : Step (bId0 X (ix2 r 0)) (A.k0 (ix1 (rowOf t r))) (fun c => bE0 X (ix2 r c)) (fun c => A.e0 (ix2 (rowOf t r) c)) A.a17 k0
  s1 : Step (bId1 X (ix2 r 0)) (A.k1 (ix1 (rowOf t r))) (fun c => bE1 X (ix2 r c)) (fun c => A.e1 (ix2 (rowOf t r) c)) A.a18 k1
  s2 : Step (bId2 X (ix2 r 0)) (A.k2 (ix1 (rowOf t r))) (fun c => bE2 X (ix2 r c)) (fun c => A.e2 (ix2 (rowOf t r) c)) A.a19 k2
  r1 : ∀ c : Fin 64, bR1 X (ix2 r c) = A.r1 (ix2 (rowOf t r) c)
  r2 : ∀ c : Fin 64, bR2 X (ix2 r c) = A.r2 (ix2 (rowOf t r) c)
  f0 : ∀ c : Fin 64, Re (A.z (ix2 (rowOf t r) c))
  f1 : ∀ c : Fin 64, Re (A.r1 (ix2 (rowOf t r) c))
  f2 : ∀ c : Fin 64, Re (A.r2 (ix2 (rowOf t r) c))

/-- The residual on the reference's side, where the code vector's straight-through form is the code vector. -/
theorem residual (z e : FVec Ideal Cert.ReferenceIdeal.S4096x64 .f32) (R : Fin 4096) (c : Fin 64) (hz : Re (z (ix2 R c))) (he : Re (e (ix2 R c))) :
    subf z (rSte z e) (ix2 R c) = z (ix2 R c) - e (ix2 R c) := by
  pointwise [rSte]
  rw [Re.add_sub hz he]

/-- In every row the kernel and the reference choose the same three codes and reach the same residuals. -/
theorem rows (h : Match A t X) (f : Reals A) (r : Fin 1024) : ∃ k0 k1 k2, Row A t X r k0 k1 k2 := by
  have f0 := f.z (rowOf t r)
  obtain ⟨k0, s0⟩ := step (bEnc X) A.z A.a17 r (rowOf t r) (enc_row h r) f0 f.h17
  rw [← h.h17, ← bId0_eq, ← bE0_eq, h.h17] at s0
  have e0 : ∀ c : Fin 64, A.e0 (ix2 (rowOf t r) c) = A.a17 (ix2 k0 c) := s0.er
  have g1 : ∀ c : Fin 64, A.r1 (ix2 (rowOf t r) c) = A.z (ix2 (rowOf t r) c) - A.a17 (ix2 k0 c) := fun c => by
    rw [← e0]; exact residual _ _ _ _ (f0 c) (by rw [e0]; exact f.h17 _)
  have f1 : ∀ c : Fin 64, Re (A.r1 (ix2 (rowOf t r) c)) := fun c => by rw [g1]; exact (f0 c).sub (f.h17 _)
  have r1 : ∀ c : Fin 64, bR1 X (ix2 r c) = A.r1 (ix2 (rowOf t r) c) := fun c => by
    rw [g1, ← enc_row h, ← s0.ek]; rfl
  obtain ⟨k1, s1⟩ := step (bR1 X) A.r1 A.a18 r (rowOf t r) r1 f1 f.h18
  rw [← h.h18, ← bId1_eq, ← bE1_eq, h.h18] at s1
  have e1 : ∀ c : Fin 64, A.e1 (ix2 (rowOf t r) c) = A.a18 (ix2 k1 c) := s1.er
  have g2 : ∀ c : Fin 64, A.r2 (ix2 (rowOf t r) c) = A.r1 (ix2 (rowOf t r) c) - A.a18 (ix2 k1 c) := fun c => by
    rw [← e1]; exact residual _ _ _ _ (f1 c) (by rw [e1]; exact f.h18 _)
  have f2 : ∀ c : Fin 64, Re (A.r2 (ix2 (rowOf t r) c)) := fun c => by rw [g2]; exact (f1 c).sub (f.h18 _)
  have r2 : ∀ c : Fin 64, bR2 X (ix2 r c) = A.r2 (ix2 (rowOf t r) c) := fun c => by
    rw [g2, ← r1, ← s1.ek]; rfl
  obtain ⟨k2, s2⟩ := step (bR2 X) A.r2 A.a19 r (rowOf t r) r2 f2 f.h19
  rw [← h.h19, ← bId2_eq, ← bE2_eq, h.h19] at s2
  exact ⟨k0, k1, k2, s0, s1, s2, r1, r2, f0, f1, f2⟩

end Cert.Val

end
-- ==== Proof.VPre.lean ====
/- What the precondition says: the rows, the encoder and the codebooks are finite. -/
module

public import proofs.«01_k».proof.Proof.VChain
public import proofs.«01_k».proof.Pre_no_tie
public import Idealize.ShloMosaic.Lib.ReduceAll

@[expose] public section

set_option maxRecDepth 16384

noncomputable section

namespace Cert.Val.Pre

open Idealize.ShloMosaic Cert.Pre_no_tie

variable [Cert.Pre_no_tie.Facts]

/-- A conjunction over all elements of being below infinity, when it is one, says so of each element. -/
theorem all_lt {s : Shape} {axes : List (Fin s.rank)} (v : FVec Ideal s .f32) (bc : S_.BroadcastsInDim s (![] : Fin 0 → Fin s.rank)) (hr : s.ReducesTo axes S_)
    (hu : 0 < S_.numel) (i : S_.Idx)
    (h : Host.reduce IntOp.andi (cmpf .olt v (broadcastInDim s ![] bc (constant (F := Ideal) S_ .f32 0x7F800000#32))) (constantI S_ 1 1#1) hr hu i = 1#1)
    (j : s.Idx) : v j < ⊤ := by
  have e := Host.reduce_andi_eq_one _ _ hr hu i h j (Subsingleton.elim _ _)
  change BitVec.ofBool (decide (v j < Ideal.ofBits .f32 0x7F800000#32)) = 1#1 at e
  rw [ofBits_top] at e
  by_contra hn
  rw [decide_eq_false hn] at e
  exact absurd e (by decide)

/-- A value whose absolute value is below the top is real. -/
theorem real_of_max (y : EReal) (h : max y (-y) < ⊤) : Re y := by
  induction y using EReal.rec with
  | bot => simp at h
  | top => simp at h
  | coe r => exact ⟨r, rfl⟩

/-- A value whose size is below infinity is real. -/
theorem real_of_abs {s : Shape} (x : FVec Ideal s .f32) (j : s.Idx) (h : Host.absf x j < ⊤) : Re (x j) := by
  exact real_of_max (x j) h

/-- If the finiteness test of an array passes, its elements are real. -/
theorem all_real {s : Shape} {axes : List (Fin s.rank)} (x : FVec Ideal s .f32) (bc : S_.BroadcastsInDim s (![] : Fin 0 → Fin s.rank)) (hr : s.ReducesTo axes S_)
    (hu : 0 < S_.numel) (i : S_.Idx)
    (h : Host.reduce IntOp.andi (cmpf .olt (Host.absf x) (broadcastInDim s ![] bc (constant (F := Ideal) S_ .f32 0x7F800000#32))) (constantI S_ 1 1#1) hr hu i = 1#1)
    (j : s.Idx) : Re (x j) := real_of_abs x j (all_lt _ bc hr hu i h j)

/-- A conjunction of bits is one only if both are. -/
theorem and_one (a b : IVec S_ 1) (i : S_.Idx) (h : andi a b i = 1#1) : a i = 1#1 ∧ b i = 1#1 := IntOp.andi_eq_one.1 h

/-- If this part of the precondition is true, so is what it was handed, and the arrays that it tests are real. -/
theorem part8 (main_arg19 : FVec Ideal S1024x64 .f32) (main_v129 : IVec S_ 1) (main_v132 : FVec Ideal S4096x64 .f32) (main_v146 : FVec Ideal S4096x1024 .f32) (main_v148 : FVec Ideal S4096x1 .f32) (i : S_.Idx)
    (h : fn_part8 (F := Ideal) main_arg19 main_v129 main_v132 main_v146 main_v148 i = 1#1) : main_v129 i = 1#1 :=
  (and_one _ _ i h).1

/-- If this part of the precondition is true, so is what it was handed, and the arrays that it tests are real. -/
theorem part7 (main_arg18 : FVec Ideal S1024x64 .f32) (main_arg19 : FVec Ideal S1024x64 .f32) (main_v102 : IVec S_ 1) (main_v105 : FVec Ideal S4096x64 .f32) (main_v119 : FVec Ideal S4096x1024 .f32) (main_v128 : IVec S_ 1) (i : S_.Idx)
    (h : fn_part7 (F := Ideal) main_arg18 main_arg19 main_v102 main_v105 main_v119 main_v128 i = 1#1) : main_v102 i = 1#1 := by
  unfold fn_part7 at h
  have h := part8 _ _ _ _ _ i h
  exact (and_one _ _ i h).1

/-- If this part of the precondition is true, so is what it was handed, and the arrays that it tests are real. -/
theorem part6 (main_arg18 : FVec Ideal S1024x64 .f32) (main_arg19 : FVec Ideal S1024x64 .f32) (main_v102 : IVec S_ 1) (main_v105 : FVec Ideal S4096x64 .f32) (main_v108 : FVec Ideal S4096x1 .f32) (main_v110 : FVec Ideal S4096x1024 .f32) (i : S_.Idx)
    (h : fn_part6 (F := Ideal) main_arg18 main_arg19 main_v102 main_v105 main_v108 main_v110 i = 1#1) : main_v102 i = 1#1 := by
  unfold fn_part6 at h
  exact part7 _ _ _ _ _ _ i h

/-- If this part of the precondition is true, so is what it was handed, and the arrays that it tests are real. -/
theorem part5 (main_arg17 : FVec Ideal S1024x64 .f32) (main_arg18 : FVec Ideal S1024x64 .f32) (main_arg19 : FVec Ideal S1024x64 .f32) (main_v59 : IVec S_ 1) (main_v78 : FVec Ideal S4096x64 .f32) (main_v87 : FVec Ideal S4096x1024 .f32) (main_v91 : FVec Ideal S4096x1024 .f32) (i : S_.Idx)
    (h : fn_part5 (F := Ideal) main_arg17 main_arg18 main_arg19 main_v59 main_v78 main_v87 main_v91 i = 1#1) : main_v59 i = 1#1 := by
  unfold fn_part5 at h
  have h := part6 _ _ _ _ _ _ i h
  exact (and_one _ _ i h).1

/-- If this part of the precondition is true, so is what it was handed, and the arrays that it tests are real. -/
theorem part4 (main_arg6 : FVec Ideal S128 .f32) (main_arg7 : FVec Ideal S128x64 .f32) (main_arg8 : FVec Ideal S64 .f32) (main_arg17 : FVec Ideal S1024x64 .f32) (main_arg18 : FVec Ideal S1024x64 .f32) (main_arg19 : FVec Ideal S1024x64 .f32) (main_v59 : IVec S_ 1) (main_v70 : FVec Ideal S4096x128 .f32) (i : S_.Idx)
    (h : fn_part4 (F := Ideal) main_arg6 main_arg7 main_arg8 main_arg17 main_arg18 main_arg19 main_v59 main_v70 i = 1#1) : main_v59 i = 1#1 := by
  unfold fn_part4 at h
  exact part5 _ _ _ _ _ _ _ i h

/-- If this part of the precondition is true, so is what it was handed, and the arrays that it tests are real. -/
theorem part3 (main_arg0 : FVec Ideal S4096x768 .f32) (main_arg1 : FVec Ideal S768x512 .f32) (main_arg2 : FVec Ideal S512 .f32) (main_arg3 : FVec Ideal S512x256 .f32) (main_arg4 : FVec Ideal S256 .f32) (main_arg5 : FVec Ideal S256x128 .f32) (main_arg6 : FVec Ideal S128 .f32) (main_arg7 : FVec Ideal S128x64 .f32) (main_arg8 : FVec Ideal S64 .f32) (main_arg17 : FVec Ideal S1024x64 .f32) (main_arg18 : FVec Ideal S1024x64 .f32) (main_arg19 : FVec Ideal S1024x64 .f32) (main_v49 : IVec S_ 1) (main_v50 : FVec Ideal S1024x64 .f32) (i : S_.Idx)
    (h : fn_part3 (F := Ideal) main_arg0 main_arg1 main_arg2 main_arg3 main_arg4 main_arg5 main_arg6 main_arg7 main_arg8 main_arg17 main_arg18 main_arg19 main_v49 main_v50 i = 1#1) :
    main_v49 i = 1#1 ∧ (∀ j, main_v50 j < ⊤) ∧ (∀ j, Re (main_arg19 j)) := by
  unfold fn_part3 at h
  obtain ⟨h, h19⟩ := and_one _ _ i (part4 _ _ _ _ _ _ _ _ i h)
  obtain ⟨h, h18⟩ := and_one _ _ i h
  exact ⟨h, all_lt _ _ _ _ i h18, all_real _ _ _ _ i h19⟩

/-- If this part of the precondition is true, so is what it was handed, and the arrays that it tests are real. -/
theorem part2 (main_arg0 : FVec Ideal S4096x768 .f32) (main_arg1 : FVec Ideal S768x512 .f32) (main_arg2 : FVec Ideal S512 .f32) (main_arg3 : FVec Ideal S512x256 .f32) (main_arg4 : FVec Ideal S256 .f32) (main_arg5 : FVec Ideal S256x128 .f32) (main_arg6 : FVec Ideal S128 .f32) (main_arg7 : FVec Ideal S128x64 .f32) (main_arg8 : FVec Ideal S64 .f32) (main_arg17 : FVec Ideal S1024x64 .f32) (main_arg18 : FVec Ideal S1024x64 .f32) (main_arg19 : FVec Ideal S1024x64 .f32) (main_v29 : IVec S_ 1) (main_v32 : IVec S128 1) (main_c_12 : IVec S_ 1) (i : S_.Idx)
    (h : fn_part2 (F := Ideal) main_arg0 main_arg1 main_arg2 main_arg3 main_arg4 main_arg5 main_arg6 main_arg7 main_arg8 main_arg17 main_arg18 main_arg19 main_v29 main_v32 main_c_12 i = 1#1) :
    main_v29 i = 1#1 ∧ Host.reduce IntOp.andi main_v32 main_c_12 Facts.reducesTo_S128_S_d0 Facts.h_S_ i = 1#1 ∧ (∀ j, Re (main_arg7 j)) ∧ (∀ j, Re (main_arg8 j)) ∧ (∀ j, Re (main_arg17 j)) ∧ (∀ j, Re (main_arg18 j)) ∧ (∀ j, Re (main_arg19 j)) := by
  unfold fn_part2 at h
  obtain ⟨h, h18, h19⟩ := part3 _ _ _ _ _ _ _ _ _ _ _ _ _ _ i h
  obtain ⟨h, h17⟩ := and_one _ _ i h
  obtain ⟨h, h8⟩ := and_one _ _ i h
  obtain ⟨h, h7⟩ := and_one _ _ i h
  obtain ⟨h, h6⟩ := and_one _ _ i h
  exact ⟨h, h6, all_real _ _ _ _ i h7, all_real _ _ _ _ i h8, all_real _ _ _ _ i h17, fun j => real_of_abs _ j (h18 j), h19⟩

/-- If this part of the precondition is true, so is what it was handed, and the arrays that it tests are real. -/
theorem part1 (main_arg0 : FVec Ideal S4096x768 .f32) (main_arg1 : FVec Ideal S768x512 .f32) (main_arg2 : FVec Ideal S512 .f32) (main_arg3 : FVec Ideal S512x256 .f32) (main_arg4 : FVec Ideal S256 .f32) (main_arg5 : FVec Ideal S256x128 .f32) (main_arg6 : FVec Ideal S128 .f32) (main_arg7 : FVec Ideal S128x64 .f32) (main_arg8 : FVec Ideal S64 .f32) (main_arg17 : FVec Ideal S1024x64 .f32) (main_arg18 : FVec Ideal S1024x64 .f32) (main_arg19 : FVec Ideal S1024x64 .f32) (main_v14 : IVec S_ 1) (main_v15 : FVec Ideal S512x256 .f32) (main_cst_5 : FVec Ideal S_ .f32) (i : S_.Idx)
    (h : fn_part1 (F := Ideal) main_arg0 main_arg1 main_arg2 main_arg3 main_arg4 main_arg5 main_arg6 main_arg7 main_arg8 main_arg17 main_arg18 main_arg19 main_v14 main_v15 main_cst_5 i = 1#1) :
    main_v14 i = 1#1 ∧ Host.reduce IntOp.andi (cmpf .olt main_v15 (broadcastInDim S512x256 ![] Facts.bcast_S_S512x256 main_cst_5)) (constantI S_ 1 1#1) Facts.reducesTo_S512x256_S_d0_1 Facts.h_S_ i = 1#1 ∧ (∀ j, Re (main_arg4 j)) ∧ (∀ j, Re (main_arg5 j)) ∧ (∀ j, Re (main_arg6 j)) ∧ (∀ j, Re (main_arg7 j)) ∧ (∀ j, Re (main_arg8 j)) ∧ (∀ j, Re (main_arg17 j)) ∧ (∀ j, Re (main_arg18 j)) ∧ (∀ j, Re (main_arg19 j)) := by
  unfold fn_part1 at h
  obtain ⟨h, h6, h7, h8, h17, h18, h19⟩ := part2 _ _ _ _ _ _ _ _ _ _ _ _ _ _ _ i h
  obtain ⟨h, h5⟩ := and_one _ _ i h
  obtain ⟨h, h4⟩ := and_one _ _ i h
  obtain ⟨h, h3⟩ := and_one _ _ i h
  exact ⟨h, h3, all_real _ _ _ _ i h4, all_real _ _ _ _ i h5, all_real _ _ _ _ i h6, h7, h8, h17, h18, h19⟩

/-- Under the precondition the rows, the encoder and the codebooks are real. -/
theorem reals (A : Cert.ReferenceIdeal.Hand.Args Ideal) (h : fn (F := Ideal) A.a0 A.a1 A.a2 A.a3 A.a4 A.a5 A.a6 A.a7 A.a8 A.a9 A.a10 A.a11 A.a12 A.a13 A.a14 A.a15 A.a16 A.a17 A.a18 A.a19 = fun _ => 1#1) : Reals A := by
  have h := congrFun h ix0
  unfold fn at h
  obtain ⟨h, h3, h4, h5, h6, h7, h8, h17, h18, h19⟩ := part1 _ _ _ _ _ _ _ _ _ _ _ _ _ _ _ ix0 h
  obtain ⟨h, h2⟩ := and_one _ _ ix0 h
  obtain ⟨h, h1⟩ := and_one _ _ ix0 h
  obtain ⟨h, h0⟩ := and_one _ _ ix0 h
  exact ⟨all_real _ _ _ _ ix0 h0, all_real _ _ _ _ ix0 h1, all_real _ _ _ _ ix0 h2, all_real _ _ _ _ ix0 h3, h4, h5, h6, h7, h8, h17, h18, h19⟩

end Cert.Val.Pre

end
-- ==== Proof.VOut.lean ====
/- The row-by-row results: norms, quantiser loss and reconstruction error, on both sides. -/
module

public import proofs.«01_k».proof.Proof.VChain

@[expose] public section

set_option maxRecDepth 16384

noncomputable section

namespace Cert.Val

open Idealize.ShloMosaic
open Cert.KernelIdeal Cert.KernelIdeal.Gen Cert.KernelIdeal.Hand
open Cert.ReferenceIdeal.Hand

variable {A : Args Ideal} {t : Fin 4} {X : Blk Ideal} {r : Fin 1024} {k0 k1 k2 : Fin 1024}

/-! ### Norms -/

/-- The norm of one row. -/
def norm (e : Fin 64 → EReal) : EReal := Ideal.sqrt (∑ x, e x * e x)

/-- The kernel's norm of a row. -/
theorem pay31_apply (e : FVec Ideal S1024x64 .f32) (r : Fin 1024) : k0_pay31 (F := Ideal) e (ix2 r 0) = norm fun c => e (ix2 r c) := by
  unfold norm
  pointwise [k0_pay31]

/-- The kernel's norm of a row, at the later levels. -/
theorem pay39_apply (e : FVec Ideal S1024x64 .f32) (r : Fin 1024) : k0_pay39 (F := Ideal) e (ix2 r 0) = norm fun c => e (ix2 r c) := by
  unfold norm
  pointwise [k0_pay39]

/-- The three norms of a row, side by side. -/
theorem pay47_apply (n0 n1 : FVec Ideal S1024x1 .f32) (e : FVec Ideal S1024x64 .f32) (r : Fin 1024) (c : Fin 3) :
    k0_pay47 (F := Ideal) n0 n1 e (ix2 r c) = if c.val < 1 then n0 (ix2 r 0) else if c.val - 1 < 1 then n1 (ix2 r 0) else norm fun c => e (ix2 r c) := by
  unfold norm
  pointwise [k0_pay47]
  fin_cases c <;> rfl

/-- The reference's three norms of a row. -/
theorem rNorms_apply (e0 e1 e2 : FVec Ideal Cert.ReferenceIdeal.S4096x64 .f32) (R : Fin 4096) (c : Fin 3) :
    rNorms e0 e1 e2 (ix2 R c) = if c.val < 1 then norm (fun c => e0 (ix2 R c)) else if c.val - 1 < 1 then norm (fun c => e1 (ix2 R c)) else norm fun c => e2 (ix2 R c) := by
  unfold norm
  pointwise [rNorms, rCatEmb]
  fin_cases c <;> simp

/-- The straight-through code vector of a row is the code vector. -/
theorem ste_apply (z e : FVec Ideal Cert.ReferenceIdeal.S4096x64 .f32) (R : Fin 4096) (c : Fin 64) (hz : Re (z (ix2 R c))) (he : Re (e (ix2 R c))) :
    rSte z e (ix2 R c) = e (ix2 R c) := by
  pointwise [rSte]
  rw [Re.add_sub hz he]

/-- The reference's straight-through vector of the first level is the code vector. -/
theorem Row.s0_apply (w : Row A t X r k0 k1 k2) (f : Reals A) (c : Fin 64) : A.s0 (ix2 (rowOf t r) c) = A.a17 (ix2 k0 c) := by
  rw [← w.s0.er]; exact ste_apply _ _ _ _ (w.f0 c) (by have := w.s0.er c; rw [this]; exact f.h17 _)
/-- The reference's straight-through vector of the second level is the code vector. -/
theorem Row.s1_apply (w : Row A t X r k0 k1 k2) (f : Reals A) (c : Fin 64) : A.s1 (ix2 (rowOf t r) c) = A.a18 (ix2 k1 c) := by
  rw [← w.s1.er]; exact ste_apply _ _ _ _ (w.f1 c) (by have := w.s1.er c; rw [this]; exact f.h18 _)
/-- The reference's straight-through vector of the third level is the code vector. -/
theorem Row.s2_apply (w : Row A t X r k0 k1 k2) (f : Reals A) (c : Fin 64) : A.s2 (ix2 (rowOf t r) c) = A.a19 (ix2 k2 c) := by
  rw [← w.s2.er]; exact ste_apply _ _ _ _ (w.f2 c) (by have := w.s2.er c; rw [this]; exact f.h19 _)

/-- The norms of a block's rows are the reference's. -/
theorem norms_row (h : Match A t X) (f : Reals A) (r : Fin 1024) (c : Fin 3) : bNorms X (ix2 r c) = A.norms (ix2 (rowOf t r) c) := by
  obtain ⟨k0, k1, k2, w⟩ := rows h f r
  unfold bNorms bN0 bN1 Args.norms
  rw [pay47_apply, pay31_apply, pay39_apply, rNorms_apply]
  simp only [w.s0_apply f, w.s1_apply f, w.s2_apply f, w.s0.ek, w.s1.ek, w.s2.ek]

/-! ### Quantiser loss -/

/-- The kernel's factor of the quantiser loss is 5/4. -/
theorem ofBits_five : Ideal.ofBits .f32 0x3FA00000#32 = ((5 / 4 : ℝ) : EReal) := by
  simp [Ideal.ofBits, Ideal.ieee, -EReal.coe_mul]; norm_num
/-- The reference's factor of the commitment loss is 1/4. -/
theorem ofBits_quarter : Ideal.ofBits .f32 0x3E800000#32 = ((1 / 4 : ℝ) : EReal) := by
  simp [Ideal.ofBits, Ideal.ieee, -EReal.coe_mul]; norm_num

/-- The squared length of one row. -/
def sq (e : Fin 64 → EReal) : EReal := ∑ x, e x * e x

/-- The kernel's quantiser loss of a row. -/
theorem bL2_apply (X : Blk Ideal) (r : Fin 1024) : bL2 X (ix2 r 0) =
    Ideal.ofBits .f32 0x3FA00000#32 * sq (fun c => bR1 X (ix2 r c)) + Ideal.ofBits .f32 0x3FA00000#32 * sq (fun c => bR2 X (ix2 r c))
      + Ideal.ofBits .f32 0x3FA00000#32 * sq (fun c => bR3 X (ix2 r c)) := by
  unfold bL2 bL1 bL0 bS1 bS2 k0_pay44 k0_pay36 k0_pay30 sq
  rw [show k0_pay43 (bR2 X) (bT2 X) X.x19 (bA2 X) (bB2 X) = bR3 X from rfl, show k0_pay35 (bR1 X) (bT1 X) X.x18 (bA1 X) (bB1 X) = bR2 X from rfl, show k0_pay29 (bPre X) X.x8 (bT0 X) X.x17 (bA0 X) (bB0 X) = bR1 X from rfl]
  generalize bR3 X = x3
  generalize bR2 X = x2
  generalize bR1 X = x1
  pointwise [k0_pay45, k0_pay38, k0_pay37]

/-- The reference's quantiser loss of a row. -/
theorem q_apply (R : Fin 4096) : A.q (ix1 R) =
    sq (fun c => A.z (ix2 R c) - A.e0 (ix2 R c)) + Ideal.ofBits .f32 0x3E800000#32 * sq (fun c => A.z (ix2 R c) - A.e0 (ix2 R c))
      + (sq (fun c => A.r1 (ix2 R c) - A.e1 (ix2 R c)) + Ideal.ofBits .f32 0x3E800000#32 * sq (fun c => A.r1 (ix2 R c) - A.e1 (ix2 R c)))
      + (sq (fun c => A.r2 (ix2 R c) - A.e2 (ix2 R c)) + Ideal.ofBits .f32 0x3E800000#32 * sq (fun c => A.r2 (ix2 R c) - A.e2 (ix2 R c))) := by
  unfold Args.q sq
  pointwise [rL0, rLoss]

/-- The sum of the squares of reals is real. -/
theorem Re.sq {e : Fin 64 → EReal} (h : ∀ c, Re (e c)) : Re (sq e) := Re.sum fun x => (h x).mul (h x)

/-- Five quarters of a real are the real and its quarter. -/
theorem five_quarters {x : EReal} (h : Re x) : Ideal.ofBits .f32 0x3FA00000#32 * x = x + Ideal.ofBits .f32 0x3E800000#32 * x := by
  obtain ⟨a, rfl⟩ := h
  rw [ofBits_five, ofBits_quarter, ← EReal.coe_mul, ← EReal.coe_mul, ← EReal.coe_add]
  congr 1; ring

/-- The quantiser loss of a block's row is the reference's, and real. -/
theorem loss_row (h : Match A t X) (f : Reals A) (r : Fin 1024) : bL2 X (ix2 r 0) = A.q (ix1 (rowOf t r)) ∧ Re (A.q (ix1 (rowOf t r))) := by
  obtain ⟨k0, k1, k2, w⟩ := rows h f r
  have g1 : ∀ c : Fin 64, bR1 X (ix2 r c) = A.z (ix2 (rowOf t r) c) - A.e0 (ix2 (rowOf t r) c) := fun c => by
    have := w.s0.er c
    rw [this, ← enc_row h, ← w.s0.ek]; rfl
  have g2 : ∀ c : Fin 64, bR2 X (ix2 r c) = A.r1 (ix2 (rowOf t r) c) - A.e1 (ix2 (rowOf t r) c) := fun c => by
    have := w.s1.er c
    rw [this, ← w.r1, ← w.s1.ek]; rfl
  have g3 : ∀ c : Fin 64, bR3 X (ix2 r c) = A.r2 (ix2 (rowOf t r) c) - A.e2 (ix2 (rowOf t r) c) := fun c => by
    have := w.s2.er c
    rw [this, ← w.r2, ← w.s2.ek]; rfl
  have e0 : ∀ c : Fin 64, Re (A.e0 (ix2 (rowOf t r) c)) := fun c => by
    have := w.s0.er c; rw [this]; exact f.h17 _
  have e1 : ∀ c : Fin 64, Re (A.e1 (ix2 (rowOf t r) c)) := fun c => by
    have := w.s1.er c; rw [this]; exact f.h18 _
  have e2 : ∀ c : Fin 64, Re (A.e2 (ix2 (rowOf t r) c)) := fun c => by
    have := w.s2.er c; rw [this]; exact f.h19 _
  have q0 := Re.sq fun c => (w.f0 c).sub (e0 c)
  have q1 := Re.sq fun c => (w.f1 c).sub (e1 c)
  have q2 := Re.sq fun c => (w.f2 c).sub (e2 c)
  have hq : Re (Ideal.ofBits .f32 0x3E800000#32) := ⟨_, ofBits_quarter⟩
  constructor
  · rw [bL2_apply, q_apply]
    simp only [g1, g2, g3]
    rw [five_quarters q0, five_quarters q1, five_quarters q2]
  · rw [q_apply]
    exact ((q0.add (hq.mul q0)).add (q1.add (hq.mul q1))).add (q2.add (hq.mul q2))

/-! ### Reconstruction error -/

/-- A row over its norm. -/
def unit (h : Fin 768 → EReal) (j : Fin 768) : EReal := Ideal.div (h j) (Ideal.sqrt (∑ x, h x * h x) + Ideal.ofBits .f32 0x2B8CBCCC#32)

/-- The reconstruction error of one row as the kernel takes it: the first 750 columns by a mask. -/
def kErr (h a : Fin 768 → EReal) : EReal :=
  ∑ j : Fin 768, (Scalar.select (IntOp.cmpi .slt (BitVec.ofNat 32 j.val) 750#32) (Ideal.div (unit h j) (Ideal.sqrt (∑ x : Fin 768,
      Scalar.select (IntOp.cmpi .slt (BitVec.ofNat 32 x.val) 750#32) (Scalar.select (IntOp.cmpi .slt (BitVec.ofNat 32 x.val) 750#32) (unit h x * unit h x) 0) 0) + Ideal.ofBits .f32 0x2B8CBCCC#32)) (unit h j) - a j)
    * (Scalar.select (IntOp.cmpi .slt (BitVec.ofNat 32 j.val) 750#32) (Ideal.div (unit h j) (Ideal.sqrt (∑ x : Fin 768,
      Scalar.select (IntOp.cmpi .slt (BitVec.ofNat 32 x.val) 750#32) (Scalar.select (IntOp.cmpi .slt (BitVec.ofNat 32 x.val) 750#32) (unit h x * unit h x) 0) 0) + Ideal.ofBits .f32 0x2B8CBCCC#32)) (unit h j) - a j)

/-- The reconstruction error of one row as the reference takes it: the first 750 columns and the last 18. -/
def rErrRow (h a : Fin 768 → EReal) : EReal :=
  (∑ j : Fin 750, (Ideal.div (unit h ⟨j.val, by omega⟩) (Ideal.sqrt (∑ x : Fin 750, unit h ⟨x.val, by omega⟩ * unit h ⟨x.val, by omega⟩) + Ideal.ofBits .f32 0x2B8CBCCC#32) - a ⟨j.val, by omega⟩)
    * (Ideal.div (unit h ⟨j.val, by omega⟩) (Ideal.sqrt (∑ x : Fin 750, unit h ⟨x.val, by omega⟩ * unit h ⟨x.val, by omega⟩) + Ideal.ofBits .f32 0x2B8CBCCC#32) - a ⟨j.val, by omega⟩))
  + ∑ j : Fin 18, (unit h ⟨750 + j.val, by omega⟩ - a ⟨750 + j.val, by omega⟩) * (unit h ⟨750 + j.val, by omega⟩ - a ⟨750 + j.val, by omega⟩)

/-- A sum over 768 columns is the sum over the first 750 and over the last 18. -/
theorem sum_split (f : Fin 768 → EReal) : ∑ j, f j = ∑ j : Fin 750, f ⟨j.val, by omega⟩ + ∑ j : Fin 18, f ⟨750 + j.val, by omega⟩ :=
  Fin.sum_univ_add (M := EReal) (a := 750) (b := 18) f

/-- A column among the first 750 takes the first choice. -/
theorem sel_head (j : Fin 750) (a b : EReal) : Scalar.select (IntOp.cmpi .slt (BitVec.ofNat 32 j.val) 750#32) a b = a := by
  have h : (BitVec.ofNat 32 j.val).toInt = j.val := toInt_small ⟨j.val, by omega⟩
  have h' : (BitVec.ofNat 32 j.val).toInt < 750 := by rw [h]; omega
  simp [Scalar.select, IntOp.cmpi, BitVec.slt, h']
/-- One of the last 18 columns takes the second choice. -/
theorem sel_tail (j : Fin 18) (a b : EReal) : Scalar.select (IntOp.cmpi .slt (BitVec.ofNat 32 (750 + j.val)) 750#32) a b = b := by
  have h : (BitVec.ofNat 32 (750 + j.val)).toInt = (750 + j.val : ℕ) := toInt_small ⟨750 + j.val, by omega⟩
  have h' : ¬ (BitVec.ofNat 32 (750 + j.val)).toInt < 750 := by rw [h]; omega
  simp only [Scalar.select, IntOp.cmpi, BitVec.slt]
  simp [h']

/-- The masked sum over all columns is the two sums over the head and the tail. -/
theorem kErr_eq (h a : Fin 768 → EReal) : kErr h a = rErrRow h a := by
  unfold kErr rErrRow
  simp only [sum_split, sel_head, sel_tail]
  simp

/-- The kernel's sum of the reconstruction errors of a block. -/
theorem pay56_apply (x : FVec Ideal S1024x768 .f32) (y : FVec Ideal S1024x512 .f32) (a : FVec Ideal S1x512 .f32) (b : FVec Ideal S512x768 .f32) (c : FVec Ideal S1x768 .f32) :
    k0_pay56 (F := Ideal) x y a b c = ∑ r : Fin 1024, ∑ _u : Fin 1, kErr (fun j => ∑ k, max (y (ix2 r k) + a (ix2 0 k)) 0 * b (ix2 k j) + c (ix2 0 j)) (fun j => x (ix2 r j)) := by
  unfold kErr unit
  pointwise [k0_pay56]

/-- The reference's reconstruction error of a row. -/
theorem rErr_apply (h a : FVec Ideal Cert.ReferenceIdeal.S4096x768 .f32) (R : Fin 4096) :
    rErr (rUnit h) a (ix1 R) = rErrRow (fun j => h (ix2 R j)) (fun j => a (ix2 R j)) := by
  unfold rErrRow unit
  pointwise [rErr, rUnit, rCat2]

/-- What the kernel decodes is the sum of the three code vectors. -/
theorem dec_in {z a b c : EReal} (hz : Re z) (ha : Re a) (hb : Re b) (hc : Re c) : z - (z - a - b - c) = a + b + c := by
  obtain ⟨z, rfl⟩ := hz; obtain ⟨a, rfl⟩ := ha; obtain ⟨b, rfl⟩ := hb; obtain ⟨c, rfl⟩ := hc
  rw [← EReal.coe_sub, ← EReal.coe_sub, ← EReal.coe_sub, ← EReal.coe_sub, ← EReal.coe_add, ← EReal.coe_add]
  congr 1; ring

/-- The decoded rows of a block are the reference's. -/
theorem dec_row (h : Match A t X) (f : Reals A) (r : Fin 1024) (j : Fin 768) :
    ∑ k, max (bDec X (ix2 r k) + X.x14 (ix2 0 k)) 0 * X.x15 (ix2 k j) + X.x16 (ix2 0 j) = A.h (ix2 (rowOf t r) j) := by
  obtain ⟨k0, k1, k2, w⟩ := rows h f r
  have hin : ∀ c : Fin 64, bEnc X (ix2 r c) - bR3 X (ix2 r c) = A.s0 (ix2 (rowOf t r) c) + A.s1 (ix2 (rowOf t r) c) + A.s2 (ix2 (rowOf t r) c) := fun c => by
    rw [w.s0_apply f, w.s1_apply f, w.s2_apply f, ← w.s0.ek, ← w.s1.ek, ← w.s2.ek]
    refine dec_in (a := bE0 X (ix2 r c)) (b := bE1 X (ix2 r c)) (c := bE2 X (ix2 r c)) (by rw [enc_row h]; exact w.f0 c) ?_ ?_ ?_
    · have := w.s0.ek c; exact this ▸ f.h17 _
    · have := w.s1.ek c; exact this ▸ f.h18 _
    · have := w.s2.ek c; exact this ▸ f.h19 _
  unfold bDec Args.h
  generalize bEnc X = z at hin ⊢
  generalize bR3 X = e at hin ⊢
  pointwise [k0_pay54, rDec]
  simp only [hin, h.h9, h.h10, h.h11, h.h12, h.h13, h.h14, h.h15, h.h16]

/-- The sum of a block's reconstruction errors is the sum of the reference's over the same rows. -/
theorem recon_block (h : Match A t X) (f : Reals A) : bRecon X = ∑ r : Fin 1024, A.err (ix1 (rowOf t r)) := by
  unfold bRecon
  rw [pay56_apply]
  refine Finset.sum_congr rfl fun r _ => ?_
  simp only [Finset.univ_unique, Finset.sum_singleton]
  unfold Args.err
  rw [rErr_apply, kErr_eq]
  simp only [dec_row h f, h.h0]

/-- The sum of a block's losses, added to the total before it. -/
theorem loss_block (h : Match A t X) (f : Reals A) (a : FVec Ideal S1x1 .f32) :
    bLossAcc X a (ix2 0 0) = a (ix2 0 0) + ∑ r : Fin 1024, A.q (ix1 (rowOf t r)) := by
  have e : ∀ x : FVec Ideal S1024x1 .f32, k0_pay2 (F := Ideal) x a (ix2 0 0) = a (ix2 0 0) + ∑ r : Fin 1024, ∑ _u : Fin 1, x (ix2 r 0) := fun x => by
    pointwise [k0_pay2]
  unfold bLossAcc
  rw [e]
  congr 1
  refine Finset.sum_congr rfl fun r _ => ?_
  rw [(loss_row h f r).1]
  simp

/-- A block adds its rows' reconstruction errors to the running total. -/
theorem recon_acc (h : Match A t X) (f : Reals A) (a : FVec Ideal S1x1 .f32) :
    bReconAcc X a (ix2 0 0) = a (ix2 0 0) + ∑ r : Fin 1024, A.err (ix1 (rowOf t r)) := by
  have e : ∀ x : EReal, k0_pay1 (F := Ideal) (k0_pay55 (F := Ideal) a) x (ix2 0 0) = a (ix2 0 0) + x := fun x => by
    pointwise [k0_pay1, k0_pay55]
  unfold bReconAcc
  rw [← recon_block h f]
  exact e _

end Cert.Val

end
-- ==== Proof.VUniq.lean ====
/- The count of repeated code triples in one block of rows, on the kernel's side. -/
module

public import proofs.«01_k».proof.Proof.VOut
public import proofs.«01_k».proof.Proof.KIRow

@[expose] public section

set_option maxRecDepth 16384

noncomputable section

namespace Cert.Val

open Idealize.ShloMosaic
open Cert.KernelIdeal Cert.KernelIdeal.Gen Cert.KernelIdeal.Hand
open Cert.ReferenceIdeal.Hand (Args)

/-- The largest value of each row. -/
def maxOf (v : FVec Ideal S1024x1024 .f32) : FVec Ideal S1024 .f32 :=
  multiReduction .maximumf [1] S1024 v 0xFF800000#32 reduces_S1024x1024_S1024 (.inl rfl) rfl

/-- Which rows have a positive largest value. -/
def posOf (m : FVec Ideal S1024 .f32) : IVec S1024x1 1 :=
  shapeCast S1024x1 (cmpf .ogt m (broadcast S1024 (Scalar.ofBits (F := Ideal) .f32 0x00000000#32))) shapeCasts_S1024_S1024x1

/-- A table of ones and zeros as numbers. -/
def selOf (m : IVec S1024x1024 1) : FVec Ideal S1024x1024 .f32 :=
  select m (broadcast S1024x1024 (Scalar.ofBits (F := Ideal) .f32 0x3F800000#32)) (broadcast S1024x1024 (Scalar.ofBits (F := Ideal) .f32 0x00000000#32))

/-- The number of marked rows, added to a total. -/
def cntOf (d : IVec S1024x1 1) (a : FVec Ideal S1x1 .f32) : FVec Ideal S1x1 .f32 :=
  addf (shapeCast S1x1 a shapeCasts_S1x1_S1x1)
    (broadcast S1x1 (extractAt ![0, 0, 0] (shapeCast S1x1x1 (multiReduction .add [1, 2] S1
      (shapeCast S1x1024x1 (sitofp (F := Ideal) .f32 (extui 32 d natLt_1_32)) shapeCasts_S1024x1_S1x1024x1) 0x00000000#32 reduces_S1x1024x1_S1 (.inl rfl) rfl) shapeCasts_S1_S1x1x1) inpos_S1x1x1_p0_0_0))

/-- A step's first comparison with a stretch of the row of codes. -/
theorem pay50_eq (a0 : BitVec 32) (k1 id2 : IVec S1024x1 32) (w : IVec S1x1024 32) :
    k0_pay50 (F := Ideal) a0 k1 id2 w
      = ori (broadcast S1024x1 0#1) (posOf (maxOf (selOf (hitOf (k0_pay46 k1 id2) (k0_pay49 a0) colIota 0#32 w)))) := rfl

/-- The comparison with the next stretches, joined to what was found before. -/
theorem pay51_eq (key : IVec S1024x1 32) (rows cols : IVec S1024x1024 32) (b : IVec S1024x1 1) (w u : IVec S1x1024 32) :
    k0_pay51 (F := Ideal) key rows cols b w u
      = ori (ori b (posOf (maxOf (selOf (hitOf key rows cols 1024#32 w))))) (posOf (maxOf (selOf (hitOf key rows cols 2048#32 u)))) := rfl

/-- The comparison with the last stretch. -/
theorem pay52_eq (key : IVec S1024x1 32) (rows cols : IVec S1024x1024 32) (w : IVec S1x1024 32) :
    k0_pay52 (F := Ideal) key rows cols w = selOf (hitOf key rows cols 3072#32 w) := rfl

/-- The step's count of the rows found. -/
theorem pay53_eq (b : IVec S1024x1 1) (v : FVec Ideal S1024x1024 .f32) (a : FVec Ideal S1x1 .f32) :
    k0_pay53 (F := Ideal) b v a = cntOf (ori b (posOf (maxOf v))) a := rfl

/-- The word of minus infinity is the bottom. -/
theorem ofBits_bot : Ideal.ofBits .f32 0xFF800000#32 = ⊥ := by
  simp [Ideal.ofBits, Ideal.ieee]

/-- The largest value of a row. -/
theorem maxOf_apply (v : FVec Ideal S1024x1024 .f32) (r : Fin 1024) :
    maxOf v (ix1 r) = Finset.fold max (Ideal.ofBits .f32 0xFF800000#32) (fun x => v (ix2 r x)) Finset.univ := by
  pointwise [maxOf]

/-- The mark of a row with a positive largest value. -/
theorem posOf_apply (m : FVec Ideal S1024 .f32) (r : Fin 1024) : posOf m (ix2 r 0) = BitVec.ofBool (decide (0 < m (ix1 r))) := by
  pointwise [posOf]

/-- A one or a zero by the mark. -/
theorem selOf_apply (m : IVec S1024x1024 1) (r x : Fin 1024) : selOf m (ix2 r x) = Scalar.select (m (ix2 r x)) (1 : EReal) 0 := by
  pointwise [selOf]

/-- The count adds the marked rows. -/
theorem cntOf_apply (d : IVec S1024x1 1) (a : FVec Ideal S1x1 .f32) :
    cntOf d a (ix2 0 0) = a (ix2 0 0) + ∑ x : Fin 1024, ∑ _u : Fin 1, FloatOps.sitofp (F := Ideal) .f32 (BitVec.setWidth 32 (d (ix2 x 0))) := by
  pointwise [cntOf]

/-- A row is marked where some column of it is. -/
theorem mark_apply (m : IVec S1024x1024 1) (r : Fin 1024) : posOf (maxOf (selOf m)) (ix2 r 0) = if ∃ x, m (ix2 r x) = 1#1 then 1#1 else 0#1 := by
  rw [posOf_apply, maxOf_apply, ofBits_bot]
  have : 0 < Finset.fold max (⊥ : EReal) (fun x => selOf m (ix2 r x)) Finset.univ ↔ ∃ x, m (ix2 r x) = 1#1 := by
    rw [Finset.lt_fold_max]
    simp only [not_lt_bot, false_or, Finset.mem_univ, true_and]
    refine exists_congr fun x => ?_
    rw [selOf_apply]
    by_cases h : m (ix2 r x) = 1#1 <;> simp [Scalar.select, h]
  by_cases h : ∃ x, m (ix2 r x) = 1#1
  · rw [if_pos h, decide_eq_true (this.mpr h)]; rfl
  · rw [if_neg h, decide_eq_false (fun k => h (this.mp k))]; rfl

/-- A column of a stretch is marked where it holds the row's code and comes before the row. -/
theorem hitOf_apply (n : ℕ) (hn : n < 4) (key : IVec S1024x1 32) (c : ℕ) (hc : c ≤ 3072) (w : IVec S1x1024 32) (r x : Fin 1024) :
    hitOf key (k0_pay49 (BitVec.ofNat 32 n)) colIota (BitVec.ofNat 32 c) w (ix2 r x) = 1#1 ↔ key (ix2 r 0) = w (ix2 0 x) ∧ c + x.val < n * 1024 + r.val := by
  unfold hitOf k0_pay49 colIota
  pointwise
  rw [place_cmp n hn c hc _ _ x.isLt r.isLt]
  by_cases h : key (ix2 r 0) = w (ix2 0 x)
  · by_cases h' : c + x.val < n * 1024 + r.val <;> simp [IntOp.andi, IntOp.cmpi, h, h']
  · have hb : (key (ix2 r 0) == w (ix2 0 x)) = false := by simpa using h
    simp [IntOp.andi, IntOp.cmpi, h, hb]

/-- A stretch loaded from the row of codes. -/
theorem ld_apply (g : IVec S1x4096 32) (c : ℕ) (hc : c ≤ 3072) (inb) (x : Fin 1024) :
    View.ld (Val := Elt Ideal) (e' := .i32) g (Rect.unit (s := S1x4096) ![0, c] S1x1024.size inb) (ix2 0 x) = g (ix2 0 (⟨c + x.val, by omega⟩ : Fin 4096)) := by
  unfold View.ld
  congr 1
  funext a
  fin_cases a
  · rfl
  · exact Fin.ext (by show c + 1 * x.val = c + x.val; omega)

/-- The disjunction of two marks. -/
theorem or_bits (p q : Prop) [Decidable p] [Decidable q] : IntOp.ori (if p then 1#1 else 0#1) (if q then 1#1 else 0#1) = if p ∨ q then 1#1 else 0#1 := by
  by_cases p <;> by_cases q <;> simp [IntOp.ori, *]

/-- A disjunction with no mark. -/
theorem zero_or (p : Prop) [Decidable p] : IntOp.ori 0#1 (if p then 1#1 else 0#1) = if p then 1#1 else 0#1 := by
  by_cases p <;> simp [IntOp.ori, *]

/-- The disjunction, element by element. -/
theorem ori_at {s : Shape} (a b : IVec s 1) (i : s.Idx) : ori a b i = IntOp.ori (a i) (b i) := rfl

/-- A mark as a number. -/
theorem num_bit (p : Prop) [Decidable p] : FloatOps.sitofp (F := Ideal) .f32 (BitVec.setWidth 32 (if p then 1#1 else 0#1)) = if p then (1 : EReal) else 0 := by
  by_cases h : p
  · rw [if_pos h, if_pos h]
    show (((BitVec.setWidth 32 1#1).toInt : ℝ) : EReal) = 1
    have : (BitVec.setWidth 32 1#1).toInt = 1 := by decide
    rw [this]; simp
  · rw [if_neg h, if_neg h]
    show (((BitVec.setWidth 32 0#1).toInt : ℝ) : EReal) = 0
    have : (BitVec.setWidth 32 0#1).toInt = 0 := by decide
    rw [this]; simp

/-- The columns before a row, taken a stretch of 1024 at a time. -/
theorem four (P : Fin 4096 → Prop) :
    (((∃ x : Fin 1024, P ⟨0 + x.val, by omega⟩) ∨ (∃ x : Fin 1024, P ⟨1024 + x.val, by omega⟩)) ∨ (∃ x : Fin 1024, P ⟨2048 + x.val, by omega⟩)) ∨ (∃ x : Fin 1024, P ⟨3072 + x.val, by omega⟩)
      ↔ ∃ j, P j := by
  constructor
  · rintro (((⟨x, h⟩ | ⟨x, h⟩) | ⟨x, h⟩) | ⟨x, h⟩) <;> exact ⟨_, h⟩
  · rintro ⟨j, h⟩
    have hj := j.isLt
    by_cases h1 : j.val < 1024
    · exact .inl (.inl (.inl ⟨⟨j.val, h1⟩, by convert h using 1; exact Fin.ext (by simp)⟩))
    by_cases h2 : j.val < 2048
    · exact .inl (.inl (.inr ⟨⟨j.val - 1024, by omega⟩, by convert h using 1; exact Fin.ext (by simp; omega)⟩))
    by_cases h3 : j.val < 3072
    · exact .inl (.inr ⟨⟨j.val - 2048, by omega⟩, by convert h using 1; exact Fin.ext (by simp; omega)⟩)
    · exact .inr ⟨⟨j.val - 3072, by omega⟩, by convert h using 1; exact Fin.ext (by simp; omega)⟩

/-- The count of repeats after a block: one more for each row whose code stands at an earlier column of the row of codes. -/
theorem dup_apply (n : ℕ) (hn : n < 4) (k1 id2 : IVec S1024x1 32) (g : IVec S1x4096 32) (a : FVec Ideal S1x1 .f32) :
    dupOf (F := Ideal) (BitVec.ofNat 32 n) k1 id2 g a (ix2 0 0) = a (ix2 0 0)
      + ∑ r : Fin 1024, if ∃ j : Fin 4096, k0_pay46 k1 id2 (ix2 r 0) = g (ix2 0 j) ∧ j.val < n * 1024 + r.val then (1 : EReal) else 0 := by
  unfold dupOf
  rw [pay50_eq, pay51_eq, pay52_eq, pay53_eq, cntOf_apply]
  congr 1
  refine Finset.sum_congr rfl fun r _ => ?_
  simp only [Finset.univ_unique, Finset.sum_singleton]
  rw [ori_at, ori_at, ori_at, ori_at, mark_apply, mark_apply, mark_apply, mark_apply]
  rw [show broadcast S1024x1 0#1 (ix2 r 0) = 0#1 from rfl, zero_or, or_bits, or_bits, or_bits, num_bit]
  refine if_congr ?_ rfl rfl
  rw [← four]
  have H (c : ℕ) (hc : c ≤ 3072) (inb) (x : Fin 1024) := hitOf_apply n hn (k0_pay46 k1 id2) c hc
    (View.ld (Val := Elt Ideal) (e' := .i32) g (Rect.unit (s := S1x4096) ![0, c] S1x1024.size inb)) r x
  refine or_congr (or_congr (or_congr ?_ ?_) ?_) ?_ <;> refine exists_congr fun x => ?_
  · exact (H 0 (by omega) _ x).trans (by rw [ld_apply g 0 (by omega)])
  · exact (H 1024 (by omega) _ x).trans (by rw [ld_apply g 1024 (by omega)])
  · exact (H 2048 (by omega) _ x).trans (by rw [ld_apply g 2048 (by omega)])
  · exact (H 3072 (by omega) _ x).trans (by rw [ld_apply g 3072 (by omega)])

/-- The three codes of a row of the reference as one word. -/
def code (A : Args Ideal) (R : Fin 4096) : BitVec 32 :=
  IntOp.addi (IntOp.muli (IntOp.addi (IntOp.muli (A.k0 (ix1 R)) 1024#32) (A.k1 (ix1 R))) 1024#32) (A.k2 (ix1 R))

variable {A : Args Ideal} {t : Fin 4} {X : Blk Ideal}

/-- The combined code of a block's row is the reference's three codes as one word. -/
theorem key_row (h : Match A t X) (f : Reals A) (r : Fin 1024) : bKey X (ix2 r 0) = code A (rowOf t r) := by
  obtain ⟨k0, k1, k2, w⟩ := rows h f r
  have e0 := w.s0.hk.trans w.s0.hr.symm
  have e1 := w.s1.hk.trans w.s1.hr.symm
  have e2 := w.s2.hk.trans w.s2.hr.symm
  unfold bKey bK1 bK0 code
  rw [← e0, ← e1, ← e2]
  generalize bId0 X = x0
  generalize bId1 X = x1
  generalize bId2 X = x2
  pointwise [k0_pay46, k0_pay40, k0_pay32, k0_pay26]
  simp [IntOp.addi, IntOp.muli]

/-- The row of keys is the column of keys. -/
theorem keyRow_apply (X : Blk Ideal) (r : Fin 1024) : bKeyRow X (ix2 0 r) = bKey X (ix2 r 0) := by
  unfold bKeyRow bKey
  generalize bK1 X = x1
  generalize bId2 X = x2
  have : ∀ k : IVec S1024x1 32, shapeCast S1x1024 (transpose S1x1024 [1, 0] k transposes_S1024x1_p1_0_S1x1024) shapeCasts_S1x1024_S1x1024 (ix2 0 r) = k (ix2 r 0) := fun k => by
    pointwise
  exact this _

end Cert.Val

end
-- ==== Proof.VRefUniq.lean ====
/- The reference's share of distinct code triples, as a count. -/
module

public import proofs.«01_k».proof.Proof.VOut

@[expose] public section

set_option maxRecDepth 16384

noncomputable section

namespace Cert.Val

open Idealize.ShloMosaic
open Cert.ReferenceIdeal.Hand

/-- A conjunction of bits over a finite set is one exactly when every bit is. -/
theorem all_bits {ι : Type} [DecidableEq ι] (s : Finset ι) (f : ι → BitVec 1) :
    Finset.fold IntOp.andi 1#1 f s = 1#1 ↔ ∀ x ∈ s, f x = 1#1 := by
  induction s using Finset.induction_on with
  | empty => simp
  | insert a s ha ih =>
    rw [Finset.fold_insert ha, Finset.forall_mem_insert, ← ih]
    generalize f a = u
    generalize Finset.fold IntOp.andi 1#1 f s = v
    revert u v; decide

/-- A sum of bits as words is the number of ones. -/
theorem count_bits {ι : Type} [DecidableEq ι] (s : Finset ι) (f : ι → BitVec 1) (p : ι → Prop) [DecidablePred p] (h : ∀ x, f x = 1#1 ↔ p x) :
    Finset.fold IntOp.addi 0#32 (fun x => BitVec.setWidth 32 (f x)) s = BitVec.ofNat 32 (s.filter p).card := by
  induction s using Finset.induction_on with
  | empty => simp
  | insert a s ha ih =>
    rw [Finset.fold_insert ha, ih, Finset.filter_insert]
    by_cases hp : p a
    · rw [if_pos hp, Finset.card_insert_of_notMem (by simp [ha]), (h a).mpr hp, Nat.add_comm, BitVec.ofNat_add]; rfl
    · have h0 : f a = 0#1 := by
        have : ∀ u : BitVec 1, u ≠ 1#1 → u = 0#1 := by decide
        exact this _ fun e => hp ((h a).mp e)
      rw [if_neg hp, h0]; exact BitVec.zero_add _

/-- The three codes of a row of the reference, as one triple. -/
def triple (k0 k1 k2 : IVec Cert.ReferenceIdeal.S4096 32) (R : Fin 4096) : BitVec 32 × BitVec 32 × BitVec 32 := (k0 (ix1 R), k1 (ix1 R), k2 (ix1 R))

/-- The comparison of row numbers as words. -/
theorem sge_rows (x y : Fin 4096) : IntOp.cmpi .sge (IntOp.addi (BitVec.ofNat 32 x.val) 0#32) (BitVec.ofNat 32 y.val) = if y ≤ x then 1#1 else 0#1 := by
  have e (n : Fin 4096) : (BitVec.ofNat 32 n.val).toInt = n.val := by
    rw [BitVec.toInt_eq_toNat_of_lt (by rw [BitVec.toNat_ofNat]; omega), BitVec.toNat_ofNat]; omega
  have ha : IntOp.addi (BitVec.ofNat 32 x.val) 0#32 = BitVec.ofNat 32 x.val := by simp [IntOp.addi]
  rw [ha]
  by_cases h : y ≤ x
  · have h' : (BitVec.ofNat 32 y.val).toInt ≤ (BitVec.ofNat 32 x.val).toInt := by rw [e, e]; exact_mod_cast h
    simp [IntOp.cmpi, BitVec.sle, BitVec.slt, h, h']
  · have h' : ¬ (BitVec.ofNat 32 y.val).toInt ≤ (BitVec.ofNat 32 x.val).toInt := by rw [e, e]; exact_mod_cast h
    simp only [IntOp.cmpi, BitVec.sle, BitVec.slt]
    simp [h, h']

/-- The reference's share: the number of rows with no later row of the same codes, over 4096. -/
theorem uniq_apply (k0 k1 k2 : IVec Cert.ReferenceIdeal.S4096 32) :
    rUniq (F := Ideal) (rIds k0 k1 k2) ix0 = Ideal.div
      (((Finset.univ.filter fun x : Fin 4096 => ∀ y, triple k0 k1 k2 x = triple k0 k1 k2 y → y ≤ x).card : ℝ) : EReal) (Ideal.ofBits .f32 1166016512#32) := by
  pointwise [rUniq, rIds, rCatIds]
  rw [count_bits _ _ (fun x : Fin 4096 => ∀ y, triple k0 k1 k2 x = triple k0 k1 k2 y → y ≤ x)]
  · congr 1
    show (((BitVec.ofNat 32 _).toInt : ℝ) : EReal) = _
    have hc : (Finset.univ.filter fun x : Fin 4096 => ∀ y, triple k0 k1 k2 x = triple k0 k1 k2 y → y ≤ x).card ≤ 4096 :=
      (Finset.card_le_univ _).trans (by simp)
    generalize (Finset.univ.filter fun x : Fin 4096 => ∀ y, triple k0 k1 k2 x = triple k0 k1 k2 y → y ≤ x).card = n at hc ⊢
    rw [BitVec.toInt_eq_toNat_of_lt (by rw [BitVec.toNat_ofNat]; omega), BitVec.toNat_ofNat, Nat.mod_eq_of_lt (by omega)]
    simp
  · intro x
    rw [all_bits]
    simp only [Finset.mem_univ, true_imp_iff]
    refine forall_congr' fun y => ?_
    rw [sge_rows]
    have hn : ∀ u : BitVec 1, ~~~u = 1#1 ↔ ¬ u = 1#1 := by decide
    rw [hn]
    by_cases h : y ≤ x
    · simp [h, Scalar.select]
    · rw [if_neg h]
      show ¬ (if (0#1 : BitVec 1) = 1#1 then _ else _) = 1#1 ↔ _
      rw [if_neg (by decide), all_bits]
      simp only [Finset.mem_univ, true_imp_iff, h]
      rw [Fin.forall_fin_succ, Fin.forall_fin_succ, Fin.forall_fin_succ]
      have hb : ∀ a b : BitVec 32, BitVec.ofBool (a == b) = 1#1 ↔ a = b := fun a b => by
        by_cases e : a = b
        · simp [e]
        · have : (a == b) = false := by simpa using e
          simp [e, this]
      simp [IntOp.cmpi, triple, hb]

end Cert.Val

end
-- ==== Proof.VCount.lean ====
/- Counting repeats: rows with an earlier twin and rows with a later twin are equally many. -/
module

public import proofs.«01_k».proof.Proof.VUniq
public import proofs.«01_k».proof.Proof.VRefUniq

@[expose] public section

set_option maxRecDepth 16384

noncomputable section

namespace Cert.Val

open Idealize.ShloMosaic
open Cert.KernelIdeal Cert.KernelIdeal.Gen Cert.KernelIdeal.Hand
open Cert.ReferenceIdeal.Hand (Args)

/-- The rows that are the last of their value are as many as the values. -/
theorem card_last {α : Type} [DecidableEq α] {n : ℕ} (f : Fin n → α) :
    (Finset.univ.filter fun x => ∀ y, f x = f y → y ≤ x).card = (Finset.univ.image f).card := by
  rw [← Finset.card_image_of_injOn (f := f) (s := Finset.univ.filter fun x => ∀ y, f x = f y → y ≤ x)]
  · congr 1
    ext a
    simp only [Finset.mem_image, Finset.mem_filter, Finset.mem_univ, true_and]
    constructor
    · rintro ⟨x, _, rfl⟩; exact ⟨x, rfl⟩
    · rintro ⟨x, rfl⟩
      obtain ⟨z, hz, hm⟩ := Finset.exists_max_image (Finset.univ.filter fun y => f x = f y) id ⟨x, by simp⟩
      simp only [Finset.mem_filter, Finset.mem_univ, true_and, id] at hz hm
      exact ⟨z, fun y hy => hm y (hz.trans hy), hz.symm⟩
  · intro x hx y hy e
    simp only [Finset.coe_filter, Finset.mem_univ, true_and, Set.mem_setOf_eq] at hx hy
    exact le_antisymm (hy x e.symm) (hx y e)

/-- The rows that are the first of their value are as many as the values. -/
theorem card_first {α : Type} [DecidableEq α] {n : ℕ} (f : Fin n → α) :
    (Finset.univ.filter fun x => ∀ y, f x = f y → x ≤ y).card = (Finset.univ.image f).card := by
  rw [← Finset.card_image_of_injOn (f := f) (s := Finset.univ.filter fun x => ∀ y, f x = f y → x ≤ y)]
  · congr 1
    ext a
    simp only [Finset.mem_image, Finset.mem_filter, Finset.mem_univ, true_and]
    constructor
    · rintro ⟨x, _, rfl⟩; exact ⟨x, rfl⟩
    · rintro ⟨x, rfl⟩
      obtain ⟨z, hz, hm⟩ := Finset.exists_min_image (Finset.univ.filter fun y => f x = f y) id ⟨x, by simp⟩
      simp only [Finset.mem_filter, Finset.mem_univ, true_and, id] at hz hm
      exact ⟨z, fun y hy => hm y (hz.trans hy), hz.symm⟩
  · intro x hx y hy e
    simp only [Finset.coe_filter, Finset.mem_univ, true_and, Set.mem_setOf_eq] at hx hy
    exact le_antisymm (hx y e) (hy x e.symm)

/-- The rows with an earlier twin and the rows with no later twin make up all the rows. -/
theorem card_twins {α : Type} [DecidableEq α] {n : ℕ} (f : Fin n → α) :
    (Finset.univ.filter fun x => ∃ y, f x = f y ∧ y < x).card + (Finset.univ.filter fun x => ∀ y, f x = f y → y ≤ x).card = n := by
  rw [card_last, ← card_first]
  have h : (Finset.univ.filter fun x => ∀ y, f x = f y → x ≤ y) = Finset.univ.filter fun x => ¬ ∃ y, f x = f y ∧ y < x := by
    ext x; simp
  rw [h, Finset.card_filter_add_card_filter_not, Finset.card_univ, Fintype.card_fin]

/-- Three small codes as one number determine the codes. -/
theorem pack_inj {a b c a' b' c' : ℕ} (ha : a < 1024) (hb : b < 1024) (hc : c < 1024) (ha' : a' < 1024) (hb' : b' < 1024) (hc' : c' < 1024)
    (h : IntOp.addi (IntOp.muli (IntOp.addi (IntOp.muli (BitVec.ofNat 32 a) 1024#32) (BitVec.ofNat 32 b)) 1024#32) (BitVec.ofNat 32 c)
      = IntOp.addi (IntOp.muli (IntOp.addi (IntOp.muli (BitVec.ofNat 32 a') 1024#32) (BitVec.ofNat 32 b')) 1024#32) (BitVec.ofNat 32 c')) :
    a = a' ∧ b = b' ∧ c = c' := by
  have e (a b c : ℕ) : IntOp.addi (IntOp.muli (IntOp.addi (IntOp.muli (BitVec.ofNat 32 a) 1024#32) (BitVec.ofNat 32 b)) 1024#32) (BitVec.ofNat 32 c)
      = BitVec.ofNat 32 ((a * 1024 + b) * 1024 + c) := by
    rw [BitVec.ofNat_add, BitVec.ofNat_mul, BitVec.ofNat_add, BitVec.ofNat_mul]; rfl
  rw [e, e] at h
  have h' := congrArg BitVec.toNat h
  rw [BitVec.toNat_ofNat, BitVec.toNat_ofNat, Nat.mod_eq_of_lt (by omega), Nat.mod_eq_of_lt (by omega)] at h'
  omega

/-- The three codes of every row are below 1024. -/
def Small (A : Args Ideal) : Prop :=
  ∀ R : Fin 4096, ∃ k0 k1 k2 : Fin 1024, A.k0 (ix1 R) = BitVec.ofNat 32 k0.val ∧ A.k1 (ix1 R) = BitVec.ofNat 32 k1.val ∧ A.k2 (ix1 R) = BitVec.ofNat 32 k2.val

/-- Two rows have the same word exactly when they have the same three codes. -/
theorem code_triple {A : Args Ideal} (s : Small A) (R R' : Fin 4096) : code A R = code A R' ↔ triple A.k0 A.k1 A.k2 R = triple A.k0 A.k1 A.k2 R' := by
  obtain ⟨a, b, c, ha, hb, hc⟩ := s R
  obtain ⟨a', b', c', ha', hb', hc'⟩ := s R'
  unfold code triple
  rw [ha, hb, hc, ha', hb', hc']
  constructor
  · intro h
    obtain ⟨e0, e1, e2⟩ := pack_inj a.isLt b.isLt c.isLt a'.isLt b'.isLt c'.isLt h
    rw [e0, e1, e2]
  · intro h
    simp only [Prod.mk.injEq] at h
    rw [h.1, h.2.1, h.2.2]

/-- One for a row with an earlier twin. -/
def twin (A : Args Ideal) (R : Fin 4096) : EReal := if ∃ j : Fin 4096, code A R = code A j ∧ j < R then 1 else 0

/-- The number of rows as a float word. -/
theorem ofBits_4096 : Ideal.ofBits .f32 1166016512#32 = ((4096 : ℝ) : EReal) := by
  simp [Ideal.ofBits, Ideal.ieee, -EReal.coe_mul]; norm_num

/-- The rows without an earlier twin, over all the rows, are the reference's share of distinct codes. -/
theorem uniq_total {A : Args Ideal} (s : Small A) :
    Ideal.div (Ideal.ofBits .f32 1166016512#32 - ∑ R : Fin 4096, twin A R) (Ideal.ofBits .f32 1166016512#32) = A.uniq ix0 := by
  unfold Args.uniq
  rw [uniq_apply]
  have hsum : ∑ R : Fin 4096, twin A R = (((Finset.univ.filter fun x : Fin 4096 => ∃ y, triple A.k0 A.k1 A.k2 x = triple A.k0 A.k1 A.k2 y ∧ y < x).card : ℝ) : EReal) := by
    unfold twin
    rw [Finset.sum_ite, Finset.sum_const_zero, add_zero, Finset.sum_const, nsmul_one]
    have : (Finset.univ.filter fun R : Fin 4096 => ∃ j : Fin 4096, code A R = code A j ∧ j < R)
        = Finset.univ.filter fun x : Fin 4096 => ∃ y, triple A.k0 A.k1 A.k2 x = triple A.k0 A.k1 A.k2 y ∧ y < x := by
      ext R; simp only [Finset.mem_filter, Finset.mem_univ, true_and, code_triple s]
    rw [this]; rfl
  have := card_twins (triple A.k0 A.k1 A.k2)
  have h' : (((Finset.univ.filter fun x : Fin 4096 => ∃ y, triple A.k0 A.k1 A.k2 x = triple A.k0 A.k1 A.k2 y ∧ y < x).card : ℝ)
    + ((Finset.univ.filter fun x : Fin 4096 => ∀ y, triple A.k0 A.k1 A.k2 x = triple A.k0 A.k1 A.k2 y → y ≤ x).card : ℝ)) = 4096 := by exact_mod_cast this
  rw [hsum, ofBits_4096, ← EReal.coe_sub, ← h', add_sub_cancel_left]

/-- A sum over all rows, block by block. -/
theorem sum_rows (f : Fin 4096 → EReal) : ∑ R, f R = ∑ t : Fin 4, ∑ r : Fin 1024, f (rowOf t r) := by
  rw [← Fintype.sum_prod_type', ← (finProdFinEquiv (m := 4) (n := 1024)).sum_comp]
  refine Finset.sum_congr rfl fun p _ => ?_
  congr 1
  exact Fin.ext (by simp [finProdFinEquiv, rowOf]; omega)

end Cert.Val

end
-- ==== Proof.VMatch.lean ====
/- What the kernel's grid steps read is the reference's arguments, block by block. -/
module

public import proofs.«01_k».proof.Proof.KILaunch
public import proofs.«01_k».proof.Proof.VBase
public import Idealize.ShloMosaic.Lib.Pipeline.ValueKit

@[expose] public section

set_option maxRecDepth 16384

noncomputable section

namespace Cert.Val

open Idealize.ShloMosaic Idealize.ShloMosaic.TcCoe
open Cert.KernelIdeal Cert.KernelIdeal.Gen Cert.KernelIdeal.Hand
open Cert.ReferenceIdeal.Hand (Args)

variable (m : (ℓ : Loc nD τ sig) → Buf (Elt Ideal) ℓ)

/-- The kernel's arguments in its memory. -/
def argsK (c : Dev nD) : Args Ideal :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19)⟩

/-- The windows' block indices. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![t.val, 0]
    ∧ win0_21.index t = ![0, 0] ∧ win0_22.index t = ![0, 0] ∧ win0_23.index t = ![0, 0] :=
  (by decide +kernel : ∀ t : Fin grid0.N, _)

/-- The steps read block `t` of the rows. -/
theorem blk0 (c : Dev nD) (t : Fin cfg0.N) (h4 : t.val < 4) (r : Fin 1024) (j : Fin 768) :
    (blkAt m c t).x0 (ix2 r j) = (argsK m c).a0 (ix2 (rowOf ⟨t.val, h4⟩ r) j) := by
  show iblk m c 0 t (ix2 r j) = m ((c : Thread nD τ).loc main_arg0) (ix2 (rowOf ⟨t.val, h4⟩ r) j)
  unfold rowOf
  blk_ext! [iblk, V, idx t]

/-- Every step reads argument 1 whole. -/
theorem blk1 (c : Dev nD) (t : Fin cfg0.N) : (blkAt m c t).x1 = (argsK m c).a1 := by
  show iblk m c 1 t = m ((c : Thread nD τ).loc main_arg1)
  blk_ext! [iblk, V, idx t]

/-- Every step reads argument 2, as a row. -/
theorem blk2 (c : Dev nD) (t : Fin cfg0.N) (j : Fin 512) : (blkAt m c t).x2 (ix2 0 j) = (argsK m c).a2 (ix1 j) := by
  show iblk m c 2 t (ix2 0 j) = m ((c : Thread nD τ).loc main_arg2) (ix1 j)
  have e : iblk m c 2 t (ix2 0 j) = V m c main_v0 (ix2 0 j) := by blk_ext [iblk, idx t]
  rw [e]
  unfold V V0
  simp only [hostOps0, List.flatten_cons, List.flatten_nil, List.append_nil, List.cons_append, StableHlo.after_cons, StableHlo.after_nil]
  after_results_simp
  pointwise

/-- Every step reads argument 3 whole. -/
theorem blk3 (c : Dev nD) (t : Fin cfg0.N) : (blkAt m c t).x3 = (argsK m c).a3 := by
  show iblk m c 3 t = m ((c : Thread nD τ).loc main_arg3)
  blk_ext! [iblk, V, idx t]

/-- Every step reads argument 4, as a row. -/
theorem blk4 (c : Dev nD) (t : Fin cfg0.N) (j : Fin 256) : (blkAt m c t).x4 (ix2 0 j) = (argsK m c).a4 (ix1 j) := by
  show iblk m c 4 t (ix2 0 j) = m ((c : Thread nD τ).loc main_arg4) (ix1 j)
  have e : iblk m c 4 t (ix2 0 j) = V m c main_v1 (ix2 0 j) := by blk_ext [iblk, idx t]
  rw [e]
  unfold V V0
  simp only [hostOps0, List.flatten_cons, List.flatten_nil, List.append_nil, List.cons_append, StableHlo.after_cons, StableHlo.after_nil]
  after_results_simp
  pointwise

/-- Every step reads argument 5 whole. -/
theorem blk5 (c : Dev nD) (t : Fin cfg0.N) : (blkAt m c t).x5 = (argsK m c).a5 := by
  show iblk m c 5 t = m ((c : Thread nD τ).loc main_arg5)
  blk_ext! [iblk, V, idx t]

/-- Every step reads argument 6, as a row. -/
theorem blk6 (c : Dev nD) (t : Fin cfg0.N) (j : Fin 128) : (blkAt m c t).x6 (ix2 0 j) = (argsK m c).a6 (ix1 j) := by
  show iblk m c 6 t (ix2 0 j) = m ((c : Thread nD τ).loc main_arg6) (ix1 j)
  have e : iblk m c 6 t (ix2 0 j) = V m c main_v2 (ix2 0 j) := by blk_ext [iblk, idx t]
  rw [e]
  unfold V V0
  simp only [hostOps0, List.flatten_cons, List.flatten_nil, List.append_nil, List.cons_append, StableHlo.after_cons, StableHlo.after_nil]
  after_results_simp
  pointwise

/-- Every step reads argument 7 whole. -/
theorem blk7 (c : Dev nD) (t : Fin cfg0.N) : (blkAt m c t).x7 = (argsK m c).a7 := by
  show iblk m c 7 t = m ((c : Thread nD τ).loc main_arg7)
  blk_ext! [iblk, V, idx t]

/-- Every step reads argument 8, as a row. -/
theorem blk8 (c : Dev nD) (t : Fin cfg0.N) (j : Fin 64) : (blkAt m c t).x8 (ix2 0 j) = (argsK m c).a8 (ix1 j) := by
  show iblk m c 8 t (ix2 0 j) = m ((c : Thread nD τ).loc main_arg8) (ix1 j)
  have e : iblk m c 8 t (ix2 0 j) = V m c main_v3 (ix2 0 j) := by blk_ext [iblk, idx t]
  rw [e]
  unfold V V0
  simp only [hostOps0, List.flatten_cons, List.flatten_nil, List.append_nil, List.cons_append, StableHlo.after_cons, StableHlo.after_nil]
  after_results_simp
  pointwise

/-- Every step reads argument 9 whole. -/
theorem blk9 (c : Dev nD) (t : Fin cfg0.N) : (blkAt m c t).x9 = (argsK m c).a9 := by
  show iblk m c 9 t = m ((c : Thread nD τ).loc main_arg9)
  blk_ext! [iblk, V, idx t]

/-- Every step reads argument 10, as a row. -/
theorem blk10 (c : Dev nD) (t : Fin cfg0.N) (j : Fin 128) : (blkAt m c t).x10 (ix2 0 j) = (argsK m c).a10 (ix1 j) := by
  show iblk m c 10 t (ix2 0 j) = m ((c : Thread nD τ).loc main_arg10) (ix1 j)
  have e : iblk m c 10 t (ix2 0 j) = V m c main_v4 (ix2 0 j) := by blk_ext [iblk, idx t]
  rw [e]
  unfold V V0
  simp only [hostOps0, List.flatten_cons, List.flatten_nil, List.append_nil, List.cons_append, StableHlo.after_cons, StableHlo.after_nil]
  after_results_simp
  pointwise

/-- Every step reads argument 11 whole. -/
theorem blk11 (c : Dev nD) (t : Fin cfg0.N) : (blkAt m c t).x11 = (argsK m c).a11 := by
  show iblk m c 11 t = m ((c : Thread nD τ).loc main_arg11)
  blk_ext! [iblk, V, idx t]

/-- Every step reads argument 12, as a row. -/
theorem blk12 (c : Dev nD) (t : Fin cfg0.N) (j : Fin 256) : (blkAt m c t).x12 (ix2 0 j) = (argsK m c).a12 (ix1 j) := by
  show iblk m c 12 t (ix2 0 j) = m ((c : Thread nD τ).loc main_arg12) (ix1 j)
  have e : iblk m c 12 t (ix2 0 j) = V m c main_v5 (ix2 0 j) := by blk_ext [iblk, idx t]
  rw [e]
  unfold V V0
  simp only [hostOps0, List.flatten_cons, List.flatten_nil, List.append_nil, List.cons_append, StableHlo.after_cons, StableHlo.after_nil]
  after_results_simp
  pointwise

/-- Every step reads argument 13 whole. -/
theorem blk13 (c : Dev nD) (t : Fin cfg0.N) : (blkAt m c t).x13 = (argsK m c).a13 := by
  show iblk m c 13 t = m ((c : Thread nD τ).loc main_arg13)
  blk_ext! [iblk, V, idx t]

/-- Every step reads argument 14, as a row. -/
theorem blk14 (c : Dev nD) (t : Fin cfg0.N) (j : Fin 512) : (blkAt m c t).x14 (ix2 0 j) = (argsK m c).a14 (ix1 j) := by
  show iblk m c 14 t (ix2 0 j) = m ((c : Thread nD τ).loc main_arg14) (ix1 j)
  have e : iblk m c 14 t (ix2 0 j) = V m c main_v6 (ix2 0 j) := by blk_ext [iblk, idx t]
  rw [e]
  unfold V V0
  simp only [hostOps0, List.flatten_cons, List.flatten_nil, List.append_nil, List.cons_append, StableHlo.after_cons, StableHlo.after_nil]
  after_results_simp
  pointwise

/-- Every step reads argument 15 whole. -/
theorem blk15 (c : Dev nD) (t : Fin cfg0.N) : (blkAt m c t).x15 = (argsK m c).a15 := by
  show iblk m c 15 t = m ((c : Thread nD τ).loc main_arg15)
  blk_ext! [iblk, V, idx t]

/-- Every step reads argument 16, as a row. -/
theorem blk16 (c : Dev nD) (t : Fin cfg0.N) (j : Fin 768) : (blkAt m c t).x16 (ix2 0 j) = (argsK m c).a16 (ix1 j) := by
  show iblk m c 16 t (ix2 0 j) = m ((c : Thread nD τ).loc main_arg16) (ix1 j)
  have e : iblk m c 16 t (ix2 0 j) = V m c main_v7 (ix2 0 j) := by blk_ext [iblk, idx t]
  rw [e]
  unfold V V0
  simp only [hostOps0, List.flatten_cons, List.flatten_nil, List.append_nil, List.cons_append, StableHlo.after_cons, StableHlo.after_nil]
  after_results_simp
  pointwise

/-- Every step reads argument 17 whole. -/
theorem blk17 (c : Dev nD) (t : Fin cfg0.N) : (blkAt m c t).x17 = (argsK m c).a17 := by
  show iblk m c 17 t = m ((c : Thread nD τ).loc main_arg17)
  blk_ext! [iblk, V, idx t]

/-- Every step reads argument 18 whole. -/
theorem blk18 (c : Dev nD) (t : Fin cfg0.N) : (blkAt m c t).x18 = (argsK m c).a18 := by
  show iblk m c 18 t = m ((c : Thread nD τ).loc main_arg18)
  blk_ext! [iblk, V, idx t]

/-- Every step reads argument 19 whole. -/
theorem blk19 (c : Dev nD) (t : Fin cfg0.N) : (blkAt m c t).x19 = (argsK m c).a19 := by
  show iblk m c 19 t = m ((c : Thread nD τ).loc main_arg19)
  blk_ext! [iblk, V, idx t]

/-- A grid step reads its block of rows, and the layers and codebooks whole. -/
theorem match_blk (c : Dev nD) (t : Fin cfg0.N) (h4 : t.val < 4) : Match (argsK m c) ⟨t.val, h4⟩ (blkAt m c t) :=
  ⟨blk0 m c t h4, blk1 m c t, blk2 m c t, blk3 m c t, blk4 m c t, blk5 m c t, blk6 m c t, blk7 m c t, blk8 m c t, blk9 m c t, blk10 m c t, blk11 m c t, blk12 m c t, blk13 m c t, blk14 m c t, blk15 m c t, blk16 m c t, blk17 m c t, blk18 m c t, blk19 m c t⟩

end Cert.Val

end
-- ==== Proof.VTot.lean ====
/- What the kernel's four grid steps leave: the running totals are sums over the reference's rows. -/
module

public import proofs.«01_k».proof.Proof.VCount
public import proofs.«01_k».proof.Proof.VMatch

@[expose] public section

set_option maxRecDepth 16384

noncomputable section

namespace Cert.Val

open Idealize.ShloMosaic Idealize.ShloMosaic.TcCoe
open Cert.KernelIdeal Cert.KernelIdeal.Gen Cert.KernelIdeal.Hand
open Cert.ReferenceIdeal.Hand (Args)

/-- Every row of the whole array is a row of one of the four blocks. -/
theorem row_cases (R : Fin 4096) : ∃ (t : Fin 4) (r : Fin 1024), R = rowOf t r :=
  ⟨⟨R.val / 1024, by omega⟩, ⟨R.val % 1024, by omega⟩, Fin.ext (by show R.val = R.val / 1024 * 1024 + R.val % 1024; omega)⟩

/-- The codes written at step `n` stand in the row at that step's stretch. -/
theorem row_new (n : ℕ) (i : grid0.Coords) (hi : (i 0).val = n) (hn : n < 4) (X : Blk Ideal) (g : IVec S1x4096 32) (r : Fin 1024) :
    bRow (F := Ideal) i X g (ix2 0 (rowOf ⟨n, hn⟩ r)) = bKeyRow X (ix2 0 r) := by
  have e : (ix2 0 (rowOf ⟨n, hn⟩ r) : S1x4096.Idx) = (Rect.unit (s := S1x4096) (k0_off1 i) S1x1024.size (k0_off1_inb i)).emb (ix2 0 r) := by
    funext a
    refine Fin.ext ?_
    fin_cases a
    · show 0 = (k0_off1 i) 0 + 0 * 1
      rw [off1_eq]; rfl
    · show n * 1024 + r.val = (k0_off1 i) 1 + 1 * r.val
      rw [off1_eq, one_mul, ← hi]; rfl
  rw [e]
  exact Rect.overlay_emb _ _ _ _

/-- Before that stretch the row is as it was. -/
theorem row_old (n : ℕ) (i : grid0.Coords) (hi : (i 0).val = n) (X : Blk Ideal) (g : IVec S1x4096 32) (j : Fin 4096) (hj : j.val < n * 1024) :
    bRow (F := Ideal) i X g (ix2 0 j) = g (ix2 0 j) := by
  refine Rect.overlay_of_not_mem _ _ _ fun hm => ?_
  have h := (Rect.mem_set_unit.mp hm) 1
  rw [off1_eq] at h
  have h1 : (i 0).val * 1024 ≤ j.val := h.1
  omega

variable {A : Args Ideal}

/-- After the step on block `t` the row holds the codes of all rows up to that block's end. -/
theorem row_step (f : Reals A) (n : ℕ) (hn : n < 4) (i : grid0.Coords) (hi : (i 0).val = n) (X : Blk Ideal) (h : Match A ⟨n, hn⟩ X)
    (g : IVec S1x4096 32) (hg : ∀ j : Fin 4096, j.val < n * 1024 → g (ix2 0 j) = code A j)
    (j : Fin 4096) (hj : j.val < (n + 1) * 1024) : bRow (F := Ideal) i X g (ix2 0 j) = code A j := by
  by_cases hlt : j.val < n * 1024
  · rw [row_old n i hi X g j hlt, hg j hlt]
  · have e : j = rowOf ⟨n, hn⟩ ⟨j.val - n * 1024, by omega⟩ := Fin.ext (by show j.val = n * 1024 + (j.val - n * 1024); omega)
    rw [e, row_new n i hi hn, keyRow_apply, key_row h f]

/-- The step on block `t` adds, to the count of repeats, those rows of the block with an earlier twin. -/
theorem dup_step (f : Reals A) (n : ℕ) (hn : n < 4) (i : grid0.Coords) (hi : (i 0).val = n) (X : Blk Ideal) (h : Match A ⟨n, hn⟩ X)
    (g : IVec S1x4096 32) (hg : ∀ j : Fin 4096, j.val < n * 1024 → g (ix2 0 j) = code A j) (a : FVec Ideal S1x1 .f32) :
    bDup (F := Ideal) i X g a (ix2 0 0) = a (ix2 0 0) + ∑ r : Fin 1024, twin A (rowOf ⟨n, hn⟩ r) := by
  unfold bDup
  rw [hi, dup_apply n hn]
  refine congrArg (_ + ·) ?_
  refine Finset.sum_congr rfl fun r _ => ?_
  unfold twin
  refine if_congr (exists_congr fun j => ?_) rfl rfl
  have hk : k0_pay46 (bK1 X) (bId2 X) (ix2 r 0) = code A (rowOf ⟨n, hn⟩ r) := key_row h f r
  rw [hk]
  refine ⟨fun e => ?_, fun e => ?_⟩
  · have hj : j.val < (n + 1) * 1024 := by have := e.2; have := r.isLt; omega
    rw [row_step f n hn i hi X h g hg j hj] at e
    exact ⟨e.1, e.2⟩
  · have e2 : j.val < n * 1024 + r.val := e.2
    have hj : j.val < (n + 1) * 1024 := by have := r.isLt; omega
    rw [row_step f n hn i hi X h g hg j hj]
    exact ⟨e.1, e2⟩

/-- All three codes of every row are below 1024. -/
theorem small {m : (ℓ : Loc nD τ sig) → Buf (Elt Ideal) ℓ} {c : Dev nD} (f : Reals (argsK m c)) : Small (argsK m c) := fun R => by
  obtain ⟨t, r, rfl⟩ := row_cases R
  have ht : t.val < cfg0.N := by rw [show cfg0.N = 4 from N_0]; exact t.isLt
  obtain ⟨k0, k1, k2, w⟩ := rows (match_blk m c ⟨t.val, ht⟩ t.isLt) f r
  exact ⟨k0, k1, k2, w.s0.hr, w.s1.hr, w.s2.hr⟩

variable (m : (ℓ : Loc nD τ sig) → Buf (Elt Ideal) ℓ) (c : Dev nD)

/-- The row of codes after the first step. -/
theorem rowAt_zero (h : 0 < cfg0.N) : rowAt m c 0 h = bRow (grid0.coords ⟨0, h⟩) (blkAt m c ⟨0, h⟩) (fun _ => (0#32 : BitVec 32)) := rfl
/-- The row of codes after a later step. -/
theorem rowAt_succ (n : ℕ) (h : n + 1 < cfg0.N) :
    rowAt m c (n + 1) h = bRow (grid0.coords ⟨n + 1, h⟩) (blkAt m c ⟨n + 1, h⟩) (rowAt m c n (Nat.lt_of_succ_lt h)) := rfl
/-- The count of repeats after the first step. -/
theorem dupAt_zero (h : 0 < cfg0.N) : dupAt m c 0 h = bDup (grid0.coords ⟨0, h⟩) (blkAt m c ⟨0, h⟩) (fun _ => (0#32 : BitVec 32)) (k0_pay23 (F := Ideal)) := rfl
/-- The count of repeats after a later step. -/
theorem dupAt_succ (n : ℕ) (h : n + 1 < cfg0.N) :
    dupAt m c (n + 1) h = bDup (grid0.coords ⟨n + 1, h⟩) (blkAt m c ⟨n + 1, h⟩) (rowAt m c n (Nat.lt_of_succ_lt h)) (dupAt m c n (Nat.lt_of_succ_lt h)) := rfl

/-- After step `n` the row holds the codes of all rows up to that step's end. -/
theorem row_total (f : Reals (argsK m c)) (n : ℕ) : ∀ (h : n < cfg0.N) (_ : n < 4) (j : Fin 4096), j.val < (n + 1) * 1024 →
    rowAt m c n h (ix2 0 j) = code (argsK m c) j := by
  induction n with
  | zero =>
    intro h h4 j hj
    rw [rowAt_zero]
    exact row_step f 0 h4 _ (coord_val ⟨0, h⟩) _ (match_blk m c ⟨0, h⟩ h4) _ (fun _ hj' => absurd hj' (by omega)) j hj
  | succ n ih =>
    intro h h4 j hj
    rw [rowAt_succ]
    exact row_step f (n + 1) h4 _ (coord_val ⟨n + 1, h⟩) _ (match_blk m c ⟨n + 1, h⟩ h4) _ (ih (Nat.lt_of_succ_lt h) (by omega)) j hj

/-- The reconstruction total starts at zero. -/
theorem pay21_zero : k0_pay21 (F := Ideal) (ix2 0 0) = 0 := by pointwise [k0_pay21]
/-- The quantiser total starts at zero. -/
theorem pay22_zero : k0_pay22 (F := Ideal) (ix2 0 0) = 0 := by pointwise [k0_pay22]
/-- The count of repeats starts at zero. -/
theorem pay23_zero : k0_pay23 (F := Ideal) (ix2 0 0) = 0 := by pointwise [k0_pay23]

/-- The sum over the rows of one block. -/
def part (g : Fin 4096 → EReal) (n : ℕ) (hn : n < 4) : EReal := ∑ r : Fin 1024, g (rowOf ⟨n, hn⟩ r)

/-- Four blocks of rows are all rows. -/
theorem parts (g : Fin 4096 → EReal) : 0 + part g 0 (by omega) + part g 1 (by omega) + part g 2 (by omega) + part g 3 (by omega) = ∑ R, g R := by
  rw [sum_rows, Fin.sum_univ_four, zero_add]; rfl

/-- The last step's reconstruction total is the sum of the reference's row errors. -/
theorem recon_total (f : Reals (argsK m c)) (h : 3 < cfg0.N) :
    reconAt m c 3 h (ix2 0 0) = ∑ R : Fin 4096, (argsK m c).err (ix1 R) := by
  rw [← parts]
  refine (recon_acc (match_blk m c ⟨3, h⟩ (by show 3 < 4; omega)) f _).trans ?_
  refine congrArg (· + _) ?_
  refine (recon_acc (match_blk m c ⟨2, by omega⟩ (by show 2 < 4; omega)) f _).trans ?_
  refine congrArg (· + _) ?_
  refine (recon_acc (match_blk m c ⟨1, by omega⟩ (by show 1 < 4; omega)) f _).trans ?_
  refine congrArg (· + _) ?_
  refine (recon_acc (match_blk m c ⟨0, by omega⟩ (by show 0 < 4; omega)) f _).trans ?_
  exact congrArg (· + _) pay21_zero

/-- The last step's quantiser total is the sum of the reference's row losses. -/
theorem loss_total (f : Reals (argsK m c)) (h : 3 < cfg0.N) :
    lossAt m c 3 h (ix2 0 0) = ∑ R : Fin 4096, (argsK m c).q (ix1 R) := by
  rw [← parts]
  refine (loss_block (match_blk m c ⟨3, h⟩ (by show 3 < 4; omega)) f _).trans ?_
  refine congrArg (· + _) ?_
  refine (loss_block (match_blk m c ⟨2, by omega⟩ (by show 2 < 4; omega)) f _).trans ?_
  refine congrArg (· + _) ?_
  refine (loss_block (match_blk m c ⟨1, by omega⟩ (by show 1 < 4; omega)) f _).trans ?_
  refine congrArg (· + _) ?_
  refine (loss_block (match_blk m c ⟨0, by omega⟩ (by show 0 < 4; omega)) f _).trans ?_
  exact congrArg (· + _) pay22_zero

/-- A later step adds its block's rows with an earlier twin. -/
theorem dup_one (f : Reals (argsK m c)) (n : ℕ) (h : n + 1 < cfg0.N) (h4 : n + 1 < 4) :
    dupAt m c (n + 1) h (ix2 0 0) = dupAt m c n (Nat.lt_of_succ_lt h) (ix2 0 0) + part (twin (argsK m c)) (n + 1) h4 := by
  rw [dupAt_succ]
  exact dup_step f (n + 1) h4 _ (coord_val ⟨n + 1, h⟩) _ (match_blk m c ⟨n + 1, h⟩ h4) _ (row_total m c f n (Nat.lt_of_succ_lt h) (by omega)) _

/-- The last step's count of repeats is the number of the rows with an earlier twin. -/
theorem dup_total (f : Reals (argsK m c)) (h : 3 < cfg0.N) :
    dupAt m c 3 h (ix2 0 0) = ∑ R : Fin 4096, twin (argsK m c) R := by
  rw [← parts]
  refine (dup_one m c f 2 h (by omega)).trans ?_
  refine congrArg (· + _) ?_
  refine (dup_one m c f 1 (by omega) (by omega)).trans ?_
  refine congrArg (· + _) ?_
  refine (dup_one m c f 0 (by omega) (by omega)).trans ?_
  refine congrArg (· + _) ?_
  rw [dupAt_zero]
  refine (dup_step f 0 (by omega) _ (coord_val ⟨0, by omega⟩) _ (match_blk m c ⟨0, by omega⟩ (by show 0 < 4; omega)) _
    (fun _ hj' => absurd hj' (by omega)) _).trans ?_
  exact congrArg (· + _) pay23_zero

/-! ### The means -/

/-- The reference's mean over the rows is the sum divided by their number. -/
theorem mean_apply (e : FVec Ideal Cert.ReferenceIdeal.S4096 .f32) :
    Cert.ReferenceIdeal.Hand.rMean e ix0 = Ideal.div (∑ R : Fin 4096, e (ix1 R)) (Ideal.ofBits .f32 1166016512#32) := by
  pointwise [Cert.ReferenceIdeal.Hand.rMean]

/-- Division by the number of rows distributes over a sum with a real second term. -/
theorem div_add {x y : EReal} (hy : Re y) : Ideal.div x (Ideal.ofBits .f32 1166016512#32) + Ideal.div y (Ideal.ofBits .f32 1166016512#32)
    = Ideal.div (x + y) (Ideal.ofBits .f32 1166016512#32) := by
  obtain ⟨b, rfl⟩ := hy
  rw [ofBits_4096]
  have h0 : ((4096 : ℝ) : EReal) ≠ 0 := by exact_mod_cast (by norm_num : (4096 : ℝ) ≠ 0)
  unfold Ideal.div
  rw [if_neg h0, if_neg h0, if_neg h0, ← EReal.coe_inv]
  induction x using EReal.rec with
  | bot => rw [EReal.bot_add, EReal.bot_mul_coe_of_pos (by norm_num), EReal.bot_add]
  | coe a => norm_cast; ring
  | top => rw [EReal.top_add_coe, EReal.top_mul_coe_of_pos (by norm_num), ← EReal.coe_mul, EReal.top_add_coe]

/-- The mean of the sum of both losses is the sum of their means. -/
theorem loss_mean {A : Args Ideal} (hq : ∀ R : Fin 4096, Re (A.q (ix1 R))) :
    Ideal.div (∑ R : Fin 4096, A.err (ix1 R)) (Ideal.ofBits .f32 1166016512#32) + Ideal.div (∑ R : Fin 4096, A.q (ix1 R)) (Ideal.ofBits .f32 1166016512#32)
      = A.loss ix0 := by
  unfold Args.loss
  rw [mean_apply, div_add (Re.sum hq), ← Finset.sum_add_distrib]
  rfl

/-- Every row's quantiser loss is a real number. -/
theorem q_real (f : Reals (argsK m c)) (R : Fin 4096) : Re ((argsK m c).q (ix1 R)) := by
  obtain ⟨t, r, rfl⟩ := row_cases R
  have ht : t.val < cfg0.N := by rw [show cfg0.N = 4 from N_0]; exact t.isLt
  exact (loss_row (match_blk m c ⟨t.val, ht⟩ t.isLt) f r).2

end Cert.Val
-- ==== Proof.VRun.lean ====
/- The kernel's five results, in the reference's terms. -/
module

public import proofs.«01_k».proof.Proof.VTot

@[expose] public section

set_option maxRecDepth 16384

noncomputable section

namespace Cert.Val

open Idealize.ShloMosaic Idealize.ShloMosaic.TcCoe Idealize.SL.Sem
open Cert.KernelIdeal Cert.KernelIdeal.Gen Cert.KernelIdeal.Hand
open Cert.ReferenceIdeal.Hand (Args)

variable (m : (ℓ : Loc nD τ sig) → Buf (Elt Ideal) ℓ) (c : Dev nD)

/-- The grid has a point 3. -/
theorem three : 3 < cfg0.N := by rw [show cfg0.N = 4 from N_0]; omega

/-- The grid's last point. -/
def last : Fin cfg0.N := ⟨3, three⟩

/-- The array of norms after the run. -/
theorem arr20 (f : Reals (argsK m c)) : (dats m 0 c).arrAt 20 cfg0.N = (argsK m c).norms := by
  refine (dats m 0 c).arrAt_eq_of_covers 20 _ (by decide +kernel) fun t hf y => ?_
  blk_simp
  rw [after0_20]
  have h4 : t.val < 4 := t.isLt.trans_eq N_0
  have e : (y : S1024x3.Idx) = ix2 (y 0) (y 1) := by funext a; fin_cases a <;> rfl
  have e' : (win0_20.blk t).view.emb y = ix2 (rowOf ⟨t.val, h4⟩ (y 0)) (y 1) := by
    funext a
    refine Fin.ext ?_
    blk_simp [idx t]
    fin_cases a
    · rfl
    · show 0 * 3 + (y 1).val = (y 1).val
      omega
  rw [e']
  exact (congrArg (bNorms (blkAt m c t)) e).trans (norms_row (match_blk m c t h4) f (y 0) (y 1))

/-- The reconstruction total after the run is the last step's. -/
theorem arr21 : (dats m 0 c).arrAt 21 cfg0.N = reconAt m c 3 three := by
  refine (dats m 0 c).arrAt_eq_of_after_last 21 last (by decide +kernel) _ fun j => ?_
  blk_simp
  rw [after0_21]
  rfl

/-- The quantiser total after the run is the last step's. -/
theorem arr22 : (dats m 0 c).arrAt 22 cfg0.N = lossAt m c 3 three := by
  refine (dats m 0 c).arrAt_eq_of_after_last 22 last (by decide +kernel) _ fun j => ?_
  blk_simp
  rw [after0_22]
  rfl

/-- The count of repeats after the run is the last step's. -/
theorem arr23 : (dats m 0 c).arrAt 23 cfg0.N = dupAt m c 3 three := by
  refine (dats m 0 c).arrAt_eq_of_after_last 23 last (by decide +kernel) _ fun j => ?_
  blk_simp
  rw [after0_23]
  rfl

/-! ### The host's arithmetic after the grid -/

/-- The mean of a total over the rows. -/
def meanOf (x : FVec Ideal S1x1 .f32) : FVec Ideal S_ .f32 := Host.divf (F := Ideal) (shapeCast S_ x shapeCasts_S1x1_S_) (constant S_ .f32 0x45800000#32)

/-- The share of the rows that a count leaves. -/
def shareOf (x : FVec Ideal S1x1 .f32) : FVec Ideal S_ .f32 :=
  Host.divf (F := Ideal) (subf (constant S_ .f32 0x45800000#32) (shapeCast S_ x shapeCasts_S1x1_S_)) (constant S_ .f32 0x45800000#32)

/-- The host leaves the mean of the reconstruction total. -/
theorem tail_v10 (W : Valuation τ sig (Elt Ideal)) : StableHlo.after (List.flatten [hostOps1 (F := Ideal)]) W (Proc.devRef .tc main_v10) = meanOf (W (Proc.devRef .tc main_v8_1)) := by
  simp only [hostOps1, List.flatten_cons, List.flatten_nil, List.append_nil, List.cons_append, StableHlo.after_cons, StableHlo.after_nil]
  after_results_simp
  rfl

/-- The host leaves the mean of the quantiser total. -/
theorem tail_v12 (W : Valuation τ sig (Elt Ideal)) : StableHlo.after (List.flatten [hostOps1 (F := Ideal)]) W (Proc.devRef .tc main_v12) = meanOf (W (Proc.devRef .tc main_v8_2)) := by
  simp only [hostOps1, List.flatten_cons, List.flatten_nil, List.append_nil, List.cons_append, StableHlo.after_cons, StableHlo.after_nil]
  after_results_simp
  rfl

/-- The host leaves the sum of both means. -/
theorem tail_v13 (W : Valuation τ sig (Elt Ideal)) : StableHlo.after (List.flatten [hostOps1 (F := Ideal)]) W (Proc.devRef .tc main_v13) = addf (F := Ideal) (meanOf (W (Proc.devRef .tc main_v8_1))) (meanOf (W (Proc.devRef .tc main_v8_2))) := by
  simp only [hostOps1, List.flatten_cons, List.flatten_nil, List.append_nil, List.cons_append, StableHlo.after_cons, StableHlo.after_nil]
  after_results_simp
  rfl

/-- The host leaves the share of the rows that are not repeats. -/
theorem tail_v16 (W : Valuation τ sig (Elt Ideal)) : StableHlo.after (List.flatten [hostOps1 (F := Ideal)]) W (Proc.devRef .tc main_v16) = shareOf (W (Proc.devRef .tc main_v8_3)) := by
  simp only [hostOps1, List.flatten_cons, List.flatten_nil, List.append_nil, List.cons_append, StableHlo.after_cons, StableHlo.after_nil]
  after_results_simp
  rfl

/-- The mean is the total divided by the number of rows. -/
theorem meanOf_apply (x : FVec Ideal S1x1 .f32) : meanOf x ix0 = Ideal.div (x (ix2 0 0)) (Ideal.ofBits .f32 1166016512#32) := by
  pointwise [meanOf]

/-- The share is what the count leaves of the rows, divided by their number. -/
theorem shareOf_apply (x : FVec Ideal S1x1 .f32) :
    shareOf x ix0 = Ideal.div (Ideal.ofBits .f32 1166016512#32 - x (ix2 0 0)) (Ideal.ofBits .f32 1166016512#32) := by
  pointwise [shareOf]

/-- Two arrays without axes are equal when their one element is. -/
theorem ext0 {x y : FVec Ideal S_ .f32} (h : x ix0 = y ix0) : x = y := by
  funext i
  have e : i = ix0 := funext fun a => a.elim0
  rw [e, h]

/-- What the grid leaves in each array, all else as the grid found it. -/
def left : Valuation τ sig (Elt Ideal) := Pipeline.withArrays (cfgs 0).spec c (V0 m c) fun w => (dats m 0 c).arrAt w (cfgs 0).N

/-- No two windows share an array. -/
theorem arr_inj : Function.Injective (Pipeline.arrRef spec0) := by decide +kernel

/-- The grid leaves the last step's reconstruction total. -/
theorem left_v8_1 : left m c (Proc.devRef .tc main_v8_1) = reconAt m c 3 three :=
  (Pipeline.withArrays_arr spec0 arr_inj c (V0 m c) (fun w => (dats m 0 c).arrAt w (cfgs 0).N) 21).trans (arr21 m c)
/-- The grid leaves the last step's quantiser total. -/
theorem left_v8_2 : left m c (Proc.devRef .tc main_v8_2) = lossAt m c 3 three :=
  (Pipeline.withArrays_arr spec0 arr_inj c (V0 m c) (fun w => (dats m 0 c).arrAt w (cfgs 0).N) 22).trans (arr22 m c)
/-- The grid leaves the last step's count of repeats. -/
theorem left_v8_3 : left m c (Proc.devRef .tc main_v8_3) = dupAt m c 3 three :=
  (Pipeline.withArrays_arr spec0 arr_inj c (V0 m c) (fun w => (dats m 0 c).arrAt w (cfgs 0).N) 23).trans (arr23 m c)

/-- The mean reconstruction error is the reference's. -/
theorem recon_val (f : Reals (argsK m c)) : meanOf (reconAt m c 3 three) = (argsK m c).recon := by
  refine ext0 ?_
  unfold Args.recon
  rw [meanOf_apply, recon_total m c f, mean_apply]

/-- The mean quantiser loss is the reference's. -/
theorem qloss_val (f : Reals (argsK m c)) : meanOf (lossAt m c 3 three) = (argsK m c).qloss := by
  refine ext0 ?_
  unfold Args.qloss
  rw [meanOf_apply, loss_total m c f, mean_apply]

/-- The loss is the reference's. -/
theorem loss_val (f : Reals (argsK m c)) : addf (F := Ideal) (meanOf (reconAt m c 3 three)) (meanOf (lossAt m c 3 three)) = (argsK m c).loss := by
  refine ext0 ?_
  rw [← loss_mean (q_real m c f), ← recon_total m c f three, ← loss_total m c f three, ← meanOf_apply, ← meanOf_apply]
  rfl

/-- The share of unique rows is the reference's. -/
theorem uniq_val (f : Reals (argsK m c)) : shareOf (dupAt m c 3 three) = (argsK m c).uniq := by
  refine ext0 ?_
  rw [shareOf_apply, dup_total m c f, uniq_total (small f)]

/-- The kernel's run leaves the reference's five results of its arguments. -/
theorem run_values (ρ : Dev nD → PrngReg) (f : ∀ c, Reals (argsK m c)) :
    θ_run (defs (F := Ideal)) (onTc (τ := τ) (main (F := Ideal))) ⟨m, fun _ => 0, ρ⟩ (fun r => ∀ c : Dev nD,
      r.2.mem ((c : Thread nD τ).loc main_v13) = (argsK m c).loss
      ∧ r.2.mem ((c : Thread nD τ).loc main_v10) = (argsK m c).recon
      ∧ r.2.mem ((c : Thread nD τ).loc main_v12) = (argsK m c).qloss
      ∧ r.2.mem ((c : Thread nD τ).loc main_v8_0) = (argsK m c).norms
      ∧ r.2.mem ((c : Thread nD τ).loc main_v16) = (argsK m c).uniq) :=
  (θ_run _ _ _).mono (fun r h c => by
    obtain ⟨h, _⟩ := h
    refine ⟨?_, ?_, ?_, ?_, ?_⟩
    · refine ((h c).2 main_v13 (Pipeline.mem_restRefs_of main_v13 (by decide) (by decide))).trans ((tail_v13 (left m c)).trans ?_)
      rw [left_v8_1, left_v8_2, loss_val m c (f c)]
    · refine ((h c).2 main_v10 (Pipeline.mem_restRefs_of main_v10 (by decide) (by decide))).trans ((tail_v10 (left m c)).trans ?_)
      rw [left_v8_1, recon_val m c (f c)]
    · refine ((h c).2 main_v12 (Pipeline.mem_restRefs_of main_v12 (by decide) (by decide))).trans ((tail_v12 (left m c)).trans ?_)
      rw [left_v8_2, qloss_val m c (f c)]
    · exact ((h c).1 20).trans (arr20 m c (f c))
    · refine ((h c).2 main_v16 (Pipeline.mem_restRefs_of main_v16 (by decide) (by decide))).trans ((tail_v16 (left m c)).trans ?_)
      rw [left_v8_3, uniq_val m c (f c)]) (run_main m ρ)

end Cert.Val

end
-- ==== Proof.Algebraic.lean ====
/- Over the extended reals the kernel and the reference leave the same five results. -/
module

public import proofs.«01_k».proof.Proof.Frames
public import proofs.«01_k».proof.Proof.VPre
public import proofs.«01_k».proof.Proof.VRun

@[expose] public section

set_option maxRecDepth 16384

noncomputable section

namespace Cert.Hand

open Idealize.ShloMosaic Idealize.SL.Sem
open Cert.Val

attribute [local instance] Cert.KernelIdeal.Gen.facts Cert.ReferenceIdeal.Gen.facts Cert.Pre_no_tie.Gen.facts

set_option maxHeartbeats 1000000 in
/-- Under the precondition and on equal arguments, the kernel's five results are the reference's. -/
theorem algebraic : Cert.algebraic_KernelIdeal_ReferenceIdeal := fun m g m' g' hp he => by
  have f : ∀ c, Reals (argsK m c) := fun c => Cert.Val.Pre.reals (argsK m c) (hp c)
  have hA : ∀ c : Dev Cert.KernelIdeal.nD, Cert.ReferenceIdeal.Hand.argsOf (StableHlo.launchContents m' c) = argsK m c := fun c => by
    obtain ⟨e0, e1, e2, e3, e4, e5, e6, e7, e8, e9, e10, e11, e12, e13, e14, e15, e16, e17, e18, e19⟩ := he c
    unfold argsK
    rw [← e0, ← e1, ← e2, ← e3, ← e4, ← e5, ← e6, ← e7, ← e8, ← e9, ← e10, ← e11, ← e12, ← e13, ← e14, ← e15, ← e16, ← e17, ← e18, ← e19]
  refine ⟨fun c => (argsK m c).loss, fun c => (argsK m c).recon, fun c => (argsK m c).qloss, fun c => (argsK m c).norms, fun c => (argsK m c).uniq, ?_, ?_⟩
  · refine (θ_run _ _ _).mono (fun r h c => ?_) (θ_run_and (run_values m g f) (frame_kernel_ideal m g hp))
    obtain ⟨h0, h1, h2, h3, h4⟩ := h.1 c
    exact ⟨h0, h1, h2, h3, h4, h.2.1 c⟩
  · refine (θ_run _ _ _).mono (fun r h c => ?_) (Cert.ReferenceIdeal.Hand.run m' g')
    obtain ⟨⟨h0, h1, h2, h3, h4⟩, ha, _⟩ := h c
    rw [hA c] at h0 h1 h2 h3 h4
    exact ⟨h0, h1, h2, h3, h4, ha⟩

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_no_tie
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claims: the three programs run to the end and keep their arguments, the idealized kernel is the kernel, and over
    the extended reals its five results are the reference's. -/
theorem claim : Cert.Claim := ⟨Cert.Kernel.Gen.facts, Cert.KernelIdeal.Gen.facts, Cert.ReferenceIdeal.Gen.facts, Cert.Pre_no_tie.Gen.facts,
  Cert.Hand.frame_kernel_bits, Cert.Hand.frame_kernel_bits_pre, Cert.Hand.frame_kernel_ideal, Cert.Hand.frame_reference_ideal,
  Cert.Hand.frame_reference_ideal_pre, trivial, Cert.Hand.algebraic⟩

end Cert.Proof

end
